-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_settles [hPre_settles : Cert.Pre_settles.Facts] (m : (ℓ : Loc Cert.KernelIdeal.nD Cert.KernelIdeal.τ Cert.KernelIdeal.sig) → Buf (Elt Ideal) ℓ) : Prop :=
  ∀ c : Dev Cert.KernelIdeal.nD,
    (Cert.Pre_settles.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_settles [hPre_settles : Cert.Pre_settles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_settles.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_settles [hKernelIdeal : Cert.KernelIdeal.Facts] [hPre_settles : Cert.Pre_settles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_settles m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_settles [hReferenceIdeal : Cert.ReferenceIdeal.Facts] [hPre_settles : Cert.Pre_settles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_settles m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "least" .f32 0xF149F2CA#32 ⊥

def algebraic_KernelIdeal_ReferenceIdeal_pre_settles [hKernelIdeal : Cert.KernelIdeal.Facts] [hReferenceIdeal : Cert.ReferenceIdeal.Facts] [hPre_settles : Cert.Pre_settles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_settles m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_settles : Cert.Pre_settles.Facts),
    quiescent_Kernel (hKernel := hKernel)
    ∧ quiescent_KernelIdeal (hKernelIdeal := hKernelIdeal)
    ∧ quiescent_KernelIdeal_pre_settles (hKernelIdeal := hKernelIdeal) (hPre_settles := hPre_settles)
    ∧ quiescent_ReferenceIdeal (hReferenceIdeal := hReferenceIdeal)
    ∧ quiescent_ReferenceIdeal_pre_settles (hReferenceIdeal := hReferenceIdeal) (hPre_settles := hPre_settles)
    ∧ preserves_Kernel_KernelIdeal
    ∧ algebraic_KernelIdeal_ReferenceIdeal_pre_settles (hKernelIdeal := hKernelIdeal) (hReferenceIdeal := hReferenceIdeal) (hPre_settles := hPre_settles)
-- ==== Pre_settles.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x2048 : Shape := ⟨2, ![1, 2048]⟩

class Facts : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S_ : S_.BroadcastsInDim S_ (![] : Fin 0 → Fin S_.rank)
  reduceWindows_S8192x2048_S8192x2048_w1s1p0_0_w2048s1p2047_0 : S8192x2048.ReduceWindows (![1, 2048] : Fin 2 → Nat) ![1, 1] ![0, 2047] ![0, 0] S8192x2048
  bcast_S_S8192x1 : S_.BroadcastsInDim S8192x1 (![] : Fin 0 → Fin S8192x1.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S8192x2048 .f32) : FVec F S8192x2048 .f32 :=
  let v0 : FVec F S8192x2048 .f32 := (fun x => Host.sort S8192x2048 1 comparator_f32_d1 x) arg0
  v0

def fn_cumsum_0 {F : FTy → Type} [FloatOps F] (arg0 : FVec F S8192x2048 .f32) : FVec F S8192x2048 .f32 :=
  let cst : FVec F S_ .f32 := constant S_ .f32 0x00000000#32
  let v0 : FVec F S_ .f32 := broadcastInDim S_ ![] bcast_S_S_ cst
  let v1 : FVec F S8192x2048 .f32 := (fun x v => Host.reduceWindowAdd ![1, 2048] ![1, 1] ![0, 2047] ![0, 0] x v reduceWindows_S8192x2048_S8192x2048_w1s1p0_0_w2048s1p2047_0 h_S_) arg0 v0
  v1

def fn_cumsum {F : FTy → Type} [FloatOps F] (arg0 : FVec F S8192x2048 .f32) : FVec F S8192x2048 .f32 :=
  let v0 : FVec F S8192x2048 .f32 := fn_cumsum_0 (F := F) arg0
  v0

def fn_where {F : FTy → Type} [FloatOps F] (arg0 : IVec S8192x2048 1) (arg1 : FVec F S_ .f32) (arg2 : FVec F S_ .f32) : FVec F S8192x2048 .f32 :=
  let v0 : FVec F S8192x2048 .f32 := broadcastInDim S8192x2048 ![] bcast_S_S8192x2048 arg1
  let v1 : FVec F S8192x2048 .f32 := broadcastInDim S8192x2048 ![] bcast_S_S8192x2048 arg2
  let v2 : FVec F S8192x2048 .f32 := select arg0 v0 v1
  v2

def fn_where_1 {F : FTy → Type} [FloatOps F] (arg0 : IVec S8192x2048 1) (arg1 : FVec F S8192x2048 .f32) (arg2 : FVec F S_ .f32) : FVec F S8192x2048 .f32 :=
  let v0 : FVec F S_ .f32 := id arg2
  let v1 : FVec F S8192x2048 .f32 := broadcastInDim S8192x2048 ![] bcast_S_S8192x2048 v0
  let v2 : FVec F S8192x2048 .f32 := select arg0 arg1 v1
  v2

def fn_part3 {F : FTy → Type} [FloatOps F] (main_v3 : FVec F S8192x2048 .f32) (main_v27 : FVec F S8192x1 .f32) (main_v47 : FVec F S8192x1 .f32) (main_v52 : FVec F S8192x1 .f32) : IVec S8192x2048 1 :=
  let main_v53 : FVec F S8192x1 .f32 := Host.divf main_v52 main_v47
  let main_v54 : FVec F S8192x2048 .f32 := broadcastInDim S8192x2048 ![0, 1] bcast_S8192x1_S8192x2048_0_1 main_v53
  let main_v55 : IVec S8192x2048 1 := cmpf .ole main_v3 main_v54
  let main_v56 : FVec F S8192x2048 .f32 := broadcastInDim S8192x2048 ![0, 1] bcast_S8192x1_S8192x2048_0_1 main_v27
  let main_v57 : IVec S8192x2048 1 := cmpf .oge main_v3 main_v56
  let main_v58 : IVec S8192x2048 1 := ori main_v55 main_v57
  main_v58

def fn_part2 {F : FTy → Type} [FloatOps F] (main_v3 : FVec F S8192x2048 .f32) (main_v27 : FVec F S8192x1 .f32) (main_v35 : FVec F S8192x1 .f32) (main_v36 : FVec F S8192x2048 .f32) : IVec S8192x2048 1 :=
  let main_cst_10 : FVec F S_ .f32 := constant S_ .f32 0x00000000#32
  let main_v37 : FVec F S8192 .f32 := (fun x v => Host.reduceAdd x v reducesTo_S8192x2048_S8192_d1 h_S_) main_v36 main_cst_10
  let main_v38 : FVec F S8192x1 .f32 := broadcastInDim S8192x1 ![0] bcast_S8192_S8192x1_0 main_v37
  let main_cst_11 : FVec F S_ .f32 := constant S_ .f32 0x3F800000#32
  let main_v39 : FVec F S8192x1 .f32 := broadcastInDim S8192x1 ![] bcast_S_S8192x1 main_cst_11
  let main_v40 : FVec F S8192x1 .f32 := subf main_v38 main_v39
  let main_v41 : FVec F S8192x1 .f32 := Host.divf main_v40 main_v35
  let main_v42 : FVec F S8192x2048 .f32 := broadcastInDim S8192x2048 ![0, 1] bcast_S8192x1_S8192x2048_0_1 main_v41
  let main_v43 : IVec S8192x2048 1 := cmpf .ogt main_v3 main_v42
  let main_cst_12 : FVec F S_ .f32 := constant S_ .f32 0x3F800000#32
  let main_cst_13 : FVec F S_ .f32 := constant S_ .f32 0x00000000#32
  let main_v44 : FVec F S8192x2048 .f32 := fn_where (F := F) main_v43 main_cst_12 main_cst_13
  let main_v45 : FVec F S8192x2048 .f32 := id main_v44
  let main_cst_14 : FVec F S_ .f32 := constant S_ .f32 0x00000000#32
  let main_v46 : FVec F S8192 .f32 := (fun x v => Host.reduceAdd x v reducesTo_S8192x2048_S8192_d1 h_S_) main_v45 main_cst_14
  let main_v47 : FVec F S8192x1 .f32 := broadcastInDim S8192x1 ![0] bcast_S8192_S8192x1_0 main_v46
  let main_cst_15 : FVec F S_ .f32 := constant S_ .f32 0x00000000#32
  let main_v48 : FVec F S8192x2048 .f32 := fn_where_1 (F := F) main_v43 main_v3 main_cst_15
  let main_cst_16 : FVec F S_ .f32 := constant S_ .f32 0x00000000#32
  let main_v49 : FVec F S8192 .f32 := (fun x v => Host.reduceAdd x v reducesTo_S8192x2048_S8192_d1 h_S_) main_v48 main_cst_16
  let main_v50 : FVec F S8192x1 .f32 := broadcastInDim S8192x1 ![0] bcast_S8192_S8192x1_0 main_v49
  let main_cst_17 : FVec F S_ .f32 := constant S_ .f32 0x3F800000#32
  let main_v51 : FVec F S8192x1 .f32 := broadcastInDim S8192x1 ![] bcast_S_S8192x1 main_cst_17
  let main_v52 : FVec F S8192x1 .f32 := subf main_v50 main_v51
  fn_part3 (F := F) main_v3 main_v27 main_v47 main_v52

def fn_part1 {F : FTy → Type} [FloatOps F] (main_v3 : FVec F S8192x2048 .f32) (main_v5 : FVec F S8192x2048 .f32) (main_v16 : FVec F S8192x2048 .f32) (main_v19 : FVec F S8192x2048 .f32) (main_cst_2 : FVec F S_ .f32) : IVec S8192x2048 1 :=
  let main_v20 : FVec F S8192 .f32 := (fun x v => Host.reduce FloatOps.maximumf x v reducesTo_S8192x2048_S8192_d1 h_S_) main_v19 main_cst_2
  let main_v21 : FVec F S8192x1 .f32 := broadcastInDim S8192x1 ![0] bcast_S8192_S8192x1_0 main_v20
  let main_v22 : FVec F S8192x2048 .f32 := mulf main_v16 main_v5
  let main_cst_3 : FVec F S_ .f32 := constant S_ .f32 0x00000000#32
  let main_v23 : FVec F S8192 .f32 := (fun x v => Host.reduceAdd x v reducesTo_S8192x2048_S8192_d1 h_S_) main_v22 main_cst_3
  let main_v24 : FVec F S8192x1 .f32 := broadcastInDim S8192x1 ![0] bcast_S8192_S8192x1_0 main_v23
  let main_cst_4 : FVec F S_ .f32 := constant S_ .f32 0x3F800000#32
  let main_v25 : FVec F S8192x1 .f32 := broadcastInDim S8192x1 ![] bcast_S_S8192x1 main_cst_4
  let main_v26 : FVec F S8192x1 .f32 := subf main_v24 main_v25
  let main_v27 : FVec F S8192x1 .f32 := Host.divf main_v26 main_v21
  let main_cst_5 : FVec F S_ .f32 := constant S_ .f32 0x3B800000#32
  let main_v28 : FVec F S8192x1 .f32 := broadcastInDim S8192x1 ![] bcast_S_S8192x1 main_cst_5
  let main_v29 : FVec F S8192x1 .f32 := subf main_v27 main_v28
  let main_v30 : FVec F S8192x2048 .f32 := broadcastInDim S8192x2048 ![0, 1] bcast_S8192x1_S8192x2048_0_1 main_v29
  let main_v31 : IVec S8192x2048 1 := cmpf .ogt main_v3 main_v30
  let main_cst_6 : FVec F S_ .f32 := constant S_ .f32 0x3F800000#32
  let main_cst_7 : FVec F S_ .f32 := constant S_ .f32 0x00000000#32
  let main_v32 : FVec F S8192x2048 .f32 := fn_where (F := F) main_v31 main_cst_6 main_cst_7
  let main_v33 : FVec F S8192x2048 .f32 := id main_v32
  let main_cst_8 : FVec F S_ .f32 := constant S_ .f32 0x00000000#32
  let main_v34 : FVec F S8192 .f32 := (fun x v => Host.reduceAdd x v reducesTo_S8192x2048_S8192_d1 h_S_) main_v33 main_cst_8
  let main_v35 : FVec F S8192x1 .f32 := broadcastInDim S8192x1 ![0] bcast_S8192_S8192x1_0 main_v34
  let main_cst_9 : FVec F S_ .f32 := constant S_ .f32 0x00000000#32
  let main_v36 : FVec F S8192x2048 .f32 := fn_where_1 (F := F) main_v31 main_v3 main_cst_9
  fn_part2 (F := F) main_v3 main_v27 main_v35 main_v36

def fn {F : FTy → Type} [FloatOps F] (main_arg0 : FVec F S8192x2048 .f32) : IVec S8192x2048 1 :=
  let main_cst : FVec F S_ .f32 := constant S_ .f32 0xFF800000#32
  let main_v0 : FVec F S8192 .f32 := (fun x v => Host.reduce FloatOps.maximumf x v reducesTo_S8192x2048_S8192_d1 h_S_) main_arg0 main_cst
  let main_v1 : FVec F S8192x1 .f32 := broadcastInDim S8192x1 ![0] bcast_S8192_S8192x1_0 main_v0
  let main_v2 : FVec F S8192x2048 .f32 := broadcastInDim S8192x2048 ![0, 1] bcast_S8192x1_S8192x2048_0_1 main_v1
  let main_v3 : FVec F S8192x2048 .f32 := subf main_arg0 main_v2
  let main_v4 : FVec F S8192x2048 .f32 := fn_sort (F := F) main_v3
  let main_v5 : FVec F S8192x2048 .f32 := Host.reverse [1] main_v4
  let main_v6 : FVec F S2048 .f32 := sitofp .f32 (iotaInDim S2048 32 0)
  let main_cst_0 : FVec F S_ .f32 := constant S_ .f32 0x3F800000#32
  let main_v7 : FVec F S2048 .f32 := broadcastInDim S2048 ![] bcast_S_S2048 main_cst_0
  let main_v8 : FVec F S2048 .f32 := addf main_v7 main_v6
  let main_v9 : FVec F S1x2048 .f32 := broadcastInDim S1x2048 ![1] bcast_S2048_S1x2048_1 main_v8
  let main_v10 : FVec F S8192x2048 .f32 := broadcastInDim S8192x2048 ![0, 1] bcast_S1x2048_S8192x2048_0_1 main_v9
  let main_v11 : FVec F S8192x2048 .f32 := mulf main_v10 main_v5
  let main_cst_1 : FVec F S_ .f32 := constant S_ .f32 0x3F800000#32
  let main_v12 : FVec F S8192x2048 .f32 := broadcastInDim S8192x2048 ![] bcast_S_S8192x2048 main_cst_1
  let main_v13 : FVec F S8192x2048 .f32 := addf main_v12 main_v11
  let main_v14 : FVec F S8192x2048 .f32 := fn_cumsum (F := F) main_v5
  let main_v15 : IVec S8192x2048 1 := cmpf .ogt main_v13 main_v14
  let main_v16 : FVec F S8192x2048 .f32 := uitofp .f32 main_v15
  let main_v17 : FVec F S1x2048 .f32 := broadcastInDim S1x2048 ![1] bcast_S2048_S1x2048_1 main_v8
  let main_v18 : FVec F S8192x2048 .f32 := broadcastInDim S8192x2048 ![0, 1] bcast_S1x2048_S8192x2048_0_1 main_v17
  let main_v19 : FVec F S8192x2048 .f32 := mulf main_v16 main_v18
  let main_cst_2 : FVec F S_ .f32 := constant S_ .f32 0xFF800000#32
  fn_part1 (F := F) main_v3 main_v5 main_v16 main_v19 main_cst_2
-- ==== Kernel.lean ====
abbrev S8192x2048 : Shape := ⟨2, ![8192, 2048]⟩
abbrev S16777216 : Shape := ⟨1, ![16777216]⟩
abbrev S32768 : Shape := ⟨1, ![32768]⟩
abbrev S4096 : Shape := ⟨1, ![4096]⟩
abbrev S_ : Shape := ⟨0, ![]⟩
abbrev S16 : Shape := ⟨1, ![16]⟩

abbrev nBuf : Table → Nat
  | .hbm => 4
  | .local .scVector .vmem => 5
  | _ => 0

abbrev bufTy : (tb : Table) → Fin (nBuf tb) → BufTy
  | .hbm, ⟨0, _⟩ => ⟨S8192x2048, .f32⟩
  | .hbm, ⟨1, _⟩ => ⟨S16777216, .f32⟩
  | .hbm, ⟨2, _⟩ => ⟨S16777216, .f32⟩
  | .hbm, ⟨3, _⟩ => ⟨S8192x2048, .f32⟩
  | .local .scVector .vmem, ⟨0, _⟩ => ⟨S32768, .f32⟩
  | .local .scVector .vmem, ⟨1, _⟩ => ⟨S32768, .f32⟩
  | .local .scVector .vmem, ⟨2, _⟩ => ⟨S32768, .f32⟩
  | .local .scVector .vmem, ⟨3, _⟩ => ⟨S4096, .f32⟩
  | .local .scVector .vmem, ⟨4, _⟩ => ⟨S4096, .f32⟩
  | _, _ => ⟨S8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v10 : BitVec 32 := Scalar.muli v1 c16_i32
  let c0_i32 : BitVec 32 := 0#32
  let c16_i32_1 : BitVec 32 := 16#32
  let v11 : BitVec 32 := Scalar.remsi c0_i32 c16_i32_1
  let v12 : BitVec 32 := Scalar.addi v10 v11
  let c32768_i32 : BitVec 32 := 32768#32
  let v13 : BitVec 32 := Scalar.muli v12 c32768_i32
  ![v13.toNat]
@[reducible] def k0_t1_loop : Scf.Loop 32 :=
  let c0_i32_3 : BitVec 32 := 0#32
  let c8_i32 : BitVec 32 := 8#32
  let v16 : BitVec 32 := Scalar.addi c0_i32_3 c8_i32
  let c1_i32 : BitVec 32 := 1#32
  ⟨c0_i32_3, v16, c1_i32⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_10 : BitVec 32 := 16#32
  let v24 : BitVec 32 := Scalar.muli v1 c16_i32_10
  let c2_i32_9 : BitVec 32 := 2#32
  let c0_i32_3 : BitVec 32 := 0#32
  let c1_i32 : BitVec 32 := 1#32
  let arg10 : BitVec 32 := Scf.iv c0_i32_3 c1_i32 k0_t1
  let v23 : BitVec 32 := Scalar.muli c2_i32_9 arg10
  let c16_i32_11 : BitVec 32 := 16#32
  let v25 : BitVec 32 := Scalar.remsi v23 c16_i32_11
  let v26 : BitVec 32 := Scalar.addi v24 v25
  let c32768_i32_12 : BitVec 32 := 32768#32
  let v27 : BitVec 32 := Scalar.muli v26 c32768_i32_12
  ![v27.toNat]
def k0_off3 (i : grid0.Coords) (k0_t1 : Fin k0_t1_loop.trips) (c1_i32_13 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_14 : BitVec 32 := 16#32
  let v31 : BitVec 32 := Scalar.muli v1 c16_i32_14
  let c2_i32_9 : BitVec 32 := 2#32
  let c0_i32_3 : BitVec 32 := 0#32
  let c1_i32 : BitVec 32 := 1#32
  let arg10 : BitVec 32 := Scf.iv c0_i32_3 c1_i32 k0_t1
  let v23 : BitVec 32 := Scalar.muli c2_i32_9 arg10
  let v30 : BitVec 32 := Scalar.addi v23 c1_i32_13
  let c16_i32_15 : BitVec 32 := 16#32
  let v32 : BitVec 32 := Scalar.remsi v30 c16_i32_15
  let v33 : BitVec 32 := Scalar.addi v31 v32
  let c32768_i32_16 : BitVec 32 := 32768#32
  let v34 : BitVec 32 := Scalar.muli v33 c32768_i32_16
  ![v34.toNat]
@[reducible] def k0_t2_loop : Scf.Loop 32 :=
  let c0_i32_20 : BitVec 32 := 0#32
  let c256_i32_21 : BitVec 32 := 256#32
  let v41 : BitVec 32 := Scalar.addi c0_i32_20 c256_i32_21
  let c1_i32_22 : BitVec 32 := 1#32
  ⟨c0_i32_20, v41, c1_i32_22⟩

def k0_chk1 (v181 : IVec S16 32) : Prop :=
  (∀ a x, ((![v181] : Fin 1 → IVec S16 32) a x).toNat < S32768.size a)
theorem k0_idx1_inb : ∀ (v181 : IVec S16 32) (k0_hw1 : k0_chk1 v181), ∀ a x, ((![v181] : Fin 1 → IVec S16 32) a x).toNat < S32768.size a := fun v181 k0_hw1 => k0_hw1
def k0_off4 (k0_t2 : Fin k0_t2_loop.trips) : Fin 1 → Nat :=
  let c0_i32_100 : BitVec 32 := 0#32
  let c0_i32_20 : BitVec 32 := 0#32
  let c1_i32_22 : BitVec 32 := 1#32
  let arg11 : BitVec 32 := Scf.iv c0_i32_20 c1_i32_22 k0_t2
  let c8_i32_99 : BitVec 32 := 8#32
  let v178 : BitVec 32 := Scalar.muli arg11 c8_i32_99
  let v179 : BitVec 32 := Scalar.addi c0_i32_100 v178
  let c0_i32_102 : BitVec 32 := 0#32
  let v183 : BitVec 32 := Scalar.addi v179 c0_i32_102
  let c16_i32_103 : BitVec 32 := 16#32
  let v184 : BitVec 32 := Scalar.muli v183 c16_i32_103
  let v185 : Index := Scalar.indexCast v184
  ![v185.toNat]

def k0_chk2 (v189 : IVec S16 32) : Prop :=
  (∀ a x, ((![v189] : Fin 1 → IVec S16 32) a x).toNat < S32768.size a)
theorem k0_idx2_inb : ∀ (v189 : IVec S16 32) (k0_hw2 : k0_chk2 v189), ∀ a x, ((![v189] : Fin 1 → IVec S16 32) a x).toNat < S32768.size a := fun v189 k0_hw2 => k0_hw2
def k0_off5 (k0_t2 : Fin k0_t2_loop.trips) : Fin 1 → Nat :=
  let c0_i32_100 : BitVec 32 := 0#32
  let c0_i32_20 : BitVec 32 := 0#32
  let c1_i32_22 : BitVec 32 := 1#32
  let arg11 : BitVec 32 := Scf.iv c0_i32_20 c1_i32_22 k0_t2
  let c8_i32_99 : BitVec 32 := 8#32
  let v178 : BitVec 32 := Scalar.muli arg11 c8_i32_99
  let v179 : BitVec 32 := Scalar.addi c0_i32_100 v178
  let c1_i32_105 : BitVec 32 := 1#32
  let v191 : BitVec 32 := Scalar.addi v179 c1_i32_105
  let c16_i32_106 : BitVec 32 := 16#32
  let v192 : BitVec 32 := Scalar.muli v191 c16_i32_106
  let v193 : Index := Scalar.indexCast v192
  ![v193.toNat]

def k0_chk3 (v197 : IVec S16 32) : Prop :=
  (∀ a x, ((![v197] : Fin 1 → IVec S16 32) a x).toNat < S32768.size a)
theorem k0_idx3_inb : ∀ (v197 : IVec S16 32) (k0_hw3 : k0_chk3 v197), ∀ a x, ((![v197] : Fin 1 → IVec S16 32) a x).toNat < S32768.size a := fun v197 k0_hw3 => k0_hw3
def k0_off6 (k0_t2 : Fin k0_t2_loop.trips) : Fin 1 → Nat :=
  let c0_i32_100 : BitVec 32 := 0#32
  let c0_i32_20 : BitVec 32 := 0#32
  let c1_i32_22 : BitVec 32 := 1#32
  let arg11 : BitVec 32 := Scf.iv c0_i32_20 c1_i32_22 k0_t2
  let c8_i32_99 : BitVec 32 := 8#32
  let v178 : BitVec 32 := Scalar.muli arg11 c8_i32_99
  let v179 : BitVec 32 := Scalar.addi c0_i32_100 v178
  let c2_i32_108 : BitVec 32 := 2#32
  let v199 : BitVec 32 := Scalar.addi v179 c2_i32_108
  let c16_i32_109 : BitVec 32 := 16#32
  let v200 : BitVec 32 := Scalar.muli v199 c16_i32_109
  let v201 : Index := Scalar.indexCast v200
  ![v201.toNat]

def k0_chk4 (v205 : IVec S16 32) : Prop :=
  (∀ a x, ((![v205] : Fin 1 → IVec S16 32) a x).toNat < S32768.size a)
theorem k0_idx4_inb : ∀ (v205 : IVec S16 32) (k0_hw4 : k0_chk4 v205), ∀ a x, ((![v205] : Fin 1 → IVec S16 32) a x).toNat < S32768.size a := fun v205 k0_hw4 => k0_hw4
def k0_off7 (k0_t2 : Fin k0_t2_loop.trips) : Fin 1 → Nat :=
  let c0_i32_100 : BitVec 32 := 0#32
  let c0_i32_20 : BitVec 32 := 0#32
  let c1_i32_22 : BitVec 32 := 1#32
  let arg11 : BitVec 32 := Scf.iv c0_i32_20 c1_i32_22 k0_t2
  let c8_i32_99 : BitVec 32 := 8#32
  let v178 : BitVec 32 := Scalar.muli arg11 c8_i32_99
  let v179 : BitVec 32 := Scalar.addi c0_i32_100 v178
  let c3_i32_110 : BitVec 32 := 3#32
  let v207 : BitVec 32 := Scalar.addi v179 c3_i32_110
  let c16_i32_111 : BitVec 32 := 16#32
  let v208 : BitVec 32 := Scalar.muli v207 c16_i32_111
  let v209 : Index := Scalar.indexCast v208
  ![v209.toNat]

def k0_chk5 (v213 : IVec S16 32) : Prop :=
  (∀ a x, ((![v213] : Fin 1 → IVec S16 32) a x).toNat < S32768.size a)
theorem k0_idx5_inb : ∀ (v213 : IVec S16 32) (k0_hw5 : k0_chk5 v213), ∀ a x, ((![v213] : Fin 1 → IVec S16 32) a x).toNat < S32768.size a := fun v213 k0_hw5 => k0_hw5
def k0_off8 (k0_t2 : Fin k0_t2_loop.trips) : Fin 1 → Nat :=
  let c0_i32_100 : BitVec 32 := 0#32
  let c0_i32_20 : BitVec 32 := 0#32
  let c1_i32_22 : BitVec 32 := 1#32
  let arg11 : BitVec 32 := Scf.iv c0_i32_20 c1_i32_22 k0_t2
  let c8_i32_99 : BitVec 32 := 8#32
  let v178 : BitVec 32 := Scalar.muli arg11 c8_i32_99
  let v179 : BitVec 32 := Scalar.addi c0_i32_100 v178
  let c4_i32_112 : BitVec 32 := 4#32
  let v215 : BitVec 32 := Scalar.addi v179 c4_i32_112
  let c16_i32_113 : BitVec 32 := 16#32
  let v216 : BitVec 32 := Scalar.muli v215 c16_i32_113
  let v217 : Index := Scalar.indexCast v216
  ![v217.toNat]

def k0_chk6 (v221 : IVec S16 32) : Prop :=
  (∀ a x, ((![v221] : Fin 1 → IVec S16 32) a x).toNat < S32768.size a)
theorem k0_idx6_inb : ∀ (v221 : IVec S16 32) (k0_hw6 : k0_chk6 v221), ∀ a x, ((![v221] : Fin 1 → IVec S16 32) a x).toNat < S32768.size a := fun v221 k0_hw6 => k0_hw6
def k0_off9 (k0_t2 : Fin k0_t2_loop.trips) : Fin 1 → Nat :=
  let c0_i32_100 : BitVec 32 := 0#32
  let c0_i32_20 : BitVec 32 := 0#32
  let c1_i32_22 : BitVec 32 := 1#32
  let arg11 : BitVec 32 := Scf.iv c0_i32_20 c1_i32_22 k0_t2
  let c8_i32_99 : BitVec 32 := 8#32
  let v178 : BitVec 32 := Scalar.muli arg11 c8_i32_99
  let v179 : BitVec 32 := Scalar.addi c0_i32_100 v178
  let c5_i32_114 : BitVec 32 := 5#32
  let v223 : BitVec 32 := Scalar.addi v179 c5_i32_114
  let c16_i32_115 : BitVec 32 := 16#32
  let v224 : BitVec 32 := Scalar.muli v223 c16_i32_115
  let v225 : Index := Scalar.indexCast v224
  ![v225.toNat]

def k0_chk7 (v229 : IVec S16 32) : Prop :=
  (∀ a x, ((![v229] : Fin 1 → IVec S16 32) a x).toNat < S32768.size a)
theorem k0_idx7_inb : ∀ (v229 : IVec S16 32) (k0_hw7 : k0_chk7 v229), ∀ a x, ((![v229] : Fin 1 → IVec S16 32) a x).toNat < S32768.size a := fun v229 k0_hw7 => k0_hw7
def k0_off10 (k0_t2 : Fin k0_t2_loop.trips) : Fin 1 → Nat :=
  let c0_i32_100 : BitVec 32 := 0#32
  let c0_i32_20 : BitVec 32 := 0#32
  let c1_i32_22 : BitVec 32 := 1#32
  let arg11 : BitVec 32 := Scf.iv c0_i32_20 c1_i32_22 k0_t2
  let c8_i32_99 : BitVec 32 := 8#32
  let v178 : BitVec 32 := Scalar.muli arg11 c8_i32_99
  let v179 : BitVec 32 := Scalar.addi c0_i32_100 v178
  let c6_i32_116 : BitVec 32 := 6#32
  let v231 : BitVec 32 := Scalar.addi v179 c6_i32_116
  let c16_i32_117 : BitVec 32 := 16#32
  let v232 : BitVec 32 := Scalar.muli v231 c16_i32_117
  let v233 : Index := Scalar.indexCast v232
  ![v233.toNat]

def k0_chk8 (v237 : IVec S16 32) : Prop :=
  (∀ a x, ((![v237] : Fin 1 → IVec S16 32) a x).toNat < S32768.size a)
theorem k0_idx8_inb : ∀ (v237 : IVec S16 32) (k0_hw8 : k0_chk8 v237), ∀ a x, ((![v237] : Fin 1 → IVec S16 32) a x).toNat < S32768.size a := fun v237 k0_hw8 => k0_hw8
def k0_off11 (k0_t2 : Fin k0_t2_loop.trips) : Fin 1 → Nat :=
  let c0_i32_100 : BitVec 32 := 0#32
  let c0_i32_20 : BitVec 32 := 0#32
  let c1_i32_22 : BitVec 32 := 1#32
  let arg11 : BitVec 32 := Scf.iv c0_i32_20 c1_i32_22 k0_t2
  let c8_i32_99 : BitVec 32 := 8#32
  let v178 : BitVec 32 := Scalar.muli arg11 c8_i32_99
  let v179 : BitVec 32 := Scalar.addi c0_i32_100 v178
  let c7_i32_118 : BitVec 32 := 7#32
  let v239 : BitVec 32 := Scalar.addi v179 c7_i32_118
  let c16_i32_119 : BitVec 32 := 16#32
  let v240 : BitVec 32 := Scalar.muli v239 c16_i32_119
  let v241 : Index := Scalar.indexCast v240
  ![v241.toNat]
@[reducible] def k0_t3_loop : Scf.Loop 32 :=
  let c0_i32_25 : BitVec 32 := 0#32
  let c32_i32 : BitVec 32 := 32#32
  let v50 : BitVec 32 := Scalar.addi c0_i32_25 c32_i32
  let c1_i32_26 : BitVec 32 := 1#32
  ⟨c0_i32_25, v50, c1_i32_26⟩
def k0_off12 (k0_t3 : Fin k0_t3_loop.trips) (c0_i32_101 : BitVec 32) : Fin 1 → Nat :=
  let c0_i32_100 : BitVec 32 := 0#32
  let c0_i32_25 : BitVec 32 := 0#32
  let c1_i32_26 : BitVec 32 := 1#32
  let arg11 : BitVec 32 := Scf.iv c0_i32_25 c1_i32_26 k0_t3
  let c8_i32_99 : BitVec 32 := 8#32
  let v178 : BitVec 32 := Scalar.muli arg11 c8_i32_99
  let v179 : BitVec 32 := Scalar.addi c0_i32_100 v178
  let v180 : BitVec 32 := Scalar.addi v179 c0_i32_101
  let c16_i32_102 : BitVec 32 := 16#32
  let v181 : BitVec 32 := Scalar.muli v180 c16_i32_102
  let v182 : Index := Scalar.indexCast v181
  ![v182.toNat]
@[reducible] def k0_t4_loop : Scf.Loop 32 :=
  let c0_i32_29 : BitVec 32 := 0#32
  let c256_i32_30 : BitVec 32 := 256#32
  let v51 : BitVec 32 := Scalar.addi c0_i32_29 c256_i32_30
  let c1_i32_31 : BitVec 32 := 1#32
  ⟨c0_i32_29, v51, c1_i32_31⟩
def k0_off13 (k0_t4 : Fin k0_t4_loop.trips) : Fin 1 → Nat :=
  let c0_i32_99 : BitVec 32 := 0#32
  let c0_i32_29 : BitVec 32 := 0#32
  let c1_i32_31 : BitVec 32 := 1#32
  let arg11 : BitVec 32 := Scf.iv c0_i32_29 c1_i32_31 k0_t4
  let c128_i32 : BitVec 32 := 128#32
  let v178 : BitVec 32 := Scalar.muli arg11 c128_i32
  let v179 : BitVec 32 := Scalar.addi c0_i32_99 v178
  let c0_i32_100 : BitVec 32 := 0#32
  let v180 : BitVec 32 := Scalar.addi v179 c0_i32_100
  let v181 : Index := Scalar.indexCast v180
  ![v181.toNat]

def k0_chk9 (v193 : IVec S16 32) : Prop :=
  (∀ a x, ((![v193] : Fin 1 → IVec S16 32) a x).toNat < S4096.size a) ∧
  (∀ a x, ((![v193] : Fin 1 → IVec S16 32) a x).toNat < S4096.size a)
theorem k0_idx9_inb : ∀ (v193 : IVec S16 32) (k0_hw9 : k0_chk9 v193), ∀ a x, ((![v193] : Fin 1 → IVec S16 32) a x).toNat < S4096.size a := fun v193 k0_hw9 => k0_hw9.1
theorem k0_idx10_inb : ∀ (v193 : IVec S16 32) (k0_hw9 : k0_chk9 v193), ∀ a x, ((![v193] : Fin 1 → IVec S16 32) a x).toNat < S4096.size a := fun v193 k0_hw9 => k0_hw9.2
def k0_off14 (k0_t4 : Fin k0_t4_loop.trips) : Fin 1 → Nat :=
  let c0_i32_99 : BitVec 32 := 0#32
  let c0_i32_29 : BitVec 32 := 0#32
  let c1_i32_31 : BitVec 32 := 1#32
  let arg11 : BitVec 32 := Scf.iv c0_i32_29 c1_i32_31 k0_t4
  let c128_i32 : BitVec 32 := 128#32
  let v178 : BitVec 32 := Scalar.muli arg11 c128_i32
  let v179 : BitVec 32 := Scalar.addi c0_i32_99 v178
  let c16_i32_104 : BitVec 32 := 16#32
  let v194 : BitVec 32 := Scalar.addi v179 c16_i32_104
  let v195 : Index := Scalar.indexCast v194
  ![v195.toNat]

def k0_chk10 (v207 : IVec S16 32) : Prop :=
  (∀ a x, ((![v207] : Fin 1 → IVec S16 32) a x).toNat < S4096.size a) ∧
  (∀ a x, ((![v207] : Fin 1 → IVec S16 32) a x).toNat < S4096.size a)
theorem k0_idx11_inb : ∀ (v207 : IVec S16 32) (k0_hw10 : k0_chk10 v207), ∀ a x, ((![v207] : Fin 1 → IVec S16 32) a x).toNat < S4096.size a := fun v207 k0_hw10 => k0_hw10.1
theorem k0_idx12_inb : ∀ (v207 : IVec S16 32) (k0_hw10 : k0_chk10 v207), ∀ a x, ((![v207] : Fin 1 → IVec S16 32) a x).toNat < S4096.size a := fun v207 k0_hw10 => k0_hw10.2
def k0_off15 (k0_t4 : Fin k0_t4_loop.trips) : Fin 1 → Nat :=
  let c0_i32_99 : BitVec 32 := 0#32
  let c0_i32_29 : BitVec 32 := 0#32
  let c1_i32_31 : BitVec 32 := 1#32
  let arg11 : BitVec 32 := Scf.iv c0_i32_29 c1_i32_31 k0_t4
  let c128_i32 : BitVec 32 := 128#32
  let v178 : BitVec 32 := Scalar.muli arg11 c128_i32
  let v179 : BitVec 32 := Scalar.addi c0_i32_99 v178
  let c32_i32_109 : BitVec 32 := 32#32
  let v208 : BitVec 32 := Scalar.addi v179 c32_i32_109
  let v209 : Index := Scalar.indexCast v208
  ![v209.toNat]

def k0_chk11 (v221 : IVec S16 32) : Prop :=
  (∀ a x, ((![v221] : Fin 1 → IVec S16 32) a x).toNat < S4096.size a) ∧
  (∀ a x, ((![v221] : Fin 1 → IVec S16 32) a x).toNat < S4096.size a)
theorem k0_idx13_inb : ∀ (v221 : IVec S16 32) (k0_hw11 : k0_chk11 v221), ∀ a x, ((![v221] : Fin 1 → IVec S16 32) a x).toNat < S4096.size a := fun v221 k0_hw11 => k0_hw11.1
theorem k0_idx14_inb : ∀ (v221 : IVec S16 32) (k0_hw11 : k0_chk11 v221), ∀ a x, ((![v221] : Fin 1 → IVec S16 32) a x).toNat < S4096.size a := fun v221 k0_hw11 => k0_hw11.2
def k0_off16 (k0_t4 : Fin k0_t4_loop.trips) : Fin 1 → Nat :=
  let c0_i32_99 : BitVec 32 := 0#32
  let c0_i32_29 : BitVec 32 := 0#32
  let c1_i32_31 : BitVec 32 := 1#32
  let arg11 : BitVec 32 := Scf.iv c0_i32_29 c1_i32_31 k0_t4
  let c128_i32 : BitVec 32 := 128#32
  let v178 : BitVec 32 := Scalar.muli arg11 c128_i32
  let v179 : BitVec 32 := Scalar.addi c0_i32_99 v178
  let c48_i32 : BitVec 32 := 48#32
  let v222 : BitVec 32 := Scalar.addi v179 c48_i32
  let v223 : Index := Scalar.indexCast v222
  ![v223.toNat]

def k0_chk12 (v235 : IVec S16 32) : Prop :=
  (∀ a x, ((![v235] : Fin 1 → IVec S16 32) a x).toNat < S4096.size a) ∧
  (∀ a x, ((![v235] : Fin 1 → IVec S16 32) a x).toNat < S4096.size a)
theorem k0_idx15_inb : ∀ (v235 : IVec S16 32) (k0_hw12 : k0_chk12 v235), ∀ a x, ((![v235] : Fin 1 → IVec S16 32) a x).toNat < S4096.size a := fun v235 k0_hw12 => k0_hw12.1
theorem k0_idx16_inb : ∀ (v235 : IVec S16 32) (k0_hw12 : k0_chk12 v235), ∀ a x, ((![v235] : Fin 1 → IVec S16 32) a x).toNat < S4096.size a := fun v235 k0_hw12 => k0_hw12.2
def k0_off17 (k0_t4 : Fin k0_t4_loop.trips) : Fin 1 → Nat :=
  let c0_i32_99 : BitVec 32 := 0#32
  let c0_i32_29 : BitVec 32 := 0#32
  let c1_i32_31 : BitVec 32 := 1#32
  let arg11 : BitVec 32 := Scf.iv c0_i32_29 c1_i32_31 k0_t4
  let c128_i32 : BitVec 32 := 128#32
  let v178 : BitVec 32 := Scalar.muli arg11 c128_i32
  let v179 : BitVec 32 := Scalar.addi c0_i32_99 v178
  let c64_i32_118 : BitVec 32 := 64#32
  let v236 : BitVec 32 := Scalar.addi v179 c64_i32_118
  let v237 : Index := Scalar.indexCast v236
  ![v237.toNat]

def k0_chk13 (v249 : IVec S16 32) : Prop :=
  (∀ a x, ((![v249] : Fin 1 → IVec S16 32) a x).toNat < S4096.size a) ∧
  (∀ a x, ((![v249] : Fin 1 → IVec S16 32) a x).toNat < S4096.size a)
theorem k0_idx17_inb : ∀ (v249 : IVec S16 32) (k0_hw13 : k0_chk13 v249), ∀ a x, ((![v249] : Fin 1 → IVec S16 32) a x).toNat < S4096.size a := fun v249 k0_hw13 => k0_hw13.1
theorem k0_idx18_inb : ∀ (v249 : IVec S16 32) (k0_hw13 : k0_chk13 v249), ∀ a x, ((![v249] : Fin 1 → IVec S16 32) a x).toNat < S4096.size a := fun v249 k0_hw13 => k0_hw13.2
def k0_off18 (k0_t4 : Fin k0_t4_loop.trips) : Fin 1 → Nat :=
  let c0_i32_99 : BitVec 32 := 0#32
  let c0_i32_29 : BitVec 32 := 0#32
  let c1_i32_31 : BitVec 32 := 1#32
  let arg11 : BitVec 32 := Scf.iv c0_i32_29 c1_i32_31 k0_t4
  let c128_i32 : BitVec 32 := 128#32
  let v178 : BitVec 32 := Scalar.muli arg11 c128_i32
  let v179 : BitVec 32 := Scalar.addi c0_i32_99 v178
  let c80_i32 : BitVec 32 := 80#32
  let v250 : BitVec 32 := Scalar.addi v179 c80_i32
  let v251 : Index := Scalar.indexCast v250
  ![v251.toNat]

def k0_chk14 (v263 : IVec S16 32) : Prop :=
  (∀ a x, ((![v263] : Fin 1 → IVec S16 32) a x).toNat < S4096.size a) ∧
  (∀ a x, ((![v263] : Fin 1 → IVec S16 32) a x).toNat < S4096.size a)
theorem k0_idx19_inb : ∀ (v263 : IVec S16 32) (k0_hw14 : k0_chk14 v263), ∀ a x, ((![v263] : Fin 1 → IVec S16 32) a x).toNat < S4096.size a := fun v263 k0_hw14 => k0_hw14.1
theorem k0_idx20_inb : ∀ (v263 : IVec S16 32) (k0_hw14 : k0_chk14 v263), ∀ a x, ((![v263] : Fin 1 → IVec S16 32) a x).toNat < S4096.size a := fun v263 k0_hw14 => k0_hw14.2
def k0_off19 (k0_t4 : Fin k0_t4_loop.trips) : Fin 1 → Nat :=
  let c0_i32_99 : BitVec 32 := 0#32
  let c0_i32_29 : BitVec 32 := 0#32
  let c1_i32_31 : BitVec 32 := 1#32
  let arg11 : BitVec 32 := Scf.iv c0_i32_29 c1_i32_31 k0_t4
  let c128_i32 : BitVec 32 := 128#32
  let v178 : BitVec 32 := Scalar.muli arg11 c128_i32
  let v179 : BitVec 32 := Scalar.addi c0_i32_99 v178
  let c96_i32 : BitVec 32 := 96#32
  let v264 : BitVec 32 := Scalar.addi v179 c96_i32
  let v265 : Index := Scalar.indexCast v264
  ![v265.toNat]

def k0_chk15 (v277 : IVec S16 32) : Prop :=
  (∀ a x, ((![v277] : Fin 1 → IVec S16 32) a x).toNat < S4096.size a) ∧
  (∀ a x, ((![v277] : Fin 1 → IVec S16 32) a x).toNat < S4096.size a)
theorem k0_idx21_inb : ∀ (v277 : IVec S16 32) (k0_hw15 : k0_chk15 v277), ∀ a x, ((![v277] : Fin 1 → IVec S16 32) a x).toNat < S4096.size a := fun v277 k0_hw15 => k0_hw15.1
theorem k0_idx22_inb : ∀ (v277 : IVec S16 32) (k0_hw15 : k0_chk15 v277), ∀ a x, ((![v277] : Fin 1 → IVec S16 32) a x).toNat < S4096.size a := fun v277 k0_hw15 => k0_hw15.2
def k0_off20 (k0_t4 : Fin k0_t4_loop.trips) : Fin 1 → Nat :=
  let c0_i32_99 : BitVec 32 := 0#32
  let c0_i32_29 : BitVec 32 := 0#32
  let c1_i32_31 : BitVec 32 := 1#32
  let arg11 : BitVec 32 := Scf.iv c0_i32_29 c1_i32_31 k0_t4
  let c128_i32 : BitVec 32 := 128#32
  let v178 : BitVec 32 := Scalar.muli arg11 c128_i32
  let v179 : BitVec 32 := Scalar.addi c0_i32_99 v178
  let c112_i32 : BitVec 32 := 112#32
  let v278 : BitVec 32 := Scalar.addi v179 c112_i32
  let v279 : Index := Scalar.indexCast v278
  ![v279.toNat]

def k0_chk16 (v291 : IVec S16 32) : Prop :=
  (∀ a x, ((![v291] : Fin 1 → IVec S16 32) a x).toNat < S4096.size a) ∧
  (∀ a x, ((![v291] : Fin 1 → IVec S16 32) a x).toNat < S4096.size a)
theorem k0_idx23_inb : ∀ (v291 : IVec S16 32) (k0_hw16 : k0_chk16 v291), ∀ a x, ((![v291] : Fin 1 → IVec S16 32) a x).toNat < S4096.size a := fun v291 k0_hw16 => k0_hw16.1
theorem k0_idx24_inb : ∀ (v291 : IVec S16 32) (k0_hw16 : k0_chk16 v291), ∀ a x, ((![v291] : Fin 1 → IVec S16 32) a x).toNat < S4096.size a := fun v291 k0_hw16 => k0_hw16.2
@[reducible] def k0_t5_loop : Scf.Loop 32 :=
  let c0_i32_34 : BitVec 32 := 0#32
  let c64_i32 : BitVec 32 := 64#32
  let v55 : BitVec 32 := Scalar.addi c0_i32_34 c64_i32
  let c1_i32_35 : BitVec 32 := 1#32
  ⟨c0_i32_34, v55, c1_i32_35⟩

def k0_chk17 (arg12 : IVec S16 32) : Prop :=
  (∀ a x, ((![arg12] : Fin 1 → IVec S16 32) a x).toNat < S4096.size a) ∧
  (∀ a x, ((![arg12] : Fin 1 → IVec S16 32) a x).toNat < S4096.size a)
theorem k0_idx25_inb : ∀ (arg12 : IVec S16 32) (k0_hw17 : k0_chk17 arg12), ∀ a x, ((![arg12] : Fin 1 → IVec S16 32) a x).toNat < S4096.size a := fun arg12 k0_hw17 => k0_hw17.1
theorem k0_idx26_inb : ∀ (arg12 : IVec S16 32) (k0_hw17 : k0_chk17 arg12), ∀ a x, ((![arg12] : Fin 1 → IVec S16 32) a x).toNat < S4096.size a := fun arg12 k0_hw17 => k0_hw17.2

def k0_chk18 (v192 : IVec S16 32) : Prop :=
  (∀ a x, ((![v192] : Fin 1 → IVec S16 32) a x).toNat < S4096.size a) ∧
  (∀ a x, ((![v192] : Fin 1 → IVec S16 32) a x).toNat < S4096.size a)
theorem k0_idx27_inb : ∀ (v192 : IVec S16 32) (k0_hw18 : k0_chk18 v192), ∀ a x, ((![v192] : Fin 1 → IVec S16 32) a x).toNat < S4096.size a := fun v192 k0_hw18 => k0_hw18.1
theorem k0_idx28_inb : ∀ (v192 : IVec S16 32) (k0_hw18 : k0_chk18 v192), ∀ a x, ((![v192] : Fin 1 → IVec S16 32) a x).toNat < S4096.size a := fun v192 k0_hw18 => k0_hw18.2

def k0_chk19 (v209 : IVec S16 32) : Prop :=
  (∀ a x, ((![v209] : Fin 1 → IVec S16 32) a x).toNat < S4096.size a) ∧
  (∀ a x, ((![v209] : Fin 1 → IVec S16 32) a x).toNat < S4096.size a)
theorem k0_idx29_inb : ∀ (v209 : IVec S16 32) (k0_hw19 : k0_chk19 v209), ∀ a x, ((![v209] : Fin 1 → IVec S16 32) a x).toNat < S4096.size a := fun v209 k0_hw19 => k0_hw19.1
theorem k0_idx30_inb : ∀ (v209 : IVec S16 32) (k0_hw19 : k0_chk19 v209), ∀ a x, ((![v209] : Fin 1 → IVec S16 32) a x).toNat < S4096.size a := fun v209 k0_hw19 => k0_hw19.2

def k0_chk20 (v226 : IVec S16 32) : Prop :=
  (∀ a x, ((![v226] : Fin 1 → IVec S16 32) a x).toNat < S4096.size a) ∧
  (∀ a x, ((![v226] : Fin 1 → IVec S16 32) a x).toNat < S4096.size a)
theorem k0_idx31_inb : ∀ (v226 : IVec S16 32) (k0_hw20 : k0_chk20 v226), ∀ a x, ((![v226] : Fin 1 → IVec S16 32) a x).toNat < S4096.size a := fun v226 k0_hw20 => k0_hw20.1
theorem k0_idx32_inb : ∀ (v226 : IVec S16 32) (k0_hw20 : k0_chk20 v226), ∀ a x, ((![v226] : Fin 1 → IVec S16 32) a x).toNat < S4096.size a := fun v226 k0_hw20 => k0_hw20.2
@[reducible] def k0_t6_loop : Scf.Loop 32 :=
  let c0_i32_38 : BitVec 32 := 0#32
  let c256_i32_39 : BitVec 32 := 256#32
  let v60 : BitVec 32 := Scalar.addi c0_i32_38 c256_i32_39
  let c1_i32_40 : BitVec 32 := 1#32
  ⟨c0_i32_38, v60, c1_i32_40⟩
def k0_off21 (k0_t6 : Fin k0_t6_loop.trips) (c0_i32_100 : BitVec 32) : Fin 1 → Nat :=
  let c0_i32_99 : BitVec 32 := 0#32
  let c0_i32_38 : BitVec 32 := 0#32
  let c1_i32_40 : BitVec 32 := 1#32
  let arg11 : BitVec 32 := Scf.iv c0_i32_38 c1_i32_40 k0_t6
  let c128_i32 : BitVec 32 := 128#32
  let v178 : BitVec 32 := Scalar.muli arg11 c128_i32
  let v179 : BitVec 32 := Scalar.addi c0_i32_99 v178
  let v180 : BitVec 32 := Scalar.addi v179 c0_i32_100
  let v181 : Index := Scalar.indexCast v180
  ![v181.toNat]
@[reducible] def k0_t7_loop : Scf.Loop 32 :=
  let c0_i32_43 : BitVec 32 := 0#32
  let c256_i32_44 : BitVec 32 := 256#32
  let v79 : BitVec 32 := Scalar.addi c0_i32_43 c256_i32_44
  let c1_i32_45 : BitVec 32 := 1#32
  ⟨c0_i32_43, v79, c1_i32_45⟩
def k0_off22 (k0_t7 : Fin k0_t7_loop.trips) (c0_i32_100 : BitVec 32) : Fin 1 → Nat :=
  let c0_i32_99 : BitVec 32 := 0#32
  let c0_i32_43 : BitVec 32 := 0#32
  let c1_i32_45 : BitVec 32 := 1#32
  let arg11 : BitVec 32 := Scf.iv c0_i32_43 c1_i32_45 k0_t7
  let c128_i32 : BitVec 32 := 128#32
  let v178 : BitVec 32 := Scalar.muli arg11 c128_i32
  let v179 : BitVec 32 := Scalar.addi c0_i32_99 v178
  let v180 : BitVec 32 := Scalar.addi v179 c0_i32_100
  let v181 : Index := Scalar.indexCast v180
  ![v181.toNat]
@[reducible] def k0_t8_loop : Scf.Loop 32 :=
  let c0_i32_48 : BitVec 32 := 0#32
  let c256_i32_49 : BitVec 32 := 256#32
  let v98 : BitVec 32 := Scalar.addi c0_i32_48 c256_i32_49
  let c1_i32_50 : BitVec 32 := 1#32
  ⟨c0_i32_48, v98, c1_i32_50⟩
def k0_off23 (k0_t8 : Fin k0_t8_loop.trips) : Fin 1 → Nat :=
  let c0_i32_100 : BitVec 32 := 0#32
  let c0_i32_48 : BitVec 32 := 0#32
  let c1_i32_50 : BitVec 32 := 1#32
  let arg11 : BitVec 32 := Scf.iv c0_i32_48 c1_i32_50 k0_t8
  let c8_i32_99 : BitVec 32 := 8#32
  let v178 : BitVec 32 := Scalar.muli arg11 c8_i32_99
  let v179 : BitVec 32 := Scalar.addi c0_i32_100 v178
  let c0_i32_101 : BitVec 32 := 0#32
  let v180 : BitVec 32 := Scalar.addi v179 c0_i32_101
  let c16_i32_102 : BitVec 32 := 16#32
  let v181 : BitVec 32 := Scalar.muli v180 c16_i32_102
  let v182 : Index := Scalar.indexCast v181
  ![v182.toNat]

def k0_chk21 (v188 : IVec S16 32) : Prop :=
  (∀ a x, ((![v188] : Fin 1 → IVec S16 32) a x).toNat < S32768.size a)
theorem k0_idx33_inb : ∀ (v188 : IVec S16 32) (k0_hw21 : k0_chk21 v188), ∀ a x, ((![v188] : Fin 1 → IVec S16 32) a x).toNat < S32768.size a := fun v188 k0_hw21 => k0_hw21
def k0_off24 (k0_t8 : Fin k0_t8_loop.trips) : Fin 1 → Nat :=
  let c0_i32_100 : BitVec 32 := 0#32
  let c0_i32_48 : BitVec 32 := 0#32
  let c1_i32_50 : BitVec 32 := 1#32
  let arg11 : BitVec 32 := Scf.iv c0_i32_48 c1_i32_50 k0_t8
  let c8_i32_99 : BitVec 32 := 8#32
  let v178 : BitVec 32 := Scalar.muli arg11 c8_i32_99
  let v179 : BitVec 32 := Scalar.addi c0_i32_100 v178
  let c1_i32_105 : BitVec 32 := 1#32
  let v189 : BitVec 32 := Scalar.addi v179 c1_i32_105
  let c16_i32_106 : BitVec 32 := 16#32
  let v190 : BitVec 32 := Scalar.muli v189 c16_i32_106
  let v191 : Index := Scalar.indexCast v190
  ![v191.toNat]

def k0_chk22 (v197 : IVec S16 32) : Prop :=
  (∀ a x, ((![v197] : Fin 1 → IVec S16 32) a x).toNat < S32768.size a)
theorem k0_idx34_inb : ∀ (v197 : IVec S16 32) (k0_hw22 : k0_chk22 v197), ∀ a x, ((![v197] : Fin 1 → IVec S16 32) a x).toNat < S32768.size a := fun v197 k0_hw22 => k0_hw22
def k0_off25 (k0_t8 : Fin k0_t8_loop.trips) : Fin 1 → Nat :=
  let c0_i32_100 : BitVec 32 := 0#32
  let c0_i32_48 : BitVec 32 := 0#32
  let c1_i32_50 : BitVec 32 := 1#32
  let arg11 : BitVec 32 := Scf.iv c0_i32_48 c1_i32_50 k0_t8
  let c8_i32_99 : BitVec 32 := 8#32
  let v178 : BitVec 32 := Scalar.muli arg11 c8_i32_99
  let v179 : BitVec 32 := Scalar.addi c0_i32_100 v178
  let c2_i32_109 : BitVec 32 := 2#32
  let v198 : BitVec 32 := Scalar.addi v179 c2_i32_109
  let c16_i32_110 : BitVec 32 := 16#32
  let v199 : BitVec 32 := Scalar.muli v198 c16_i32_110
  let v200 : Index := Scalar.indexCast v199
  ![v200.toNat]

def k0_chk23 (v206 : IVec S16 32) : Prop :=
  (∀ a x, ((![v206] : Fin 1 → IVec S16 32) a x).toNat < S32768.size a)
theorem k0_idx35_inb : ∀ (v206 : IVec S16 32) (k0_hw23 : k0_chk23 v206), ∀ a x, ((![v206] : Fin 1 → IVec S16 32) a x).toNat < S32768.size a := fun v206 k0_hw23 => k0_hw23
def k0_off26 (k0_t8 : Fin k0_t8_loop.trips) : Fin 1 → Nat :=
  let c0_i32_100 : BitVec 32 := 0#32
  let c0_i32_48 : BitVec 32 := 0#32
  let c1_i32_50 : BitVec 32 := 1#32
  let arg11 : BitVec 32 := Scf.iv c0_i32_48 c1_i32_50 k0_t8
  let c8_i32_99 : BitVec 32 := 8#32
  let v178 : BitVec 32 := Scalar.muli arg11 c8_i32_99
  let v179 : BitVec 32 := Scalar.addi c0_i32_100 v178
  let c3_i32 : BitVec 32 := 3#32
  let v207 : BitVec 32 := Scalar.addi v179 c3_i32
  let c16_i32_113 : BitVec 32 := 16#32
  let v208 : BitVec 32 := Scalar.muli v207 c16_i32_113
  let v209 : Index := Scalar.indexCast v208
  ![v209.toNat]

def k0_chk24 (v215 : IVec S16 32) : Prop :=
  (∀ a x, ((![v215] : Fin 1 → IVec S16 32) a x).toNat < S32768.size a)
theorem k0_idx36_inb : ∀ (v215 : IVec S16 32) (k0_hw24 : k0_chk24 v215), ∀ a x, ((![v215] : Fin 1 → IVec S16 32) a x).toNat < S32768.size a := fun v215 k0_hw24 => k0_hw24
def k0_off27 (k0_t8 : Fin k0_t8_loop.trips) : Fin 1 → Nat :=
  let c0_i32_100 : BitVec 32 := 0#32
  let c0_i32_48 : BitVec 32 := 0#32
  let c1_i32_50 : BitVec 32 := 1#32
  let arg11 : BitVec 32 := Scf.iv c0_i32_48 c1_i32_50 k0_t8
  let c8_i32_99 : BitVec 32 := 8#32
  let v178 : BitVec 32 := Scalar.muli arg11 c8_i32_99
  let v179 : BitVec 32 := Scalar.addi c0_i32_100 v178
  let c4_i32 : BitVec 32 := 4#32
  let v216 : BitVec 32 := Scalar.addi v179 c4_i32
  let c16_i32_116 : BitVec 32 := 16#32
  let v217 : BitVec 32 := Scalar.muli v216 c16_i32_116
  let v218 : Index := Scalar.indexCast v217
  ![v218.toNat]

def k0_chk25 (v224 : IVec S16 32) : Prop :=
  (∀ a x, ((![v224] : Fin 1 → IVec S16 32) a x).toNat < S32768.size a)
theorem k0_idx37_inb : ∀ (v224 : IVec S16 32) (k0_hw25 : k0_chk25 v224), ∀ a x, ((![v224] : Fin 1 → IVec S16 32) a x).toNat < S32768.size a := fun v224 k0_hw25 => k0_hw25
def k0_off28 (k0_t8 : Fin k0_t8_loop.trips) : Fin 1 → Nat :=
  let c0_i32_100 : BitVec 32 := 0#32
  let c0_i32_48 : BitVec 32 := 0#32
  let c1_i32_50 : BitVec 32 := 1#32
  let arg11 : BitVec 32 := Scf.iv c0_i32_48 c1_i32_50 k0_t8
  let c8_i32_99 : BitVec 32 := 8#32
  let v178 : BitVec 32 := Scalar.muli arg11 c8_i32_99
  let v179 : BitVec 32 := Scalar.addi c0_i32_100 v178
  let c5_i32 : BitVec 32 := 5#32
  let v225 : BitVec 32 := Scalar.addi v179 c5_i32
  let c16_i32_119 : BitVec 32 := 16#32
  let v226 : BitVec 32 := Scalar.muli v225 c16_i32_119
  let v227 : Index := Scalar.indexCast v226
  ![v227.toNat]

def k0_chk26 (v233 : IVec S16 32) : Prop :=
  (∀ a x, ((![v233] : Fin 1 → IVec S16 32) a x).toNat < S32768.size a)
theorem k0_idx38_inb : ∀ (v233 : IVec S16 32) (k0_hw26 : k0_chk26 v233), ∀ a x, ((![v233] : Fin 1 → IVec S16 32) a x).toNat < S32768.size a := fun v233 k0_hw26 => k0_hw26
def k0_off29 (k0_t8 : Fin k0_t8_loop.trips) : Fin 1 → Nat :=
  let c0_i32_100 : BitVec 32 := 0#32
  let c0_i32_48 : BitVec 32 := 0#32
  let c1_i32_50 : BitVec 32 := 1#32
  let arg11 : BitVec 32 := Scf.iv c0_i32_48 c1_i32_50 k0_t8
  let c8_i32_99 : BitVec 32 := 8#32
  let v178 : BitVec 32 := Scalar.muli arg11 c8_i32_99
  let v179 : BitVec 32 := Scalar.addi c0_i32_100 v178
  let c6_i32 : BitVec 32 := 6#32
  let v234 : BitVec 32 := Scalar.addi v179 c6_i32
  let c16_i32_122 : BitVec 32 := 16#32
  let v235 : BitVec 32 := Scalar.muli v234 c16_i32_122
  let v236 : Index := Scalar.indexCast v235
  ![v236.toNat]

def k0_chk27 (v242 : IVec S16 32) : Prop :=
  (∀ a x, ((![v242] : Fin 1 → IVec S16 32) a x).toNat < S32768.size a)
theorem k0_idx39_inb : ∀ (v242 : IVec S16 32) (k0_hw27 : k0_chk27 v242), ∀ a x, ((![v242] : Fin 1 → IVec S16 32) a x).toNat < S32768.size a := fun v242 k0_hw27 => k0_hw27
def k0_off30 (k0_t8 : Fin k0_t8_loop.trips) : Fin 1 → Nat :=
  let c0_i32_100 : BitVec 32 := 0#32
  let c0_i32_48 : BitVec 32 := 0#32
  let c1_i32_50 : BitVec 32 := 1#32
  let arg11 : BitVec 32 := Scf.iv c0_i32_48 c1_i32_50 k0_t8
  let c8_i32_99 : BitVec 32 := 8#32
  let v178 : BitVec 32 := Scalar.muli arg11 c8_i32_99
  let v179 : BitVec 32 := Scalar.addi c0_i32_100 v178
  let c7_i32 : BitVec 32 := 7#32
  let v243 : BitVec 32 := Scalar.addi v179 c7_i32
  let c16_i32_125 : BitVec 32 := 16#32
  let v244 : BitVec 32 := Scalar.muli v243 c16_i32_125
  let v245 : Index := Scalar.indexCast v244
  ![v245.toNat]

def k0_chk28 (v251 : IVec S16 32) : Prop :=
  (∀ a x, ((![v251] : Fin 1 → IVec S16 32) a x).toNat < S32768.size a)
theorem k0_idx40_inb : ∀ (v251 : IVec S16 32) (k0_hw28 : k0_chk28 v251), ∀ a x, ((![v251] : Fin 1 → IVec S16 32) a x).toNat < S32768.size a := fun v251 k0_hw28 => k0_hw28
def k0_off31 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_17 : BitVec 32 := 16#32
  let v37 : BitVec 32 := Scalar.muli v1 c16_i32_17
  let c2_i32_9 : BitVec 32 := 2#32
  let c0_i32_3 : BitVec 32 := 0#32
  let c1_i32 : BitVec 32 := 1#32
  let arg10 : BitVec 32 := Scf.iv c0_i32_3 c1_i32 k0_t1
  let v23 : BitVec 32 := Scalar.muli c2_i32_9 arg10
  let v38 : BitVec 32 := Scalar.addi v37 v23
  let c32768_i32_18 : BitVec 32 := 32768#32
  let v39 : BitVec 32 := Scalar.muli v38 c32768_i32_18
  ![v39.toNat]
@[reducible] def k0_t9_loop : Scf.Loop 32 :=
  let c0_i32_64 : BitVec 32 := 0#32
  let c256_i32_65 : BitVec 32 := 256#32
  let v119 : BitVec 32 := Scalar.addi c0_i32_64 c256_i32_65
  let c1_i32_66 : BitVec 32 := 1#32
  ⟨c0_i32_64, v119, c1_i32_66⟩

def k0_chk29 (v181 : IVec S16 32) : Prop :=
  (∀ a x, ((![v181] : Fin 1 → IVec S16 32) a x).toNat < S32768.size a)
theorem k0_idx41_inb : ∀ (v181 : IVec S16 32) (k0_hw29 : k0_chk29 v181), ∀ a x, ((![v181] : Fin 1 → IVec S16 32) a x).toNat < S32768.size a := fun v181 k0_hw29 => k0_hw29
def k0_off32 (k0_t9 : Fin k0_t9_loop.trips) : Fin 1 → Nat :=
  let c0_i32_100 : BitVec 32 := 0#32
  let c0_i32_64 : BitVec 32 := 0#32
  let c1_i32_66 : BitVec 32 := 1#32
  let arg11 : BitVec 32 := Scf.iv c0_i32_64 c1_i32_66 k0_t9
  let c8_i32_99 : BitVec 32 := 8#32
  let v178 : BitVec 32 := Scalar.muli arg11 c8_i32_99
  let v179 : BitVec 32 := Scalar.addi c0_i32_100 v178
  let c0_i32_102 : BitVec 32 := 0#32
  let v183 : BitVec 32 := Scalar.addi v179 c0_i32_102
  let c16_i32_103 : BitVec 32 := 16#32
  let v184 : BitVec 32 := Scalar.muli v183 c16_i32_103
  let v185 : Index := Scalar.indexCast v184
  ![v185.toNat]

def k0_chk30 (v189 : IVec S16 32) : Prop :=
  (∀ a x, ((![v189] : Fin 1 → IVec S16 32) a x).toNat < S32768.size a)
theorem k0_idx42_inb : ∀ (v189 : IVec S16 32) (k0_hw30 : k0_chk30 v189), ∀ a x, ((![v189] : Fin 1 → IVec S16 32) a x).toNat < S32768.size a := fun v189 k0_hw30 => k0_hw30
def k0_off33 (k0_t9 : Fin k0_t9_loop.trips) : Fin 1 → Nat :=
  let c0_i32_100 : BitVec 32 := 0#32
  let c0_i32_64 : BitVec 32 := 0#32
  let c1_i32_66 : BitVec 32 := 1#32
  let arg11 : BitVec 32 := Scf.iv c0_i32_64 c1_i32_66 k0_t9
  let c8_i32_99 : BitVec 32 := 8#32
  let v178 : BitVec 32 := Scalar.muli arg11 c8_i32_99
  let v179 : BitVec 32 := Scalar.addi c0_i32_100 v178
  let c1_i32_105 : BitVec 32 := 1#32
  let v191 : BitVec 32 := Scalar.addi v179 c1_i32_105
  let c16_i32_106 : BitVec 32 := 16#32
  let v192 : BitVec 32 := Scalar.muli v191 c16_i32_106
  let v193 : Index := Scalar.indexCast v192
  ![v193.toNat]

def k0_chk31 (v197 : IVec S16 32) : Prop :=
  (∀ a x, ((![v197] : Fin 1 → IVec S16 32) a x).toNat < S32768.size a)
theorem k0_idx43_inb : ∀ (v197 : IVec S16 32) (k0_hw31 : k0_chk31 v197), ∀ a x, ((![v197] : Fin 1 → IVec S16 32) a x).toNat < S32768.size a := fun v197 k0_hw31 => k0_hw31
def k0_off34 (k0_t9 : Fin k0_t9_loop.trips) : Fin 1 → Nat :=
  let c0_i32_100 : BitVec 32 := 0#32
  let c0_i32_64 : BitVec 32 := 0#32
  let c1_i32_66 : BitVec 32 := 1#32
  let arg11 : BitVec 32 := Scf.iv c0_i32_64 c1_i32_66 k0_t9
  let c8_i32_99 : BitVec 32 := 8#32
  let v178 : BitVec 32 := Scalar.muli arg11 c8_i32_99
  let v179 : BitVec 32 := Scalar.addi c0_i32_100 v178
  let c2_i32_108 : BitVec 32 := 2#32
  let v199 : BitVec 32 := Scalar.addi v179 c2_i32_108
  let c16_i32_109 : BitVec 32 := 16#32
  let v200 : BitVec 32 := Scalar.muli v199 c16_i32_109
  let v201 : Index := Scalar.indexCast v200
  ![v201.toNat]

def k0_chk32 (v205 : IVec S16 32) : Prop :=
  (∀ a x, ((![v205] : Fin 1 → IVec S16 32) a x).toNat < S32768.size a)
theorem k0_idx44_inb : ∀ (v205 : IVec S16 32) (k0_hw32 : k0_chk32 v205), ∀ a x, ((![v205] : Fin 1 → IVec S16 32) a x).toNat < S32768.size a := fun v205 k0_hw32 => k0_hw32
def k0_off35 (k0_t9 : Fin k0_t9_loop.trips) : Fin 1 → Nat :=
  let c0_i32_100 : BitVec 32 := 0#32
  let c0_i32_64 : BitVec 32 := 0#32
  let c1_i32_66 : BitVec 32 := 1#32
  let arg11 : BitVec 32 := Scf.iv c0_i32_64 c1_i32_66 k0_t9
  let c8_i32_99 : BitVec 32 := 8#32
  let v178 : BitVec 32 := Scalar.muli arg11 c8_i32_99
  let v179 : BitVec 32 := Scalar.addi c0_i32_100 v178
  let c3_i32_110 : BitVec 32 := 3#32
  let v207 : BitVec 32 := Scalar.addi v179 c3_i32_110
  let c16_i32_111 : BitVec 32 := 16#32
  let v208 : BitVec 32 := Scalar.muli v207 c16_i32_111
  let v209 : Index := Scalar.indexCast v208
  ![v209.toNat]

def k0_chk33 (v213 : IVec S16 32) : Prop :=
  (∀ a x, ((![v213] : Fin 1 → IVec S16 32) a x).toNat < S32768.size a)
theorem k0_idx45_inb : ∀ (v213 : IVec S16 32) (k0_hw33 : k0_chk33 v213), ∀ a x, ((![v213] : Fin 1 → IVec S16 32) a x).toNat < S32768.size a := fun v213 k0_hw33 => k0_hw33
def k0_off36 (k0_t9 : Fin k0_t9_loop.trips) : Fin 1 → Nat :=
  let c0_i32_100 : BitVec 32 := 0#32
  let c0_i32_64 : BitVec 32 := 0#32
  let c1_i32_66 : BitVec 32 := 1#32
  let arg11 : BitVec 32 := Scf.iv c0_i32_64 c1_i32_66 k0_t9
  let c8_i32_99 : BitVec 32 := 8#32
  let v178 : BitVec 32 := Scalar.muli arg11 c8_i32_99
  let v179 : BitVec 32 := Scalar.addi c0_i32_100 v178
  let c4_i32_112 : BitVec 32 := 4#32
  let v215 : BitVec 32 := Scalar.addi v179 c4_i32_112
  let c16_i32_113 : BitVec 32 := 16#32
  let v216 : BitVec 32 := Scalar.muli v215 c16_i32_113
  let v217 : Index := Scalar.indexCast v216
  ![v217.toNat]

def k0_chk34 (v221 : IVec S16 32) : Prop :=
  (∀ a x, ((![v221] : Fin 1 → IVec S16 32) a x).toNat < S32768.size a)
theorem k0_idx46_inb : ∀ (v221 : IVec S16 32) (k0_hw34 : k0_chk34 v221), ∀ a x, ((![v221] : Fin 1 → IVec S16 32) a x).toNat < S32768.size a := fun v221 k0_hw34 => k0_hw34
def k0_off37 (k0_t9 : Fin k0_t9_loop.trips) : Fin 1 → Nat :=
  let c0_i32_100 : BitVec 32 := 0#32
  let c0_i32_64 : BitVec 32 := 0#32
  let c1_i32_66 : BitVec 32 := 1#32
  let arg11 : BitVec 32 := Scf.iv c0_i32_64 c1_i32_66 k0_t9
  let c8_i32_99 : BitVec 32 := 8#32
  let v178 : BitVec 32 := Scalar.muli arg11 c8_i32_99
  let v179 : BitVec 32 := Scalar.addi c0_i32_100 v178
  let c5_i32_114 : BitVec 32 := 5#32
  let v223 : BitVec 32 := Scalar.addi v179 c5_i32_114
  let c16_i32_115 : BitVec 32 := 16#32
  let v224 : BitVec 32 := Scalar.muli v223 c16_i32_115
  let v225 : Index := Scalar.indexCast v224
  ![v225.toNat]

def k0_chk35 (v229 : IVec S16 32) : Prop :=
  (∀ a x, ((![v229] : Fin 1 → IVec S16 32) a x).toNat < S32768.size a)
theorem k0_idx47_inb : ∀ (v229 : IVec S16 32) (k0_hw35 : k0_chk35 v229), ∀ a x, ((![v229] : Fin 1 → IVec S16 32) a x).toNat < S32768.size a := fun v229 k0_hw35 => k0_hw35
def k0_off38 (k0_t9 : Fin k0_t9_loop.trips) : Fin 1 → Nat :=
  let c0_i32_100 : BitVec 32 := 0#32
  let c0_i32_64 : BitVec 32 := 0#32
  let c1_i32_66 : BitVec 32 := 1#32
  let arg11 : BitVec 32 := Scf.iv c0_i32_64 c1_i32_66 k0_t9
  let c8_i32_99 : BitVec 32 := 8#32
  let v178 : BitVec 32 := Scalar.muli arg11 c8_i32_99
  let v179 : BitVec 32 := Scalar.addi c0_i32_100 v178
  let c6_i32_116 : BitVec 32 := 6#32
  let v231 : BitVec 32 := Scalar.addi v179 c6_i32_116
  let c16_i32_117 : BitVec 32 := 16#32
  let v232 : BitVec 32 := Scalar.muli v231 c16_i32_117
  let v233 : Index := Scalar.indexCast v232
  ![v233.toNat]

def k0_chk36 (v237 : IVec S16 32) : Prop :=
  (∀ a x, ((![v237] : Fin 1 → IVec S16 32) a x).toNat < S32768.size a)
theorem k0_idx48_inb : ∀ (v237 : IVec S16 32) (k0_hw36 : k0_chk36 v237), ∀ a x, ((![v237] : Fin 1 → IVec S16 32) a x).toNat < S32768.size a := fun v237 k0_hw36 => k0_hw36
def k0_off39 (k0_t9 : Fin k0_t9_loop.trips) : Fin 1 → Nat :=
  let c0_i32_100 : BitVec 32 := 0#32
  let c0_i32_64 : BitVec 32 := 0#32
  let c1_i32_66 : BitVec 32 := 1#32
  let arg11 : BitVec 32 := Scf.iv c0_i32_64 c1_i32_66 k0_t9
  let c8_i32_99 : BitVec 32 := 8#32
  let v178 : BitVec 32 := Scalar.muli arg11 c8_i32_99
  let v179 : BitVec 32 := Scalar.addi c0_i32_100 v178
  let c7_i32_118 : BitVec 32 := 7#32
  let v239 : BitVec 32 := Scalar.addi v179 c7_i32_118
  let c16_i32_119 : BitVec 32 := 16#32
  let v240 : BitVec 32 := Scalar.muli v239 c16_i32_119
  let v241 : Index := Scalar.indexCast v240
  ![v241.toNat]
@[reducible] def k0_t10_loop : Scf.Loop 32 :=
  let c0_i32_69 : BitVec 32 := 0#32
  let c32_i32_70 : BitVec 32 := 32#32
  let v128 : BitVec 32 := Scalar.addi c0_i32_69 c32_i32_70
  let c1_i32_71 : BitVec 32 := 1#32
  ⟨c0_i32_69, v128, c1_i32_71⟩
def k0_off40 (k0_t10 : Fin k0_t10_loop.trips) (c0_i32_101 : BitVec 32) : Fin 1 → Nat :=
  let c0_i32_100 : BitVec 32 := 0#32
  let c0_i32_69 : BitVec 32 := 0#32
  let c1_i32_71 : BitVec 32 := 1#32
  let arg11 : BitVec 32 := Scf.iv c0_i32_69 c1_i32_71 k0_t10
  let c8_i32_99 : BitVec 32 := 8#32
  let v178 : BitVec 32 := Scalar.muli arg11 c8_i32_99
  let v179 : BitVec 32 := Scalar.addi c0_i32_100 v178
  let v180 : BitVec 32 := Scalar.addi v179 c0_i32_101
  let c16_i32_102 : BitVec 32 := 16#32
  let v181 : BitVec 32 := Scalar.muli v180 c16_i32_102
  let v182 : Index := Scalar.indexCast v181
  ![v182.toNat]
@[reducible] def k0_t11_loop : Scf.Loop 32 :=
  let c0_i32_74 : BitVec 32 := 0#32
  let c256_i32_75 : BitVec 32 := 256#32
  let v129 : BitVec 32 := Scalar.addi c0_i32_74 c256_i32_75
  let c1_i32_76 : BitVec 32 := 1#32
  ⟨c0_i32_74, v129, c1_i32_76⟩
def k0_off41 (k0_t11 : Fin k0_t11_loop.trips) : Fin 1 → Nat :=
  let c0_i32_99 : BitVec 32 := 0#32
  let c0_i32_74 : BitVec 32 := 0#32
  let c1_i32_76 : BitVec 32 := 1#32
  let arg11 : BitVec 32 := Scf.iv c0_i32_74 c1_i32_76 k0_t11
  let c128_i32 : BitVec 32 := 128#32
  let v178 : BitVec 32 := Scalar.muli arg11 c128_i32
  let v179 : BitVec 32 := Scalar.addi c0_i32_99 v178
  let c0_i32_100 : BitVec 32 := 0#32
  let v180 : BitVec 32 := Scalar.addi v179 c0_i32_100
  let v181 : Index := Scalar.indexCast v180
  ![v181.toNat]

def k0_chk37 (v193 : IVec S16 32) : Prop :=
  (∀ a x, ((![v193] : Fin 1 → IVec S16 32) a x).toNat < S4096.size a) ∧
  (∀ a x, ((![v193] : Fin 1 → IVec S16 32) a x).toNat < S4096.size a)
theorem k0_idx49_inb : ∀ (v193 : IVec S16 32) (k0_hw37 : k0_chk37 v193), ∀ a x, ((![v193] : Fin 1 → IVec S16 32) a x).toNat < S4096.size a := fun v193 k0_hw37 => k0_hw37.1
theorem k0_idx50_inb : ∀ (v193 : IVec S16 32) (k0_hw37 : k0_chk37 v193), ∀ a x, ((![v193] : Fin 1 → IVec S16 32) a x).toNat < S4096.size a := fun v193 k0_hw37 => k0_hw37.2
def k0_off42 (k0_t11 : Fin k0_t11_loop.trips) : Fin 1 → Nat :=
  let c0_i32_99 : BitVec 32 := 0#32
  let c0_i32_74 : BitVec 32 := 0#32
  let c1_i32_76 : BitVec 32 := 1#32
  let arg11 : BitVec 32 := Scf.iv c0_i32_74 c1_i32_76 k0_t11
  let c128_i32 : BitVec 32 := 128#32
  let v178 : BitVec 32 := Scalar.muli arg11 c128_i32
  let v179 : BitVec 32 := Scalar.addi c0_i32_99 v178
  let c16_i32_104 : BitVec 32 := 16#32
  let v194 : BitVec 32 := Scalar.addi v179 c16_i32_104
  let v195 : Index := Scalar.indexCast v194
  ![v195.toNat]

def k0_chk38 (v207 : IVec S16 32) : Prop :=
  (∀ a x, ((![v207] : Fin 1 → IVec S16 32) a x).toNat < S4096.size a) ∧
  (∀ a x, ((![v207] : Fin 1 → IVec S16 32) a x).toNat < S4096.size a)
theorem k0_idx51_inb : ∀ (v207 : IVec S16 32) (k0_hw38 : k0_chk38 v207), ∀ a x, ((![v207] : Fin 1 → IVec S16 32) a x).toNat < S4096.size a := fun v207 k0_hw38 => k0_hw38.1
theorem k0_idx52_inb : ∀ (v207 : IVec S16 32) (k0_hw38 : k0_chk38 v207), ∀ a x, ((![v207] : Fin 1 → IVec S16 32) a x).toNat < S4096.size a := fun v207 k0_hw38 => k0_hw38.2
def k0_off43 (k0_t11 : Fin k0_t11_loop.trips) : Fin 1 → Nat :=
  let c0_i32_99 : BitVec 32 := 0#32
  let c0_i32_74 : BitVec 32 := 0#32
  let c1_i32_76 : BitVec 32 := 1#32
  let arg11 : BitVec 32 := Scf.iv c0_i32_74 c1_i32_76 k0_t11
  let c128_i32 : BitVec 32 := 128#32
  let v178 : BitVec 32 := Scalar.muli arg11 c128_i32
  let v179 : BitVec 32 := Scalar.addi c0_i32_99 v178
  let c32_i32_109 : BitVec 32 := 32#32
  let v208 : BitVec 32 := Scalar.addi v179 c32_i32_109
  let v209 : Index := Scalar.indexCast v208
  ![v209.toNat]

def k0_chk39 (v221 : IVec S16 32) : Prop :=
  (∀ a x, ((![v221] : Fin 1 → IVec S16 32) a x).toNat < S4096.size a) ∧
  (∀ a x, ((![v221] : Fin 1 → IVec S16 32) a x).toNat < S4096.size a)
theorem k0_idx53_inb : ∀ (v221 : IVec S16 32) (k0_hw39 : k0_chk39 v221), ∀ a x, ((![v221] : Fin 1 → IVec S16 32) a x).toNat < S4096.size a := fun v221 k0_hw39 => k0_hw39.1
theorem k0_idx54_inb : ∀ (v221 : IVec S16 32) (k0_hw39 : k0_chk39 v221), ∀ a x, ((![v221] : Fin 1 → IVec S16 32) a x).toNat < S4096.size a := fun v221 k0_hw39 => k0_hw39.2
def k0_off44 (k0_t11 : Fin k0_t11_loop.trips) : Fin 1 → Nat :=
  let c0_i32_99 : BitVec 32 := 0#32
  let c0_i32_74 : BitVec 32 := 0#32
  let c1_i32_76 : BitVec 32 := 1#32
  let arg11 : BitVec 32 := Scf.iv c0_i32_74 c1_i32_76 k0_t11
  let c128_i32 : BitVec 32 := 128#32
  let v178 : BitVec 32 := Scalar.muli arg11 c128_i32
  let v179 : BitVec 32 := Scalar.addi c0_i32_99 v178
  let c48_i32 : BitVec 32 := 48#32
  let v222 : BitVec 32 := Scalar.addi v179 c48_i32
  let v223 : Index := Scalar.indexCast v222
  ![v223.toNat]

def k0_chk40 (v235 : IVec S16 32) : Prop :=
  (∀ a x, ((![v235] : Fin 1 → IVec S16 32) a x).toNat < S4096.size a) ∧
  (∀ a x, ((![v235] : Fin 1 → IVec S16 32) a x).toNat < S4096.size a)
theorem k0_idx55_inb : ∀ (v235 : IVec S16 32) (k0_hw40 : k0_chk40 v235), ∀ a x, ((![v235] : Fin 1 → IVec S16 32) a x).toNat < S4096.size a := fun v235 k0_hw40 => k0_hw40.1
theorem k0_idx56_inb : ∀ (v235 : IVec S16 32) (k0_hw40 : k0_chk40 v235), ∀ a x, ((![v235] : Fin 1 → IVec S16 32) a x).toNat < S4096.size a := fun v235 k0_hw40 => k0_hw40.2
def k0_off45 (k0_t11 : Fin k0_t11_loop.trips) : Fin 1 → Nat :=
  let c0_i32_99 : BitVec 32 := 0#32
  let c0_i32_74 : BitVec 32 := 0#32
  let c1_i32_76 : BitVec 32 := 1#32
  let arg11 : BitVec 32 := Scf.iv c0_i32_74 c1_i32_76 k0_t11
  let c128_i32 : BitVec 32 := 128#32
  let v178 : BitVec 32 := Scalar.muli arg11 c128_i32
  let v179 : BitVec 32 := Scalar.addi c0_i32_99 v178
  let c64_i32_118 : BitVec 32 := 64#32
  let v236 : BitVec 32 := Scalar.addi v179 c64_i32_118
  let v237 : Index := Scalar.indexCast v236
  ![v237.toNat]

def k0_chk41 (v249 : IVec S16 32) : Prop :=
  (∀ a x, ((![v249] : Fin 1 → IVec S16 32) a x).toNat < S4096.size a) ∧
  (∀ a x, ((![v249] : Fin 1 → IVec S16 32) a x).toNat < S4096.size a)
theorem k0_idx57_inb : ∀ (v249 : IVec S16 32) (k0_hw41 : k0_chk41 v249), ∀ a x, ((![v249] : Fin 1 → IVec S16 32) a x).toNat < S4096.size a := fun v249 k0_hw41 => k0_hw41.1
theorem k0_idx58_inb : ∀ (v249 : IVec S16 32) (k0_hw41 : k0_chk41 v249), ∀ a x, ((![v249] : Fin 1 → IVec S16 32) a x).toNat < S4096.size a := fun v249 k0_hw41 => k0_hw41.2
def k0_off46 (k0_t11 : Fin k0_t11_loop.trips) : Fin 1 → Nat :=
  let c0_i32_99 : BitVec 32 := 0#32
  let c0_i32_74 : BitVec 32 := 0#32
  let c1_i32_76 : BitVec 32 := 1#32
  let arg11 : BitVec 32 := Scf.iv c0_i32_74 c1_i32_76 k0_t11
  let c128_i32 : BitVec 32 := 128#32
  let v178 : BitVec 32 := Scalar.muli arg11 c128_i32
  let v179 : BitVec 32 := Scalar.addi c0_i32_99 v178
  let c80_i32 : BitVec 32 := 80#32
  let v250 : BitVec 32 := Scalar.addi v179 c80_i32
  let v251 : Index := Scalar.indexCast v250
  ![v251.toNat]

def k0_chk42 (v263 : IVec S16 32) : Prop :=
  (∀ a x, ((![v263] : Fin 1 → IVec S16 32) a x).toNat < S4096.size a) ∧
  (∀ a x, ((![v263] : Fin 1 → IVec S16 32) a x).toNat < S4096.size a)
theorem k0_idx59_inb : ∀ (v263 : IVec S16 32) (k0_hw42 : k0_chk42 v263), ∀ a x, ((![v263] : Fin 1 → IVec S16 32) a x).toNat < S4096.size a := fun v263 k0_hw42 => k0_hw42.1
theorem k0_idx60_inb : ∀ (v263 : IVec S16 32) (k0_hw42 : k0_chk42 v263), ∀ a x, ((![v263] : Fin 1 → IVec S16 32) a x).toNat < S4096.size a := fun v263 k0_hw42 => k0_hw42.2
def k0_off47 (k0_t11 : Fin k0_t11_loop.trips) : Fin 1 → Nat :=
  let c0_i32_99 : BitVec 32 := 0#32
  let c0_i32_74 : BitVec 32 := 0#32
  let c1_i32_76 : BitVec 32 := 1#32
  let arg11 : BitVec 32 := Scf.iv c0_i32_74 c1_i32_76 k0_t11
  let c128_i32 : BitVec 32 := 128#32
  let v178 : BitVec 32 := Scalar.muli arg11 c128_i32
  let v179 : BitVec 32 := Scalar.addi c0_i32_99 v178
  let c96_i32 : BitVec 32 := 96#32
  let v264 : BitVec 32 := Scalar.addi v179 c96_i32
  let v265 : Index := Scalar.indexCast v264
  ![v265.toNat]

def k0_chk43 (v277 : IVec S16 32) : Prop :=
  (∀ a x, ((![v277] : Fin 1 → IVec S16 32) a x).toNat < S4096.size a) ∧
  (∀ a x, ((![v277] : Fin 1 → IVec S16 32) a x).toNat < S4096.size a)
theorem k0_idx61_inb : ∀ (v277 : IVec S16 32) (k0_hw43 : k0_chk43 v277), ∀ a x, ((![v277] : Fin 1 → IVec S16 32) a x).toNat < S4096.size a := fun v277 k0_hw43 => k0_hw43.1
theorem k0_idx62_inb : ∀ (v277 : IVec S16 32) (k0_hw43 : k0_chk43 v277), ∀ a x, ((![v277] : Fin 1 → IVec S16 32) a x).toNat < S4096.size a := fun v277 k0_hw43 => k0_hw43.2
def k0_off48 (k0_t11 : Fin k0_t11_loop.trips) : Fin 1 → Nat :=
  let c0_i32_99 : BitVec 32 := 0#32
  let c0_i32_74 : BitVec 32 := 0#32
  let c1_i32_76 : BitVec 32 := 1#32
  let arg11 : BitVec 32 := Scf.iv c0_i32_74 c1_i32_76 k0_t11
  let c128_i32 : BitVec 32 := 128#32
  let v178 : BitVec 32 := Scalar.muli arg11 c128_i32
  let v179 : BitVec 32 := Scalar.addi c0_i32_99 v178
  let c112_i32 : BitVec 32 := 112#32
  let v278 : BitVec 32 := Scalar.addi v179 c112_i32
  let v279 : Index := Scalar.indexCast v278
  ![v279.toNat]

def k0_chk44 (v291 : IVec S16 32) : Prop :=
  (∀ a x, ((![v291] : Fin 1 → IVec S16 32) a x).toNat < S4096.size a) ∧
  (∀ a x, ((![v291] : Fin 1 → IVec S16 32) a x).toNat < S4096.size a)
theorem k0_idx63_inb : ∀ (v291 : IVec S16 32) (k0_hw44 : k0_chk44 v291), ∀ a x, ((![v291] : Fin 1 → IVec S16 32) a x).toNat < S4096.size a := fun v291 k0_hw44 => k0_hw44.1
theorem k0_idx64_inb : ∀ (v291 : IVec S16 32) (k0_hw44 : k0_chk44 v291), ∀ a x, ((![v291] : Fin 1 → IVec S16 32) a x).toNat < S4096.size a := fun v291 k0_hw44 => k0_hw44.2
@[reducible] def k0_t12_loop : Scf.Loop 32 :=
  let c0_i32_80 : BitVec 32 := 0#32
  let c64_i32_81 : BitVec 32 := 64#32
  let v133 : BitVec 32 := Scalar.addi c0_i32_80 c64_i32_81
  let c1_i32_82 : BitVec 32 := 1#32
  ⟨c0_i32_80, v133, c1_i32_82⟩

def k0_chk45 (arg12 : IVec S16 32) : Prop :=
  (∀ a x, ((![arg12] : Fin 1 → IVec S16 32) a x).toNat < S4096.size a) ∧
  (∀ a x, ((![arg12] : Fin 1 → IVec S16 32) a x).toNat < S4096.size a)
theorem k0_idx65_inb : ∀ (arg12 : IVec S16 32) (k0_hw45 : k0_chk45 arg12), ∀ a x, ((![arg12] : Fin 1 → IVec S16 32) a x).toNat < S4096.size a := fun arg12 k0_hw45 => k0_hw45.1
theorem k0_idx66_inb : ∀ (arg12 : IVec S16 32) (k0_hw45 : k0_chk45 arg12), ∀ a x, ((![arg12] : Fin 1 → IVec S16 32) a x).toNat < S4096.size a := fun arg12 k0_hw45 => k0_hw45.2

def k0_chk46 (v192 : IVec S16 32) : Prop :=
  (∀ a x, ((![v192] : Fin 1 → IVec S16 32) a x).toNat < S4096.size a) ∧
  (∀ a x, ((![v192] : Fin 1 → IVec S16 32) a x).toNat < S4096.size a)
theorem k0_idx67_inb : ∀ (v192 : IVec S16 32) (k0_hw46 : k0_chk46 v192), ∀ a x, ((![v192] : Fin 1 → IVec S16 32) a x).toNat < S4096.size a := fun v192 k0_hw46 => k0_hw46.1
theorem k0_idx68_inb : ∀ (v192 : IVec S16 32) (k0_hw46 : k0_chk46 v192), ∀ a x, ((![v192] : Fin 1 → IVec S16 32) a x).toNat < S4096.size a := fun v192 k0_hw46 => k0_hw46.2

def k0_chk47 (v209 : IVec S16 32) : Prop :=
  (∀ a x, ((![v209] : Fin 1 → IVec S16 32) a x).toNat < S4096.size a) ∧
  (∀ a x, ((![v209] : Fin 1 → IVec S16 32) a x).toNat < S4096.size a)
theorem k0_idx69_inb : ∀ (v209 : IVec S16 32) (k0_hw47 : k0_chk47 v209), ∀ a x, ((![v209] : Fin 1 → IVec S16 32) a x).toNat < S4096.size a := fun v209 k0_hw47 => k0_hw47.1
theorem k0_idx70_inb : ∀ (v209 : IVec S16 32) (k0_hw47 : k0_chk47 v209), ∀ a x, ((![v209] : Fin 1 → IVec S16 32) a x).toNat < S4096.size a := fun v209 k0_hw47 => k0_hw47.2

def k0_chk48 (v226 : IVec S16 32) : Prop :=
  (∀ a x, ((![v226] : Fin 1 → IVec S16 32) a x).toNat < S4096.size a) ∧
  (∀ a x, ((![v226] : Fin 1 → IVec S16 32) a x).toNat < S4096.size a)
theorem k0_idx71_inb : ∀ (v226 : IVec S16 32) (k0_hw48 : k0_chk48 v226), ∀ a x, ((![v226] : Fin 1 → IVec S16 32) a x).toNat < S4096.size a := fun v226 k0_hw48 => k0_hw48.1
theorem k0_idx72_inb : ∀ (v226 : IVec S16 32) (k0_hw48 : k0_chk48 v226), ∀ a x, ((![v226] : Fin 1 → IVec S16 32) a x).toNat < S4096.size a := fun v226 k0_hw48 => k0_hw48.2
@[reducible] def k0_t13_loop : Scf.Loop 32 :=
  let c0_i32_85 : BitVec 32 := 0#32
  let c256_i32_86 : BitVec 32 := 256#32
  let v138 : BitVec 32 := Scalar.addi c0_i32_85 c256_i32_86
  let c1_i32_87 : BitVec 32 := 1#32
  ⟨c0_i32_85, v138, c1_i32_87⟩
def k0_off49 (k0_t13 : Fin k0_t13_loop.trips) (c0_i32_100 : BitVec 32) : Fin 1 → Nat :=
  let c0_i32_99 : BitVec 32 := 0#32
  let c0_i32_85 : BitVec 32 := 0#32
  let c1_i32_87 : BitVec 32 := 1#32
  let arg11 : BitVec 32 := Scf.iv c0_i32_85 c1_i32_87 k0_t13
  let c128_i32 : BitVec 32 := 128#32
  let v178 : BitVec 32 := Scalar.muli arg11 c128_i32
  let v179 : BitVec 32 := Scalar.addi c0_i32_99 v178
  let v180 : BitVec 32 := Scalar.addi v179 c0_i32_100
  let v181 : Index := Scalar.indexCast v180
  ![v181.toNat]
@[reducible] def k0_t14_loop : Scf.Loop 32 :=
  let c0_i32_90 : BitVec 32 := 0#32
  let c256_i32_91 : BitVec 32 := 256#32
  let v157 : BitVec 32 := Scalar.addi c0_i32_90 c256_i32_91
  let c1_i32_92 : BitVec 32 := 1#32
  ⟨c0_i32_90, v157, c1_i32_92⟩
def k0_off50 (k0_t14 : Fin k0_t14_loop.trips) (c0_i32_100 : BitVec 32) : Fin 1 → Nat :=
  let c0_i32_99 : BitVec 32 := 0#32
  let c0_i32_90 : BitVec 32 := 0#32
  let c1_i32_92 : BitVec 32 := 1#32
  let arg11 : BitVec 32 := Scf.iv c0_i32_90 c1_i32_92 k0_t14
  let c128_i32 : BitVec 32 := 128#32
  let v178 : BitVec 32 := Scalar.muli arg11 c128_i32
  let v179 : BitVec 32 := Scalar.addi c0_i32_99 v178
  let v180 : BitVec 32 := Scalar.addi v179 c0_i32_100
  let v181 : Index := Scalar.indexCast v180
  ![v181.toNat]
@[reducible] def k0_t15_loop : Scf.Loop 32 :=
  let c0_i32_95 : BitVec 32 := 0#32
  let c256_i32_96 : BitVec 32 := 256#32
  let v176 : BitVec 32 := Scalar.addi c0_i32_95 c256_i32_96
  let c1_i32_97 : BitVec 32 := 1#32
  ⟨c0_i32_95, v176, c1_i32_97⟩
def k0_off51 (k0_t15 : Fin k0_t15_loop.trips) : Fin 1 → Nat :=
  let c0_i32_100 : BitVec 32 := 0#32
  let c0_i32_95 : BitVec 32 := 0#32
  let c1_i32_97 : BitVec 32 := 1#32
  let arg11 : BitVec 32 := Scf.iv c0_i32_95 c1_i32_97 k0_t15
  let c8_i32_99 : BitVec 32 := 8#32
  let v178 : BitVec 32 := Scalar.muli arg11 c8_i32_99
  let v179 : BitVec 32 := Scalar.addi c0_i32_100 v178
  let c0_i32_101 : BitVec 32 := 0#32
  let v180 : BitVec 32 := Scalar.addi v179 c0_i32_101
  let c16_i32_102 : BitVec 32 := 16#32
  let v181 : BitVec 32 := Scalar.muli v180 c16_i32_102
  let v182 : Index := Scalar.indexCast v181
  ![v182.toNat]

def k0_chk49 (v188 : IVec S16 32) : Prop :=
  (∀ a x, ((![v188] : Fin 1 → IVec S16 32) a x).toNat < S32768.size a)
theorem k0_idx73_inb : ∀ (v188 : IVec S16 32) (k0_hw49 : k0_chk49 v188), ∀ a x, ((![v188] : Fin 1 → IVec S16 32) a x).toNat < S32768.size a := fun v188 k0_hw49 => k0_hw49
def k0_off52 (k0_t15 : Fin k0_t15_loop.trips) : Fin 1 → Nat :=
  let c0_i32_100 : BitVec 32 := 0#32
  let c0_i32_95 : BitVec 32 := 0#32
  let c1_i32_97 : BitVec 32 := 1#32
  let arg11 : BitVec 32 := Scf.iv c0_i32_95 c1_i32_97 k0_t15
  let c8_i32_99 : BitVec 32 := 8#32
  let v178 : BitVec 32 := Scalar.muli arg11 c8_i32_99
  let v179 : BitVec 32 := Scalar.addi c0_i32_100 v178
  let c1_i32_105 : BitVec 32 := 1#32
  let v189 : BitVec 32 := Scalar.addi v179 c1_i32_105
  let c16_i32_106 : BitVec 32 := 16#32
  let v190 : BitVec 32 := Scalar.muli v189 c16_i32_106
  let v191 : Index := Scalar.indexCast v190
  ![v191.toNat]

def k0_chk50 (v197 : IVec S16 32) : Prop :=
  (∀ a x, ((![v197] : Fin 1 → IVec S16 32) a x).toNat < S32768.size a)
theorem k0_idx74_inb : ∀ (v197 : IVec S16 32) (k0_hw50 : k0_chk50 v197), ∀ a x, ((![v197] : Fin 1 → IVec S16 32) a x).toNat < S32768.size a := fun v197 k0_hw50 => k0_hw50
def k0_off53 (k0_t15 : Fin k0_t15_loop.trips) : Fin 1 → Nat :=
  let c0_i32_100 : BitVec 32 := 0#32
  let c0_i32_95 : BitVec 32 := 0#32
  let c1_i32_97 : BitVec 32 := 1#32
  let arg11 : BitVec 32 := Scf.iv c0_i32_95 c1_i32_97 k0_t15
  let c8_i32_99 : BitVec 32 := 8#32
  let v178 : BitVec 32 := Scalar.muli arg11 c8_i32_99
  let v179 : BitVec 32 := Scalar.addi c0_i32_100 v178
  let c2_i32_109 : BitVec 32 := 2#32
  let v198 : BitVec 32 := Scalar.addi v179 c2_i32_109
  let c16_i32_110 : BitVec 32 := 16#32
  let v199 : BitVec 32 := Scalar.muli v198 c16_i32_110
  let v200 : Index := Scalar.indexCast v199
  ![v200.toNat]

def k0_chk51 (v206 : IVec S16 32) : Prop :=
  (∀ a x, ((![v206] : Fin 1 → IVec S16 32) a x).toNat < S32768.size a)
theorem k0_idx75_inb : ∀ (v206 : IVec S16 32) (k0_hw51 : k0_chk51 v206), ∀ a x, ((![v206] : Fin 1 → IVec S16 32) a x).toNat < S32768.size a := fun v206 k0_hw51 => k0_hw51
def k0_off54 (k0_t15 : Fin k0_t15_loop.trips) : Fin 1 → Nat :=
  let c0_i32_100 : BitVec 32 := 0#32
  let c0_i32_95 : BitVec 32 := 0#32
  let c1_i32_97 : BitVec 32 := 1#32
  let arg11 : BitVec 32 := Scf.iv c0_i32_95 c1_i32_97 k0_t15
  let c8_i32_99 : BitVec 32 := 8#32
  let v178 : BitVec 32 := Scalar.muli arg11 c8_i32_99
  let v179 : BitVec 32 := Scalar.addi c0_i32_100 v178
  let c3_i32 : BitVec 32 := 3#32
  let v207 : BitVec 32 := Scalar.addi v179 c3_i32
  let c16_i32_113 : BitVec 32 := 16#32
  let v208 : BitVec 32 := Scalar.muli v207 c16_i32_113
  let v209 : Index := Scalar.indexCast v208
  ![v209.toNat]

def k0_chk52 (v215 : IVec S16 32) : Prop :=
  (∀ a x, ((![v215] : Fin 1 → IVec S16 32) a x).toNat < S32768.size a)
theorem k0_idx76_inb : ∀ (v215 : IVec S16 32) (k0_hw52 : k0_chk52 v215), ∀ a x, ((![v215] : Fin 1 → IVec S16 32) a x).toNat < S32768.size a := fun v215 k0_hw52 => k0_hw52
def k0_off55 (k0_t15 : Fin k0_t15_loop.trips) : Fin 1 → Nat :=
  let c0_i32_100 : BitVec 32 := 0#32
  let c0_i32_95 : BitVec 32 := 0#32
  let c1_i32_97 : BitVec 32 := 1#32
  let arg11 : BitVec 32 := Scf.iv c0_i32_95 c1_i32_97 k0_t15
  let c8_i32_99 : BitVec 32 := 8#32
  let v178 : BitVec 32 := Scalar.muli arg11 c8_i32_99
  let v179 : BitVec 32 := Scalar.addi c0_i32_100 v178
  let c4_i32 : BitVec 32 := 4#32
  let v216 : BitVec 32 := Scalar.addi v179 c4_i32
  let c16_i32_116 : BitVec 32 := 16#32
  let v217 : BitVec 32 := Scalar.muli v216 c16_i32_116
  let v218 : Index := Scalar.indexCast v217
  ![v218.toNat]

def k0_chk53 (v224 : IVec S16 32) : Prop :=
  (∀ a x, ((![v224] : Fin 1 → IVec S16 32) a x).toNat < S32768.size a)
theorem k0_idx77_inb : ∀ (v224 : IVec S16 32) (k0_hw53 : k0_chk53 v224), ∀ a x, ((![v224] : Fin 1 → IVec S16 32) a x).toNat < S32768.size a := fun v224 k0_hw53 => k0_hw53
def k0_off56 (k0_t15 : Fin k0_t15_loop.trips) : Fin 1 → Nat :=
  let c0_i32_100 : BitVec 32 := 0#32
  let c0_i32_95 : BitVec 32 := 0#32
  let c1_i32_97 : BitVec 32 := 1#32
  let arg11 : BitVec 32 := Scf.iv c0_i32_95 c1_i32_97 k0_t15
  let c8_i32_99 : BitVec 32 := 8#32
  let v178 : BitVec 32 := Scalar.muli arg11 c8_i32_99
  let v179 : BitVec 32 := Scalar.addi c0_i32_100 v178
  let c5_i32 : BitVec 32 := 5#32
  let v225 : BitVec 32 := Scalar.addi v179 c5_i32
  let c16_i32_119 : BitVec 32 := 16#32
  let v226 : BitVec 32 := Scalar.muli v225 c16_i32_119
  let v227 : Index := Scalar.indexCast v226
  ![v227.toNat]

def k0_chk54 (v233 : IVec S16 32) : Prop :=
  (∀ a x, ((![v233] : Fin 1 → IVec S16 32) a x).toNat < S32768.size a)
theorem k0_idx78_inb : ∀ (v233 : IVec S16 32) (k0_hw54 : k0_chk54 v233), ∀ a x, ((![v233] : Fin 1 → IVec S16 32) a x).toNat < S32768.size a := fun v233 k0_hw54 => k0_hw54
def k0_off57 (k0_t15 : Fin k0_t15_loop.trips) : Fin 1 → Nat :=
  let c0_i32_100 : BitVec 32 := 0#32
  let c0_i32_95 : BitVec 32 := 0#32
  let c1_i32_97 : BitVec 32 := 1#32
  let arg11 : BitVec 32 := Scf.iv c0_i32_95 c1_i32_97 k0_t15
  let c8_i32_99 : BitVec 32 := 8#32
  let v178 : BitVec 32 := Scalar.muli arg11 c8_i32_99
  let v179 : BitVec 32 := Scalar.addi c0_i32_100 v178
  let c6_i32 : BitVec 32 := 6#32
  let v234 : BitVec 32 := Scalar.addi v179 c6_i32
  let c16_i32_122 : BitVec 32 := 16#32
  let v235 : BitVec 32 := Scalar.muli v234 c16_i32_122
  let v236 : Index := Scalar.indexCast v235
  ![v236.toNat]

def k0_chk55 (v242 : IVec S16 32) : Prop :=
  (∀ a x, ((![v242] : Fin 1 → IVec S16 32) a x).toNat < S32768.size a)
theorem k0_idx79_inb : ∀ (v242 : IVec S16 32) (k0_hw55 : k0_chk55 v242), ∀ a x, ((![v242] : Fin 1 → IVec S16 32) a x).toNat < S32768.size a := fun v242 k0_hw55 => k0_hw55
def k0_off58 (k0_t15 : Fin k0_t15_loop.trips) : Fin 1 → Nat :=
  let c0_i32_100 : BitVec 32 := 0#32
  let c0_i32_95 : BitVec 32 := 0#32
  let c1_i32_97 : BitVec 32 := 1#32
  let arg11 : BitVec 32 := Scf.iv c0_i32_95 c1_i32_97 k0_t15
  let c8_i32_99 : BitVec 32 := 8#32
  let v178 : BitVec 32 := Scalar.muli arg11 c8_i32_99
  let v179 : BitVec 32 := Scalar.addi c0_i32_100 v178
  let c7_i32 : BitVec 32 := 7#32
  let v243 : BitVec 32 := Scalar.addi v179 c7_i32
  let c16_i32_125 : BitVec 32 := 16#32
  let v244 : BitVec 32 := Scalar.muli v243 c16_i32_125
  let v245 : Index := Scalar.indexCast v244
  ![v245.toNat]

def k0_chk56 (v251 : IVec S16 32) : Prop :=
  (∀ a x, ((![v251] : Fin 1 → IVec S16 32) a x).toNat < S32768.size a)
theorem k0_idx80_inb : ∀ (v251 : IVec S16 32) (k0_hw56 : k0_chk56 v251), ∀ a x, ((![v251] : Fin 1 → IVec S16 32) a x).toNat < S32768.size a := fun v251 k0_hw56 => k0_hw56
def k0_off59 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_61 : BitVec 32 := 16#32
  let v115 : BitVec 32 := Scalar.muli v1 c16_i32_61
  let c2_i32_9 : BitVec 32 := 2#32
  let c0_i32_3 : BitVec 32 := 0#32
  let c1_i32 : BitVec 32 := 1#32
  let arg10 : BitVec 32 := Scf.iv c0_i32_3 c1_i32 k0_t1
  let v23 : BitVec 32 := Scalar.muli c2_i32_9 arg10
  let c1_i32_60 : BitVec 32 := 1#32
  let v114 : BitVec 32 := Scalar.addi v23 c1_i32_60
  let v116 : BitVec 32 := Scalar.addi v115 v114
  let c32768_i32_62 : BitVec 32 := 32768#32
  let v117 : BitVec 32 := Scalar.muli v116 c32768_i32_62
  ![v117.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "least" => some ⊥
  | _ => none
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S8192, .f32⟩
  | .hbm, ⟨3, _⟩ => ⟨S8192x1, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S_, .f32⟩
  | .hbm, ⟨20, _⟩ => ⟨S8192x2048, .f32⟩
  | .hbm, ⟨21, _⟩ => ⟨S8192x2048, .i1⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S_, .f32⟩
  | .hbm, ⟨41, _⟩ => ⟨S8192x2048, .f32⟩
  | .hbm, ⟨42, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_call1_call0_cst : Ref sig .tc := ⟨.hbm, 18, rfl⟩
abbrev main_call1_call0_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.Micro.lean ====
/-
  One memory operation of a vector subcore at a time, over a scratch buffer held whole and known by what its view
  reads (`holds`): a load, a store, an indexed load, an indexed store and a check, each at the head of a program. The
  lemmas take the rest of the state along (`St`: the group's buffer, the transposed group, the two histograms, and
  anything else), so that a loop's trip is a chain of them with no proof mode.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Transfers
public import Idealize.ShloMosaic.Lib.Scf

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UH : Type := URounds (GSem nD τ sig) ℕ
abbrev UU : Type := UH × Counters

local notation "𝕄" => MT nD τ sig (HIx 1) (Elt F) ℕ UU ℕ

abbrev 𝒱₀ : Variants := Variants.none

variable (c : Thread nD τ)

/-- The whole buffer behind a memref, its view reading `X`. -/
def holds {s : Shape} (b : Memref sig c.2.kind .vmem s .f32) (X : s.Idx → F .f32) : sProp 𝕄 :=
  iprop(∃ f : Buf (Elt F) (b.view.loc c), ⌜b.view.read (Elt F) f = X⌝ ∗ (b.view.loc c ↦[b.view.set]{fullShare} f))

/-- The running program's triple at a vector subcore of this kernel. -/
abbrev wpK {α : Type} (p : Prog (TpuEff nD τ sig (Elt F) Λ₀ c.2) α) (Q : α → sProp 𝕄) : sProp 𝕄 :=
  wp frame (wpE (defs₀ (F := F)) 𝒱₀ c none) Set.univ p Q

variable {c}
variable {s : Shape}

theorem of_op {α : Type} {Φ : α → sProp 𝕄} {R : sProp 𝕄}
    {β : Type} {e : TpuEff nD τ sig (Elt F) Λ₀ c.2 β} {k : β → Prog (TpuEff nD τ sig (Elt F) Λ₀ c.2) α}
    (h : R ⊢ wpK c (.op e k) Φ) : R ⊢ wpK c (Prog.lift e >>= k) Φ := h

theorem ld {α : Type} {Φ : α → sProp 𝕄} {R : sProp 𝕄}
    {b : Memref sig c.2.kind .vmem s .f32} {X : s.Idx → F .f32} {r : LoadRect s} {hl : b.view.LoadsAt r}
    {k : (r.shape.Idx → F .f32) → Prog (TpuEff nD τ sig (Elt F) Λ₀ c.2) α}
    (h : iprop(holds c b X ∗ R) ⊢ wpK c (k fun j => X (r.idx j)) Φ) :
    iprop(holds c b X ∗ R) ⊢ wpK c (Prog.lift (.load b r hl) >>= k) Φ := by
  refine of_op ?_
  unfold holds at *
  iintro ⟨⟨%f, %hf, Hb⟩, HR⟩
  subst hf
  iapply (wp_load (defs := defs₀ (F := F)) 𝒱₀ c none Set.univ (hl := hl)
    (fun i hi => View.setOn_subset_set _ _ hi)) $$ Hb
  iintro Hb
  iapply h
  isplitl [Hb]
  · iexists f; isplitr; · ipureintro; rfl
    iexact Hb
  · iexact HR

/-- `X` after the vector `w` is stored on the rectangle `r`. -/
def put (X : s.Idx → F .f32) (r : Rect s) (w : r.shape.Idx → F .f32) : s.Idx → F .f32 :=
  fun i => match preimage? r.emb i with | some j => w j | none => X i

theorem put_emb (X : s.Idx → F .f32) (r : Rect s) (w : r.shape.Idx → F .f32) (j : r.shape.Idx) :
    put X r w (r.idx j) = w j := by
  unfold put
  rw [show r.idx j = r.emb j from rfl, preimage?_emb]

theorem put_of_ne (X : s.Idx → F .f32) (r : Rect s) (w : r.shape.Idx → F .f32) {i : s.Idx} (h : ∀ j, r.idx j ≠ i) :
    put X r w i = X i := by
  unfold put
  rw [preimage?_eq_none (emb := r.emb) h]

theorem read_write_slice {b : Memref sig c.2.kind .vmem s .f32} (f : Buf (Elt F) (b.view.loc c)) (r : Rect s)
    (w : r.shape.Idx → F .f32) :
    b.view.read (Elt F) ((b.access r).write (Elt F) f w Finset.univ) = put (b.view.read (Elt F) f) r w := by
  funext i
  by_cases hi : ∃ j, r.idx j = i
  · obtain ⟨j, rfl⟩ := hi
    rw [put_emb]
    exact congrFun (View.read_write_univ (v := b.access r) (Val := Elt F) f w) j
  · have hi' : ∀ j, r.idx j ≠ i := fun j h => hi ⟨j, h⟩
    rw [put_of_ne _ _ _ hi', View.read_apply, View.read_apply]
    congr 1
    refine View.write_of_not_mem _ _ _ fun hm => ?_
    obtain ⟨j, -, hj⟩ := Finset.mem_map.mp hm
    exact hi' j (b.view.emb.injective hj)

theorem st {α : Type} {Φ : α → sProp 𝕄} {R : sProp 𝕄}
    {b : Memref sig c.2.kind .vmem s .f32} {X : s.Idx → F .f32} {r : Rect s} {w : r.shape.Idx → F .f32}
    {hx : (b.access r).Stores Finset.univ} {hm : (Finset.univ : Finset r.shape.Idx) = Finset.univ ∨ ∀ a, r.stride a = 1}
    {k : PUnit → Prog (TpuEff nD τ sig (Elt F) Λ₀ c.2) α}
    (h : iprop(holds c b (put X r w) ∗ R) ⊢ wpK c (k ⟨⟩) Φ) :
    iprop(holds c b X ∗ R) ⊢ wpK c (Prog.lift (.store b r w Finset.univ hx hm) >>= k) Φ := by
  refine of_op ?_
  unfold holds at *
  iintro ⟨⟨%f, %hf, Hb⟩, HR⟩
  subst hf
  iapply (wp_store (defs := defs₀ (F := F)) 𝒱₀ c none Set.univ (hx := hx) (hm := hm)
    (S := b.view.set) (fun i hi => View.set_slice_subset _ _ (View.setOn_subset_set _ _ hi))) $$ Hb
  iintro Hb
  iapply h
  isplitl [Hb]
  · iexists _; isplitr; rotate_left; · iexact Hb
    ipureintro; exact read_write_slice f r w
  · iexact HR

theorem whole_idx (j : (Rect.whole s).shape.Idx) : (Rect.whole s).idx j = j := by
  funext a; apply Fin.ext; simp [Rect.whole]

theorem put_whole (X w : s.Idx → F .f32) : put X (Rect.whole s) w = w := by
  funext i
  have := put_emb X (Rect.whole s) w i
  rwa [whole_idx] at this

theorem gat {α : Type} {Φ : α → sProp 𝕄} {R : sProp 𝕄}
    {t : Shape} {b : Memref sig c.2.kind .vmem s .f32} {X : s.Idx → F .f32} {idxs : Fin s.rank → IVec t 32}
    {hi : ∀ a x, (idxs a x).toNat < s.size a} {hl : b.view.Loads}
    {k : Vec F t .f32 → Prog (TpuEff nD τ sig (Elt F) Λ₀ c.2) α}
    (h : iprop(holds c b X ∗ R) ⊢ wpK c (k (loadIdx X idxs hi)) Φ) :
    iprop(holds c b X ∗ R) ⊢ wpK c (SparseCore.vectorLoadIdx b idxs hi hl >>= k) Φ := by
  rw [SparseCore.vectorLoadIdx_bind]
  refine ld (r := .whole s) (k := fun f => k (loadIdx f idxs hi)) ?_
  have e : (fun j => X ((LoadRect.whole s).idx j)) = X := funext fun j => congrArg X (whole_idx j)
  rw [e]; exact h

theorem sca {α : Type} {Φ : α → sProp 𝕄} {R : sProp 𝕄}
    {d : Fin 1 → Nat} {b : Memref sig c.2.kind .vmem s .f32} {X : s.Idx → F .f32} {idxs : Fin s.rank → IVec ⟨1, d⟩ 32}
    {v : Vec F ⟨1, d⟩ .f32} {mask : IVec ⟨1, d⟩ 1} {add : Bool} {hi : ∀ a x, (idxs a x).toNat < s.size a}
    {hs : (b.access (.whole s)).Stores Finset.univ}
    {k : PUnit → Prog (TpuEff nD τ sig (Elt F) Λ₀ c.2) α}
    (h : iprop(holds c b (storeIdx X idxs v mask add hi) ∗ R) ⊢ wpK c (k ⟨⟩) Φ) :
    iprop(holds c b X ∗ R) ⊢ wpK c (SparseCore.vectorStoreIdx b idxs v mask add hi hs >>= k) Φ := by
  rw [SparseCore.vectorStoreIdx_bind]
  refine ld (r := .whole s) (k := fun f => .op (.store b (.whole s) (storeIdx f idxs v mask add hi) Finset.univ hs (.inl rfl)) k) ?_
  refine st (r := .whole s) (hx := hs) (hm := .inl rfl) (k := k) ?_
  have e : (fun j => X ((LoadRect.whole s).idx j)) = X := funext fun j => congrArg X (whole_idx j)
  rw [e, put_whole]; exact h

theorem chk {α : Type} {Φ : α → sProp 𝕄} {R : sProp 𝕄}
    {P : Prop} {dP : Decidable P} {k : PLift P → Prog (TpuEff nD τ sig (Elt F) Λ₀ c.2) α} (hP : P)
    (h : R ⊢ wpK c (k ⟨hP⟩) Φ) : R ⊢ wpK c (Prog.lift (.assume P dP) >>= k) Φ :=
  h.trans (wp_assume (defs := defs₀ (F := F)) 𝒱₀ c none Set.univ hP)

/-- The state of a group: its buffer, the transposed group, the two histograms, and the rest. -/
def St (c : Thread nD τ) {sb st sc ss : Shape} (b : Memref sig c.2.kind .vmem sb .f32) (bt : Memref sig c.2.kind .vmem st .f32)
    (hc : Memref sig c.2.kind .vmem sc .f32) (hs : Memref sig c.2.kind .vmem ss .f32)
    (A : sb.Idx → F .f32) (X : st.Idx → F .f32) (C : sc.Idx → F .f32) (H : ss.Idx → F .f32) (R : sProp 𝕄) : sProp 𝕄 :=
  iprop(holds c b A ∗ holds c bt X ∗ holds c hc C ∗ holds c hs H ∗ R)

theorem slc' (P Q R : sProp 𝕄) : iprop(P ∗ Q ∗ R) ⊢ iprop(Q ∗ P ∗ R) := by
  iintro ⟨H1, H2, H3⟩; isplitl [H2]; · iexact H2
  isplitl [H1] <;> iassumption

theorem slc (P Q R : sProp 𝕄) : iprop(P ∗ Q ∗ R) = iprop(Q ∗ P ∗ R) := Entails.antisymm (slc' P Q R) (slc' Q P R)

section State

variable {sb st' sc ss : Shape} {b : Memref sig c.2.kind .vmem sb .f32} {bt : Memref sig c.2.kind .vmem st' .f32}
  {hc : Memref sig c.2.kind .vmem sc .f32} {hs : Memref sig c.2.kind .vmem ss .f32}
  {A : sb.Idx → F .f32} {X : st'.Idx → F .f32} {C : sc.Idx → F .f32} {H : ss.Idx → F .f32}

theorem permX {R : sProp 𝕄} : (St c b bt hc hs A X C H R : sProp 𝕄) = iprop(holds c bt X ∗ holds c b A ∗ holds c hc C ∗ holds c hs H ∗ R) :=
  slc _ _ _

theorem permC {R : sProp 𝕄} : (St c b bt hc hs A X C H R : sProp 𝕄) = iprop(holds c hc C ∗ holds c b A ∗ holds c bt X ∗ holds c hs H ∗ R) := by
  unfold St
  rw [slc (holds c bt X), slc (holds c b A) (holds c hc C)]

theorem permH {R : sProp 𝕄} : (St c b bt hc hs A X C H R : sProp 𝕄) = iprop(holds c hs H ∗ holds c b A ∗ holds c bt X ∗ holds c hc C ∗ R) := by
  unfold St
  rw [slc (holds c hc C), slc (holds c bt X), slc (holds c b A) (holds c hs H)]

variable {α : Type}

theorem ldX {Φ : α → sProp 𝕄} {R : sProp 𝕄} {r : LoadRect st'} {hl : bt.view.LoadsAt r}
    {k : (r.shape.Idx → F .f32) → Prog (TpuEff nD τ sig (Elt F) Λ₀ c.2) α}
    (h : St c b bt hc hs A X C H R ⊢ wpK c (k fun j => X (r.idx j)) Φ) :
    St c b bt hc hs A X C H R ⊢ wpK c (Prog.lift (.load bt r hl) >>= k) Φ := by
  rw [permX] at h ⊢; exact ld h

theorem ldC {Φ : α → sProp 𝕄} {R : sProp 𝕄} {r : LoadRect sc} {hl : hc.view.LoadsAt r}
    {k : (r.shape.Idx → F .f32) → Prog (TpuEff nD τ sig (Elt F) Λ₀ c.2) α}
    (h : St c b bt hc hs A X C H R ⊢ wpK c (k fun j => C (r.idx j)) Φ) :
    St c b bt hc hs A X C H R ⊢ wpK c (Prog.lift (.load hc r hl) >>= k) Φ := by
  rw [permC] at h ⊢; exact ld h

theorem ldH {Φ : α → sProp 𝕄} {R : sProp 𝕄} {r : LoadRect ss} {hl : hs.view.LoadsAt r}
    {k : (r.shape.Idx → F .f32) → Prog (TpuEff nD τ sig (Elt F) Λ₀ c.2) α}
    (h : St c b bt hc hs A X C H R ⊢ wpK c (k fun j => H (r.idx j)) Φ) :
    St c b bt hc hs A X C H R ⊢ wpK c (Prog.lift (.load hs r hl) >>= k) Φ := by
  rw [permH] at h ⊢; exact ld h

theorem stX {Φ : α → sProp 𝕄} {R : sProp 𝕄} {r : Rect st'} {w : r.shape.Idx → F .f32}
    {hx : (bt.access r).Stores Finset.univ} {hm : (Finset.univ : Finset r.shape.Idx) = Finset.univ ∨ ∀ a, r.stride a = 1}
    {k : PUnit → Prog (TpuEff nD τ sig (Elt F) Λ₀ c.2) α}
    (h : St c b bt hc hs A (put X r w) C H R ⊢ wpK c (k ⟨⟩) Φ) :
    St c b bt hc hs A X C H R ⊢ wpK c (Prog.lift (.store bt r w Finset.univ hx hm) >>= k) Φ := by
  rw [permX] at h ⊢; exact st h

theorem stC {Φ : α → sProp 𝕄} {R : sProp 𝕄} {r : Rect sc} {w : r.shape.Idx → F .f32}
    {hx : (hc.access r).Stores Finset.univ} {hm : (Finset.univ : Finset r.shape.Idx) = Finset.univ ∨ ∀ a, r.stride a = 1}
    {k : PUnit → Prog (TpuEff nD τ sig (Elt F) Λ₀ c.2) α}
    (h : St c b bt hc hs A X (put C r w) H R ⊢ wpK c (k ⟨⟩) Φ) :
    St c b bt hc hs A X C H R ⊢ wpK c (Prog.lift (.store hc r w Finset.univ hx hm) >>= k) Φ := by
  rw [permC] at h ⊢; exact st h

theorem stH {Φ : α → sProp 𝕄} {R : sProp 𝕄} {r : Rect ss} {w : r.shape.Idx → F .f32}
    {hx : (hs.access r).Stores Finset.univ} {hm : (Finset.univ : Finset r.shape.Idx) = Finset.univ ∨ ∀ a, r.stride a = 1}
    {k : PUnit → Prog (TpuEff nD τ sig (Elt F) Λ₀ c.2) α}
    (h : St c b bt hc hs A X C (put H r w) R ⊢ wpK c (k ⟨⟩) Φ) :
    St c b bt hc hs A X C H R ⊢ wpK c (Prog.lift (.store hs r w Finset.univ hx hm) >>= k) Φ := by
  rw [permH] at h ⊢; exact st h

theorem gatA {Φ : α → sProp 𝕄} {R : sProp 𝕄} {t : Shape} {idxs : Fin sb.rank → IVec t 32}
    {hi : ∀ a x, (idxs a x).toNat < sb.size a} {hl : b.view.Loads}
    {k : Vec F t .f32 → Prog (TpuEff nD τ sig (Elt F) Λ₀ c.2) α}
    (h : St c b bt hc hs A X C H R ⊢ wpK c (k (loadIdx A idxs hi)) Φ) :
    St c b bt hc hs A X C H R ⊢ wpK c (SparseCore.vectorLoadIdx b idxs hi hl >>= k) Φ := gat h

theorem gatC {Φ : α → sProp 𝕄} {R : sProp 𝕄} {t : Shape} {idxs : Fin sc.rank → IVec t 32}
    {hi : ∀ a x, (idxs a x).toNat < sc.size a} {hl : hc.view.Loads}
    {k : Vec F t .f32 → Prog (TpuEff nD τ sig (Elt F) Λ₀ c.2) α}
    (h : St c b bt hc hs A X C H R ⊢ wpK c (k (loadIdx C idxs hi)) Φ) :
    St c b bt hc hs A X C H R ⊢ wpK c (SparseCore.vectorLoadIdx hc idxs hi hl >>= k) Φ := by
  rw [permC] at h ⊢; exact gat h

theorem gatH {Φ : α → sProp 𝕄} {R : sProp 𝕄} {t : Shape} {idxs : Fin ss.rank → IVec t 32}
    {hi : ∀ a x, (idxs a x).toNat < ss.size a} {hl : hs.view.Loads}
    {k : Vec F t .f32 → Prog (TpuEff nD τ sig (Elt F) Λ₀ c.2) α}
    (h : St c b bt hc hs A X C H R ⊢ wpK c (k (loadIdx H idxs hi)) Φ) :
    St c b bt hc hs A X C H R ⊢ wpK c (SparseCore.vectorLoadIdx hs idxs hi hl >>= k) Φ := by
  rw [permH] at h ⊢; exact gat h

theorem scaA {Φ : α → sProp 𝕄} {R : sProp 𝕄} {d : Fin 1 → Nat} {idxs : Fin sb.rank → IVec ⟨1, d⟩ 32}
    {v : Vec F ⟨1, d⟩ .f32} {mask : IVec ⟨1, d⟩ 1} {add : Bool} {hi : ∀ a x, (idxs a x).toNat < sb.size a}
    {hx : (b.access (.whole sb)).Stores Finset.univ} {k : PUnit → Prog (TpuEff nD τ sig (Elt F) Λ₀ c.2) α}
    (h : St c b bt hc hs (storeIdx A idxs v mask add hi) X C H R ⊢ wpK c (k ⟨⟩) Φ) :
    St c b bt hc hs A X C H R ⊢ wpK c (SparseCore.vectorStoreIdx b idxs v mask add hi hx >>= k) Φ := sca h

theorem scaC {Φ : α → sProp 𝕄} {R : sProp 𝕄} {d : Fin 1 → Nat} {idxs : Fin sc.rank → IVec ⟨1, d⟩ 32}
    {v : Vec F ⟨1, d⟩ .f32} {mask : IVec ⟨1, d⟩ 1} {add : Bool} {hi : ∀ a x, (idxs a x).toNat < sc.size a}
    {hx : (hc.access (.whole sc)).Stores Finset.univ} {k : PUnit → Prog (TpuEff nD τ sig (Elt F) Λ₀ c.2) α}
    (h : St c b bt hc hs A X (storeIdx C idxs v mask add hi) H R ⊢ wpK c (k ⟨⟩) Φ) :
    St c b bt hc hs A X C H R ⊢ wpK c (SparseCore.vectorStoreIdx hc idxs v mask add hi hx >>= k) Φ := by
  rw [permC] at h ⊢; exact sca h

theorem scaH {Φ : α → sProp 𝕄} {R : sProp 𝕄} {d : Fin 1 → Nat} {idxs : Fin ss.rank → IVec ⟨1, d⟩ 32}
    {v : Vec F ⟨1, d⟩ .f32} {mask : IVec ⟨1, d⟩ 1} {add : Bool} {hi : ∀ a x, (idxs a x).toNat < ss.size a}
    {hx : (hs.access (.whole ss)).Stores Finset.univ} {k : PUnit → Prog (TpuEff nD τ sig (Elt F) Λ₀ c.2) α}
    (h : St c b bt hc hs A X C (storeIdx H idxs v mask add hi) R ⊢ wpK c (k ⟨⟩) Φ) :
    St c b bt hc hs A X C H R ⊢ wpK c (SparseCore.vectorStoreIdx hs idxs v mask add hi hx >>= k) Φ := by
  rw [permH] at h ⊢; exact sca h

end State

/-- A counted loop at the head of a program, by an invariant of the trip and the carried values. -/
theorem loop {α σ : Type} {Φ : α → sProp 𝕄} {P : sProp 𝕄} {l : Scf.Loop 32} {ok : l.OK} {init : σ}
    {body : Fin l.trips → σ → Prog (TpuEff nD τ sig (Elt F) Λ₀ c.2) σ} {k : σ → Prog (TpuEff nD τ sig (Elt F) Λ₀ c.2) α}
    (I : Nat → σ → sProp 𝕄) (h0 : P ⊢ I 0 init)
    (hstep : ∀ (n : Fin l.trips) (a : σ), I n.val a ⊢ wpK c (body n a) (I (n.val + 1)))
    (hk : ∀ a, I l.trips a ⊢ wpK c (k a) Φ) : P ⊢ wpK c (Scf.Loop.for l ok init body >>= k) Φ := by
  refine h0.trans ?_
  iintro HI
  iapply (Scf.wp_for_bind frame (wpE (defs₀ (F := F)) 𝒱₀ c none) Set.univ l.lb l.ub l.st ok init body I hstep) $$ HI
  iintro %a HI
  iapply (hk a) $$ HI

end Cert.Proof

end
-- ==== Proof.Lanes.lean ====
/-
  Sixteen rows side by side: the positions of a flat buffer by row and column, what a row of sixteen words or a lane's
  column reads, and what a store of either leaves.
-/
module

public import proofs.«01_k».proof.Proof.Micro

@[expose] public section

noncomputable section

namespace Cert.Proof

open Cert.KernelIdeal Cert.KernelIdeal.Gen
open Idealize.ShloMosaic

variable {F : FTy → Type} [FloatOps F] [Named F]

/-- Position `n` of a flat buffer of `N` words. -/
def ix (N : ℕ) [NeZero N] (n : ℕ) : (⟨1, ![N]⟩ : Shape).Idx :=
  fun a => (Fin.ofNat N n).cast (by rw [Fin.eq_zero a]; rfl)

theorem ix_val (N : ℕ) [NeZero N] (n : ℕ) (a : Fin 1) : ((ix N n) a).val = n % N := rfl

theorem idx_ext {N : ℕ} {i j : (⟨1, ![N]⟩ : Shape).Idx} (h : (i 0).val = (j 0).val) : i = j := by
  funext a; rw [Fin.eq_zero a]; exact Fin.ext h

theorem idx_eq_ix {N : ℕ} [NeZero N] (i : (⟨1, ![N]⟩ : Shape).Idx) {n : ℕ} (h : (i 0).val = n) : i = ix N n :=
  idx_ext (by rw [ix_val, ← h]; exact (Nat.mod_eq_of_lt (i 0).isLt).symm)

theorem lane_lt (l : S16.Idx) : (l 0).val < 16 := (l 0).isLt

section Rows
variable {α : Type} {N : ℕ} [NeZero N]

/-- The `k`-th sixteen words. -/
def row (X : (⟨1, ![N]⟩ : Shape).Idx → α) (k : ℕ) : S16.Idx → α := fun l => X (ix N (16 * k + (l 0).val))

/-- Word `j` of every lane's stretch of `M` words. -/
def lane (M : ℕ) (X : (⟨1, ![N]⟩ : Shape).Idx → α) (j : ℕ) : S16.Idx → α := fun l => X (ix N (M * (l 0).val + j))

def setRow (X : (⟨1, ![N]⟩ : Shape).Idx → α) (k : ℕ) (w : S16.Idx → α) : (⟨1, ![N]⟩ : Shape).Idx → α :=
  fun i => if (i 0).val / 16 = k then w (ix 16 ((i 0).val % 16)) else X i

theorem row_setRow (X : (⟨1, ![N]⟩ : Shape).Idx → α) (k : ℕ) (w : S16.Idx → α) (hk : 16 * k + 16 ≤ N) :
    row (setRow X k w) k = w := by
  funext l
  have hl := lane_lt l
  have h1 : (16 * k + (l 0).val) % N = 16 * k + (l 0).val := Nat.mod_eq_of_lt (by omega)
  unfold row setRow
  rw [if_pos (by rw [ix_val, h1]; omega)]
  congr 1
  refine (idx_eq_ix l ?_).symm
  rw [ix_val, h1]; omega

theorem row_setRow_ne (X : (⟨1, ![N]⟩ : Shape).Idx → α) (k j : ℕ) (w : S16.Idx → α) (hj : 16 * j + 16 ≤ N) (h : j ≠ k) :
    row (setRow X k w) j = row X j := by
  funext l
  have hl := lane_lt l
  have h1 : (16 * j + (l 0).val) % N = 16 * j + (l 0).val := Nat.mod_eq_of_lt (by omega)
  unfold row setRow
  rw [if_neg (by rw [ix_val, h1]; omega)]

/-- The first `n` rows are `f`'s. -/
def RowsUpto (f : ℕ → S16.Idx → α) (X : (⟨1, ![N]⟩ : Shape).Idx → α) (n : ℕ) : Prop := ∀ k < n, row X k = f k

theorem RowsUpto.zero (f : ℕ → S16.Idx → α) (X : (⟨1, ![N]⟩ : Shape).Idx → α) : RowsUpto f X 0 := fun _ h => absurd h (Nat.not_lt_zero _)

theorem RowsUpto.set {f : ℕ → S16.Idx → α} {X : (⟨1, ![N]⟩ : Shape).Idx → α} {n : ℕ} (h : RowsUpto f X n) (hn : 16 * n + 16 ≤ N) :
    RowsUpto f (setRow X n (f n)) (n + 1) := by
  intro k hk
  rcases Nat.lt_succ_iff_lt_or_eq.mp hk with hk | rfl
  · rw [row_setRow_ne _ _ _ _ (by omega) (by omega), h k hk]
  · exact row_setRow _ _ _ hn

theorem RowsUpto.const {a : α} {X : (⟨1, ![N]⟩ : Shape).Idx → α} {n : ℕ} (h : RowsUpto (fun _ _ => a) X n) (hn : 16 * n = N) :
    X = fun _ => a := by
  funext i
  have hi : (i 0).val < N := (i 0).isLt
  have := congrFun (h ((i 0).val / 16) (by omega)) (ix 16 ((i 0).val % 16))
  unfold row at this
  refine Eq.trans ?_ this
  congr 1
  refine idx_eq_ix i ?_
  rw [ix_val, Nat.mod_mod]; omega

def setLane (M : ℕ) (X : (⟨1, ![N]⟩ : Shape).Idx → α) (j : ℕ) (w : S16.Idx → α) : (⟨1, ![N]⟩ : Shape).Idx → α :=
  fun i => if (i 0).val % M = j then w (ix 16 ((i 0).val / M)) else X i

variable {M : ℕ}

theorem pos_lt {l j : ℕ} (hM : N = 16 * M) (hl : l < 16) (hj : j < M) : M * l + j < N := by
  have : M * l ≤ M * 15 := Nat.mul_le_mul_left M (by omega)
  omega

theorem lane_setLane (X : (⟨1, ![N]⟩ : Shape).Idx → α) (j k : ℕ) (w : S16.Idx → α) (hM : N = 16 * M) (hj : j < M) :
    lane M (setLane M X k w) j = if j = k then w else lane M X j := by
  funext l
  have hl := lane_lt l
  have h1 : (M * (l 0).val + j) % N = M * (l 0).val + j := Nat.mod_eq_of_lt (pos_lt hM hl hj)
  unfold lane setLane
  rw [ix_val, h1, Nat.mul_add_mod, Nat.mod_eq_of_lt hj]
  by_cases h : j = k
  · rw [if_pos h, if_pos h]
    congr 1
    refine (idx_eq_ix l ?_).symm
    rw [Nat.mul_add_div (by omega), Nat.div_eq_of_lt hj, Nat.add_zero]
  · rw [if_neg h, if_neg h]

def LanesUpto (M : ℕ) (f : ℕ → S16.Idx → α) (X : (⟨1, ![N]⟩ : Shape).Idx → α) (n : ℕ) : Prop := ∀ k < n, lane M X k = f k

theorem LanesUpto.zero (f : ℕ → S16.Idx → α) (X : (⟨1, ![N]⟩ : Shape).Idx → α) : LanesUpto M f X 0 := fun _ h => absurd h (Nat.not_lt_zero _)

theorem LanesUpto.set {f : ℕ → S16.Idx → α} {X : (⟨1, ![N]⟩ : Shape).Idx → α} {n : ℕ} (h : LanesUpto M f X n) (hM : N = 16 * M)
    (hn : n < M) : LanesUpto M f (setLane M X n (f n)) (n + 1) := by
  intro k hk
  rw [lane_setLane _ _ _ _ hM (by omega)]
  split
  · next h => rw [h]
  · exact h k (by omega)

end Rows

/-- What an indexed store leaves where every lane's index stays inside that lane's own stretch of `M` words. -/
def laneStore {N : ℕ} [NeZero N] (M : ℕ) (f : (⟨1, ![N]⟩ : Shape).Idx → F .f32) (v : IVec S16 32) (w : S16.Idx → F .f32)
    (mask : IVec S16 1) (add : Bool) : (⟨1, ![N]⟩ : Shape).Idx → F .f32 :=
  fun i => if mask (ix 16 ((i 0).val / M)) = 1#1 ∧ (v (ix 16 ((i 0).val / M))).toNat = (i 0).val then
    (if add then Elt.idxAdd (F := F) .f32 (f i) (w (ix 16 ((i 0).val / M))) else w (ix 16 ((i 0).val / M))) else f i

/-- One lane's turn in an indexed store. -/
def laneStep {N : ℕ} [NeZero N] (v : IVec S16 32) (w : S16.Idx → F .f32) (mask : IVec S16 1) (add : Bool)
    (g : (⟨1, ![N]⟩ : Shape).Idx → F .f32) (k : Fin 16) : (⟨1, ![N]⟩ : Shape).Idx → F .f32 :=
  fun i => if mask (ix 16 k.val) = 1#1 ∧ (v (ix 16 k.val)).toNat = (i 0).val then
    (if add then Elt.idxAdd (F := F) .f32 (g i) (w (ix 16 k.val)) else w (ix 16 k.val)) else g i

theorem storeIdx_fold {N : ℕ} [NeZero N] (f : (⟨1, ![N]⟩ : Shape).Idx → F .f32) (v : IVec S16 32)
    (w : Vec F S16 .f32) (mask : IVec S16 1) (add : Bool)
    (h : ∀ a x, ((![v] : Fin 1 → IVec S16 32) a x).toNat < (⟨1, ![N]⟩ : Shape).size a) :
    storeIdx (F := F) (e := .f32) (s := ⟨1, ![N]⟩) f ![v] w mask add h = (List.finRange 16).foldl (laneStep v w mask add) f := by
  unfold storeIdx
  refine List.foldl_ext _ _ _ fun g k _ => ?_
  have hk : (Shape.ofLane k : S16.Idx) = ix 16 k.val := idx_eq_ix _ rfl
  funext j
  unfold laneStep
  rw [hk]
  dsimp only
  have hj : (∀ a, (j a).val = (idxAt ![v] h (ix 16 k.val : S16.Idx) a).val) ↔ (v (ix 16 k.val)).toNat = (j 0).val := by
    constructor
    · intro h1; exact (h1 0).symm
    · intro h1 a; rw [Fin.eq_zero a]; exact h1.symm
  by_cases hm : mask (ix 16 k.val) = 1#1
  · refine (congrFun (if_pos hm) j).trans ?_
    by_cases h2 : (v (ix 16 k.val)).toNat = (j 0).val
    · have : idxAt ![v] h (ix 16 k.val : S16.Idx) = j := idx_ext h2
      rw [if_pos (hj.mpr h2), this]
      exact (if_pos (⟨hm, h2⟩ : mask (ix 16 k.val) = 1#1 ∧ (v (ix 16 k.val)).toNat = (j 0).val)).symm
    · rw [if_neg (fun h3 => h2 (hj.mp h3)), if_neg (fun h3 => h2 h3.2)]
  · refine (congrFun (if_neg hm) j).trans ?_
    rw [if_neg (fun h3 => hm h3.1)]

theorem fold_lanes {N : ℕ} [NeZero N] {M : ℕ} (v : IVec S16 32) (w : S16.Idx → F .f32) (mask : IVec S16 1) (add : Bool)
    (hv : ∀ l : S16.Idx, (v l).toNat / M = (l 0).val) (i : (⟨1, ![N]⟩ : Shape).Idx) :
    ∀ (L : List (Fin 16)) (_ : L.Nodup) (g : (⟨1, ![N]⟩ : Shape).Idx → F .f32),
      L.foldl (laneStep v w mask add) g i = if (∃ k ∈ L, k.val = (i 0).val / M) then laneStore M g v w mask add i else g i := by
  intro L
  induction L with
  | nil => intro _ g; simp
  | cons k L ih =>
    intro hnd g
    rw [List.nodup_cons] at hnd
    rw [List.foldl_cons, ih hnd.2]
    have hvk := hv (ix 16 k.val)
    rw [ix_val, Nat.mod_eq_of_lt k.isLt] at hvk
    by_cases hki : k.val = (i 0).val / M
    · have hn : ¬ ∃ k' ∈ L, k'.val = (i 0).val / M := by
        rintro ⟨k', hk', h1⟩
        exact hnd.1 ((Fin.ext (h1.trans hki.symm) : k' = k) ▸ hk')
      rw [if_neg hn, if_pos ⟨k, List.mem_cons_self, hki⟩]
      unfold laneStore laneStep
      rw [← hki]
    · have hg : laneStep v w mask add g k i = g i := by
        unfold laneStep
        rw [if_neg]
        rintro ⟨-, h3⟩
        rw [h3] at hvk
        exact hki hvk.symm
      have he : (∃ k' ∈ k :: L, k'.val = (i 0).val / M) ↔ ∃ k' ∈ L, k'.val = (i 0).val / M := by
        constructor
        · rintro ⟨k', hk', h1⟩
          rcases List.mem_cons.mp hk' with rfl | hk'
          · exact absurd h1 hki
          · exact ⟨k', hk', h1⟩
        · rintro ⟨k', hk', h1⟩; exact ⟨k', List.mem_cons_of_mem _ hk', h1⟩
      have hs : laneStore M (laneStep v w mask add g k) v w mask add i = laneStore M g v w mask add i := by
        unfold laneStore; rw [hg]
      rw [hs, hg]
      exact if_congr he.symm rfl rfl

theorem storeIdx_lanes {N : ℕ} [NeZero N] {M : ℕ} (f : (⟨1, ![N]⟩ : Shape).Idx → F .f32) (v : IVec S16 32)
    (w : Vec F S16 .f32) (mask : IVec S16 1) (add : Bool)
    (h : ∀ a x, ((![v] : Fin 1 → IVec S16 32) a x).toNat < (⟨1, ![N]⟩ : Shape).size a)
    (hv : ∀ l : S16.Idx, (v l).toNat / M = (l 0).val) (hM : N = 16 * M) :
    storeIdx (F := F) (e := .f32) (s := ⟨1, ![N]⟩) f ![v] w mask add h = laneStore M f v w mask add := by
  rw [storeIdx_fold]
  funext i
  have hi : (i 0).val < N := (i 0).isLt
  have hMp : 0 < M := by rcases Nat.eq_zero_or_pos M with h0 | h0 <;> [(subst h0; omega); exact h0]
  refine (fold_lanes v w mask add hv i (List.finRange 16) (List.nodup_finRange 16) f).trans
    (if_pos ⟨⟨(i 0).val / M, ?_⟩, List.mem_finRange _, rfl⟩)
  exact (Nat.div_lt_iff_lt_mul hMp).mpr (by omega)

/-- An indexed store of every lane's word `j` over its own stretch. -/
theorem storeIdx_setLane {N : ℕ} [NeZero N] {M : ℕ} (f : (⟨1, ![N]⟩ : Shape).Idx → F .f32) (v : IVec S16 32) (w : Vec F S16 .f32)
    (h : ∀ a x, ((![v] : Fin 1 → IVec S16 32) a x).toNat < (⟨1, ![N]⟩ : Shape).size a) {j : ℕ} (hj : j < M)
    (hv : ∀ l : S16.Idx, (v l).toNat = M * (l 0).val + j) (hM : N = 16 * M) :
    storeIdx (F := F) (e := .f32) (s := ⟨1, ![N]⟩) f ![v] w (fun _ => 1#1) false h = setLane M f j w := by
  rw [storeIdx_lanes f v w _ false h (fun l => by rw [hv, Nat.mul_add_div (by omega), Nat.div_eq_of_lt hj, Nat.add_zero]) hM]
  funext i
  have hi : (i 0).val < N := (i 0).isLt
  have hd : (i 0).val / M < 16 := (Nat.div_lt_iff_lt_mul (by omega)).mpr (by omega)
  unfold laneStore setLane
  have : ((fun _ => 1#1 : IVec S16 1) (ix 16 ((i 0).val / M)) = 1#1 ∧ (v (ix 16 ((i 0).val / M))).toNat = (i 0).val) ↔ (i 0).val % M = j := by
    rw [hv, ix_val, Nat.mod_eq_of_lt hd]
    have := Nat.div_add_mod (i 0).val M
    constructor
    · rintro ⟨-, h1⟩; omega
    · intro h1; exact ⟨rfl, by omega⟩
  rw [if_neg Bool.false_ne_true]
  exact if_congr this rfl rfl

theorem loadIdx_lane {N : ℕ} [NeZero N] {M : ℕ} (f : (⟨1, ![N]⟩ : Shape).Idx → F .f32) (v : IVec S16 32)
    (h : ∀ a x, ((![v] : Fin 1 → IVec S16 32) a x).toNat < (⟨1, ![N]⟩ : Shape).size a) {j : ℕ}
    (hv : ∀ l : S16.Idx, (v l).toNat = M * (l 0).val + j) :
    loadIdx (F := F) (e := .f32) (s := ⟨1, ![N]⟩) f ![v] h = lane M f j := by
  funext l
  exact congrArg f (idx_eq_ix _ (hv l))

theorem load_row {N : ℕ} [NeZero N] (X : (⟨1, ![N]⟩ : Shape).Idx → F .f32) {off : Fin 1 → ℕ}
    {h : ∀ a, off a + S16.size a ≤ (⟨1, ![N]⟩ : Shape).size a} {k : ℕ} (hoff : off = ![16 * k]) :
    (fun j => X ((Rect.unit (s := ⟨1, ![N]⟩) off S16.size h).idx j)) = row X k := by
  subst hoff
  funext l
  refine congrArg X (idx_eq_ix _ ?_)
  show 16 * k + 1 * (l 0).val = _
  omega

theorem put_row {N : ℕ} [NeZero N] (X : (⟨1, ![N]⟩ : Shape).Idx → F .f32) {off : Fin 1 → ℕ}
    {h : ∀ a, off a + S16.size a ≤ (⟨1, ![N]⟩ : Shape).size a} {k : ℕ} (hoff : off = ![16 * k]) (w : S16.Idx → F .f32) :
    put X (Rect.unit (s := ⟨1, ![N]⟩) off S16.size h) w = setRow X k w := by
  subst hoff
  funext i
  have hv : ∀ l : S16.Idx, ((Rect.unit (s := ⟨1, ![N]⟩) ![16 * k] S16.size h).idx l 0).val = 16 * k + (l 0).val := by
    intro l; show 16 * k + 1 * (l 0).val = _; omega
  unfold setRow
  by_cases hi : (i 0).val / 16 = k
  · rw [if_pos hi]
    have : i = (Rect.unit (s := ⟨1, ![N]⟩) ![16 * k] S16.size h).idx (ix 16 ((i 0).val % 16) : S16.Idx) := by
      refine idx_ext ?_
      rw [hv, ix_val, Nat.mod_mod]; omega
    conv_lhs => rw [this]
    exact put_emb X (Rect.unit (s := ⟨1, ![N]⟩) ![16 * k] S16.size h) w _
  · rw [if_neg hi]
    refine put_of_ne X (Rect.unit (s := ⟨1, ![N]⟩) ![16 * k] S16.size h) w fun l hl => hi ?_
    have := hv l
    rw [hl] at this
    have := lane_lt l
    omega

end Cert.Proof

end
-- ==== Proof.Steps.lean ====
/-
  The operations of a trip over the sixteen rows of a group: the lemmas of `Micro` said of rows of sixteen words and of
  lanes' columns.
-/
module

public import proofs.«01_k».proof.Proof.Lanes

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

theorem exE {β : Type} {P : β → Prop} {S : β → sProp 𝕄} {Q : sProp 𝕄} (h : ∀ x, P x → S x ⊢ Q) :
    iprop(∃ x, ⌜P x⌝ ∗ S x) ⊢ Q := by
  iintro ⟨%x, %hx, HS⟩
  iapply (h x hx) $$ HS

theorem exI {β : Type} {P : β → Prop} {S : β → sProp 𝕄} (x : β) (hx : P x) : S x ⊢ iprop(∃ x, ⌜P x⌝ ∗ S x) := by
  iintro HS
  iexists x
  isplitr
  · ipureintro; exact hx
  · iexact HS

variable {c : Thread nD τ}

theorem ret {α : Type} {Φ : α → sProp 𝕄} {P : sProp 𝕄} {a : α} (h : P ⊢ Φ a) : P ⊢ wpK c (pure a) Φ := by
  unfold wpK
  rw [wp_pure]
  exact h.trans fupd_intro

/-- The check on an index vector that stays inside a buffer. -/
theorem inb_of {N : ℕ} {v : IVec S16 32} (h : ∀ l, (v l).toNat < N) :
    ∀ a x, ((![v] : Fin 1 → IVec S16 32) a x).toNat < (⟨1, ![N]⟩ : Shape).size a := by
  intro a x; rw [Fin.eq_zero a]; exact h x

section State
variable {N M : ℕ} [NeZero N] [NeZero M]
variable {b : Memref sig c.2.kind .vmem ⟨1, ![N]⟩ .f32} {bt : Memref sig c.2.kind .vmem ⟨1, ![N]⟩ .f32}
  {hc : Memref sig c.2.kind .vmem ⟨1, ![M]⟩ .f32} {hs : Memref sig c.2.kind .vmem ⟨1, ![M]⟩ .f32}
  {A X : (⟨1, ![N]⟩ : Shape).Idx → F .f32} {C H : (⟨1, ![M]⟩ : Shape).Idx → F .f32}
  {α : Type} {Φ : α → sProp 𝕄} {R : sProp 𝕄}

theorem ldRow {Φ : α → sProp 𝕄} {R : sProp 𝕄} {off : Fin 1 → ℕ} {hb : ∀ a, off a + S16.size a ≤ (⟨1, ![N]⟩ : Shape).size a}
    {hl : bt.view.LoadsAt (Rect.unit (s := ⟨1, ![N]⟩) off S16.size hb).toLoadRect}
    {k : (S16.Idx → F .f32) → Prog (TpuEff nD τ sig (Elt F) Λ₀ c.2) α} (n : ℕ) (hoff : off = ![16 * n])
    (h : St c b bt hc hs A X C H R ⊢ wpK c (k (row X n)) Φ) :
    St c b bt hc hs A X C H R ⊢ wpK c (Prog.lift (.load bt (Rect.unit (s := ⟨1, ![N]⟩) off S16.size hb).toLoadRect hl) >>= k) Φ := by
  rw [← load_row X (h := hb) hoff] at h
  exact ldX h

theorem stRow {Φ : α → sProp 𝕄} {R : sProp 𝕄} {off : Fin 1 → ℕ} {hb : ∀ a, off a + S16.size a ≤ (⟨1, ![N]⟩ : Shape).size a}
    {w : S16.Idx → F .f32}
    {hx : (bt.access (Rect.unit (s := ⟨1, ![N]⟩) off S16.size hb)).Stores Finset.univ}
    {hm : (Finset.univ : Finset (Rect.unit (s := ⟨1, ![N]⟩) off S16.size hb).shape.Idx) = Finset.univ ∨ ∀ a, (Rect.unit (s := ⟨1, ![N]⟩) off S16.size hb).stride a = 1}
    {k : PUnit → Prog (TpuEff nD τ sig (Elt F) Λ₀ c.2) α} (n : ℕ) (hoff : off = ![16 * n])
    (h : St c b bt hc hs A (setRow X n w) C H R ⊢ wpK c (k ⟨⟩) Φ) :
    St c b bt hc hs A X C H R ⊢ wpK c (Prog.lift (.store bt (Rect.unit (s := ⟨1, ![N]⟩) off S16.size hb) w Finset.univ hx hm) >>= k) Φ := by
  rw [← put_row X (h := hb) hoff w] at h
  exact stX h

theorem stRowC {Φ : α → sProp 𝕄} {R : sProp 𝕄} {off : Fin 1 → ℕ} {hb : ∀ a, off a + S16.size a ≤ (⟨1, ![M]⟩ : Shape).size a}
    {w : S16.Idx → F .f32}
    {hx : (hc.access (Rect.unit (s := ⟨1, ![M]⟩) off S16.size hb)).Stores Finset.univ}
    {hm : (Finset.univ : Finset (Rect.unit (s := ⟨1, ![M]⟩) off S16.size hb).shape.Idx) = Finset.univ ∨ ∀ a, (Rect.unit (s := ⟨1, ![M]⟩) off S16.size hb).stride a = 1}
    {k : PUnit → Prog (TpuEff nD τ sig (Elt F) Λ₀ c.2) α} (n : ℕ) (hoff : off = ![16 * n])
    (h : St c b bt hc hs A X (setRow C n w) H R ⊢ wpK c (k ⟨⟩) Φ) :
    St c b bt hc hs A X C H R ⊢ wpK c (Prog.lift (.store hc (Rect.unit (s := ⟨1, ![M]⟩) off S16.size hb) w Finset.univ hx hm) >>= k) Φ := by
  rw [← put_row C (h := hb) hoff w] at h
  exact stC h

theorem stRowH {Φ : α → sProp 𝕄} {R : sProp 𝕄} {off : Fin 1 → ℕ} {hb : ∀ a, off a + S16.size a ≤ (⟨1, ![M]⟩ : Shape).size a}
    {w : S16.Idx → F .f32}
    {hx : (hs.access (Rect.unit (s := ⟨1, ![M]⟩) off S16.size hb)).Stores Finset.univ}
    {hm : (Finset.univ : Finset (Rect.unit (s := ⟨1, ![M]⟩) off S16.size hb).shape.Idx) = Finset.univ ∨ ∀ a, (Rect.unit (s := ⟨1, ![M]⟩) off S16.size hb).stride a = 1}
    {k : PUnit → Prog (TpuEff nD τ sig (Elt F) Λ₀ c.2) α} (n : ℕ) (hoff : off = ![16 * n])
    (h : St c b bt hc hs A X C (setRow H n w) R ⊢ wpK c (k ⟨⟩) Φ) :
    St c b bt hc hs A X C H R ⊢ wpK c (Prog.lift (.store hs (Rect.unit (s := ⟨1, ![M]⟩) off S16.size hb) w Finset.univ hx hm) >>= k) Φ := by
  rw [← put_row H (h := hb) hoff w] at h
  exact stH h

theorem gatLane {Φ : α → sProp 𝕄} {R : sProp 𝕄} {v : IVec S16 32}
    {hi : ∀ a x, ((![v] : Fin 1 → IVec S16 32) a x).toNat < (⟨1, ![N]⟩ : Shape).size a} {hl : b.view.Loads}
    {k : Vec F S16 .f32 → Prog (TpuEff nD τ sig (Elt F) Λ₀ c.2) α} (K j : ℕ) (hv : ∀ l : S16.Idx, (v l).toNat = K * (l 0).val + j)
    (h : St c b bt hc hs A X C H R ⊢ wpK c (k (lane K A j)) Φ) :
    St c b bt hc hs A X C H R ⊢ wpK c (SparseCore.vectorLoadIdx b ![v] hi hl >>= k) Φ := by
  rw [← loadIdx_lane A v hi hv] at h
  exact gatA h

theorem gatLaneC {Φ : α → sProp 𝕄} {R : sProp 𝕄} {v : IVec S16 32}
    {hi : ∀ a x, ((![v] : Fin 1 → IVec S16 32) a x).toNat < (⟨1, ![M]⟩ : Shape).size a} {hl : hc.view.Loads}
    {k : Vec F S16 .f32 → Prog (TpuEff nD τ sig (Elt F) Λ₀ c.2) α} (K j : ℕ) (hv : ∀ l : S16.Idx, (v l).toNat = K * (l 0).val + j)
    (h : St c b bt hc hs A X C H R ⊢ wpK c (k (lane K C j)) Φ) :
    St c b bt hc hs A X C H R ⊢ wpK c (SparseCore.vectorLoadIdx hc ![v] hi hl >>= k) Φ := by
  rw [← loadIdx_lane C v hi hv] at h
  exact gatC h

theorem gatLaneH {Φ : α → sProp 𝕄} {R : sProp 𝕄} {v : IVec S16 32}
    {hi : ∀ a x, ((![v] : Fin 1 → IVec S16 32) a x).toNat < (⟨1, ![M]⟩ : Shape).size a} {hl : hs.view.Loads}
    {k : Vec F S16 .f32 → Prog (TpuEff nD τ sig (Elt F) Λ₀ c.2) α} (K j : ℕ) (hv : ∀ l : S16.Idx, (v l).toNat = K * (l 0).val + j)
    (h : St c b bt hc hs A X C H R ⊢ wpK c (k (lane K H j)) Φ) :
    St c b bt hc hs A X C H R ⊢ wpK c (SparseCore.vectorLoadIdx hs ![v] hi hl >>= k) Φ := by
  rw [← loadIdx_lane H v hi hv] at h
  exact gatH h

theorem scaLane {Φ : α → sProp 𝕄} {R : sProp 𝕄} {v : IVec S16 32} {w : Vec F S16 .f32}
    {hi : ∀ a x, ((![v] : Fin 1 → IVec S16 32) a x).toNat < (⟨1, ![N]⟩ : Shape).size a}
    {hx : (b.access (.whole ⟨1, ![N]⟩)).Stores Finset.univ}
    {k : PUnit → Prog (TpuEff nD τ sig (Elt F) Λ₀ c.2) α} (K j : ℕ) (hv : ∀ l : S16.Idx, (v l).toNat = K * (l 0).val + j)
    (hj : j < K) (hN : N = 16 * K)
    (h : St c b bt hc hs (setLane K A j w) X C H R ⊢ wpK c (k ⟨⟩) Φ) :
    St c b bt hc hs A X C H R ⊢ wpK c (SparseCore.vectorStoreIdx b ![v] w (fun _ => 1#1) false hi hx >>= k) Φ := by
  rw [← storeIdx_setLane A v w hi hj hv hN] at h
  exact scaA h

theorem scaHistC {Φ : α → sProp 𝕄} {R : sProp 𝕄} {v : IVec S16 32} {w : Vec F S16 .f32} {mask : IVec S16 1}
    {hi : ∀ a x, ((![v] : Fin 1 → IVec S16 32) a x).toNat < (⟨1, ![M]⟩ : Shape).size a}
    {hx : (hc.access (.whole ⟨1, ![M]⟩)).Stores Finset.univ}
    {k : PUnit → Prog (TpuEff nD τ sig (Elt F) Λ₀ c.2) α} (K : ℕ) (hv : ∀ l : S16.Idx, (v l).toNat / K = (l 0).val)
    (hM : M = 16 * K)
    (h : St c b bt hc hs A X (laneStore K C v w mask true) H R ⊢ wpK c (k ⟨⟩) Φ) :
    St c b bt hc hs A X C H R ⊢ wpK c (SparseCore.vectorStoreIdx hc ![v] w mask true hi hx >>= k) Φ := by
  rw [← storeIdx_lanes C v w mask true hi hv hM] at h
  exact scaC h

theorem scaHistH {Φ : α → sProp 𝕄} {R : sProp 𝕄} {v : IVec S16 32} {w : Vec F S16 .f32} {mask : IVec S16 1}
    {hi : ∀ a x, ((![v] : Fin 1 → IVec S16 32) a x).toNat < (⟨1, ![M]⟩ : Shape).size a}
    {hx : (hs.access (.whole ⟨1, ![M]⟩)).Stores Finset.univ}
    {k : PUnit → Prog (TpuEff nD τ sig (Elt F) Λ₀ c.2) α} (K : ℕ) (hv : ∀ l : S16.Idx, (v l).toNat / K = (l 0).val)
    (hM : M = 16 * K)
    (h : St c b bt hc hs A X C (laneStore K H v w mask true) R ⊢ wpK c (k ⟨⟩) Φ) :
    St c b bt hc hs A X C H R ⊢ wpK c (SparseCore.vectorStoreIdx hs ![v] w mask true hi hx >>= k) Φ := by
  rw [← storeIdx_lanes H v w mask true hi hv hM] at h
  exact scaH h

end State

end Cert.Proof

end
-- ==== Proof.Trans.lean ====
/-
  The transposing loop: sixteen rows' columns gathered into rows of sixteen words, with the running maxima.
-/
module

public import proofs.«01_k».proof.Proof.Steps

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The vector subcore of a grid place. -/
abbrev thr (d : Fin nD) (i : grid0.Coords) : Thread nD τ := (d, .scVector ((i 0).castLE hcore0) ((i 1).castLE hsub0))

/-- The lanes' positions at trip `n` of a loop over the columns, eight a trip. -/
def idxT : ℕ → IVec S16 32
  | 0 => k0_pay1
  | n + 1 => k0_pay244 (idxT n)

theorem idxT_val (l : S16.Idx) : ∀ n ≤ 256, (idxT n l).toNat = 2048 * (l 0).val + 8 * n
  | 0, _ => by
    have hl := lane_lt l
    show (BitVec.ofNat 32 (0 * 16 + (l 0).val) * 2048#32).toNat = _
    simp only [BitVec.toNat_mul, BitVec.toNat_ofNat]
    omega
  | n + 1, h => by
    have hl := lane_lt l
    have ih := idxT_val l n (by omega)
    show (idxT n l + 8#32).toNat = _
    simp only [BitVec.toNat_add, BitVec.toNat_ofNat, ih]
    omega

/-- The running maxima over the columns `8 k + u`. -/
def colMax (A : S32768.Idx → F .f32) (u : ℕ) : ℕ → FVec F S16 .f32
  | 0 => k0_pay236
  | n + 1 => maximumf (colMax A u n) (lane 2048 A (8 * n + u))

section
variable (d : Fin nD) (i : grid0.Coords) (arg2 : Memref sig .scVector .hbm S16777216 .f32) (harg2 : arg2.IsWhole) (arg3 : Memref sig .scVector .hbm S16777216 .f32) (harg3 : arg3.IsWhole) (arg4 : Memref sig .scVector .vmem S32768 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S4096 .f32) (harg7 : arg7.IsWhole) (arg8 : Memref sig .scVector .vmem S4096 .f32) (harg8 : arg8.IsWhole) (arg9 : DmaSems sig S_) (v178_r0 : DmaSems sig S_) (v178_r1 : DmaSems sig S_)
  (v1 : BitVec 32) (v4 : IVec S16 32) (v7 : IVec S16 32) (v8 : FVec F S16 .f32) (v9 : FVec F S16 .f32) (c0_i32_3 : BitVec 32) (c1_i32 : BitVec 32) (k0_t1 : Fin k0_t1_loop.trips)
  (A : S32768.Idx → F .f32) (C H : S4096.Idx → F .f32)

def tAcc (n : ℕ) : FVec F S16 .f32 × FVec F S16 .f32 × FVec F S16 .f32 × FVec F S16 .f32 × FVec F S16 .f32 × FVec F S16 .f32 × FVec F S16 .f32 × FVec F S16 .f32 × IVec S16 32 :=
  (colMax A 0 n, colMax A 1 n, colMax A 2 n, colMax A 3 n, colMax A 4 n, colMax A 5 n, colMax A 6 n, colMax A 7 n, idxT n)

theorem t2_step {R : sProp 𝕄} (n : Fin k0_t2_loop.trips) (X : S32768.Idx → F .f32) (hX : RowsUpto (lane 2048 A) X (8 * n.val)) :
    St (thr d i) arg4 arg6 arg7 arg8 A X C H R ⊢ wpK (thr d i)
      (k0_t2_body i arg2 harg2 arg3 harg3 arg4 harg4 arg5 harg5 arg6 harg6 arg7 harg7 arg8 harg8 arg9 v178_r0 v178_r1 v1 v4 v7 v8 v9 c0_i32_3 c1_i32 k0_t1 n (tAcc A n.val))
      fun a => iprop(∃ X, ⌜RowsUpto (lane 2048 A) X (8 * (n.val + 1)) ∧ a = tAcc A (n.val + 1)⌝ ∗ St (thr d i) arg4 arg6 arg7 arg8 A X C H R) := by
  have hn : n.val < 256 := n.isLt
  have hv : ∀ u < 8, ∀ l : S16.Idx, (idxT n.val l + BitVec.ofNat 32 u).toNat = 2048 * (l 0).val + (8 * n.val + u) := by
    intro u hu l
    have hl := lane_lt l
    rw [BitVec.toNat_add, idxT_val l n.val (by omega), BitVec.toNat_ofNat]
    omega
  have hb : ∀ u < 8, ∀ l : S16.Idx, (idxT n.val l + BitVec.ofNat 32 u).toNat < 32768 := by
    intro u hu l
    have hl := lane_lt l
    rw [hv u hu l]; omega
  unfold k0_t2_body tAcc
  rw [k0_part1_eq_skeleton]; unfold k0_part1_skel
  simp only [bind_assoc, pure_bind]
  refine chk (inb_of (hb 0 (by decide))) ?_
  refine gatLane 2048 _ (hv 0 (by decide)) ?_
  refine ldX ?_
  refine stRow _ ((k0_off4_eq n).trans (congrArg (fun x => ![x]) (show _ = 16 * (8 * n.val + 0) by omega))) ?_
  refine chk (inb_of (hb 1 (by decide))) ?_
  refine gatLane 2048 _ (hv 1 (by decide)) ?_
  refine ldX ?_
  refine stRow _ ((k0_off5_eq n).trans (congrArg (fun x => ![x]) (show _ = 16 * (8 * n.val + 1) by omega))) ?_
  refine chk (inb_of (hb 2 (by decide))) ?_
  refine gatLane 2048 _ (hv 2 (by decide)) ?_
  refine ldX ?_
  refine stRow _ ((k0_off6_eq n).trans (congrArg (fun x => ![x]) (show _ = 16 * (8 * n.val + 2) by omega))) ?_
  refine chk (inb_of (hb 3 (by decide))) ?_
  refine gatLane 2048 _ (hv 3 (by decide)) ?_
  refine ldX ?_
  refine stRow _ ((k0_off7_eq n).trans (congrArg (fun x => ![x]) (show _ = 16 * (8 * n.val + 3) by omega))) ?_
  refine chk (inb_of (hb 4 (by decide))) ?_
  refine gatLane 2048 _ (hv 4 (by decide)) ?_
  refine ldX ?_
  refine stRow _ ((k0_off8_eq n).trans (congrArg (fun x => ![x]) (show _ = 16 * (8 * n.val + 4) by omega))) ?_
  refine chk (inb_of (hb 5 (by decide))) ?_
  refine gatLane 2048 _ (hv 5 (by decide)) ?_
  refine ldX ?_
  refine stRow _ ((k0_off9_eq n).trans (congrArg (fun x => ![x]) (show _ = 16 * (8 * n.val + 5) by omega))) ?_
  refine chk (inb_of (hb 6 (by decide))) ?_
  refine gatLane 2048 _ (hv 6 (by decide)) ?_
  refine ldX ?_
  refine stRow _ ((k0_off10_eq n).trans (congrArg (fun x => ![x]) (show _ = 16 * (8 * n.val + 6) by omega))) ?_
  refine chk (inb_of (hb 7 (by decide))) ?_
  refine gatLane 2048 _ (hv 7 (by decide)) ?_
  refine ldX ?_
  refine stRow _ ((k0_off11_eq n).trans (congrArg (fun x => ![x]) (show _ = 16 * (8 * n.val + 7) by omega))) ?_
  refine ret (exI (S := fun X => St (thr d i) arg4 arg6 arg7 arg8 A X C H R) _ ⟨?_, rfl⟩)
  have h0 := hX
  exact (((((((h0.set (by omega)).set (by omega)).set (by omega)).set (by omega)).set (by omega)).set (by omega)).set (by omega)).set (by omega)

theorem t9_eq (v23 : BitVec 32) (v87 v94 v95 : FVec F S16 .f32) :
    k0_t9_body i arg2 harg2 arg3 harg3 arg4 harg4 arg5 harg5 arg6 harg6 arg7 harg7 arg8 harg8 arg9 v178_r0 v178_r1 v1 v4 k0_t1 v23 v87 v94 v95
    = k0_t2_body i arg2 harg2 arg3 harg3 arg5 harg5 arg4 harg4 arg6 harg6 arg7 harg7 arg8 harg8 arg9 v178_r0 v178_r1 v1 v4 v7 v8 v9 c0_i32_3 c1_i32 k0_t1 := rfl

end

end Cert.Proof

end
-- ==== Proof.Hist.lean ====
/-
  The histograms of a group of rows: clearing them, and adding a column's words to the buckets they fall in.
-/
module

public import proofs.«01_k».proof.Proof.Trans

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The word zero. -/
def z0 : F .f32 := Scalar.ofBits .f32 0x00000000#32

theorem clamp_le (x : BitVec 32) : (IntOp.minsi 255#32 (IntOp.maxsi 0#32 x)).toNat ≤ 255 := by
  unfold IntOp.minsi IntOp.maxsi
  by_cases h1 : x.slt 0#32 = true
  · rw [if_pos h1]; decide
  · rw [if_neg h1]
    by_cases h2 : (255#32).slt x = true
    · rw [if_pos h2]; decide
    · rw [if_neg h2]
      simp only [BitVec.slt_iff_toInt_lt, BitVec.toInt_eq_toNat_cond, BitVec.toNat_ofNat] at h1 h2
      have := x.isLt
      split at h1 <;> split at h2 <;> omega

theorem lanes_val (l : S16.Idx) : (k0_pay2 l).toNat = 256 * (l 0).val := by
  have hl := lane_lt l
  show (BitVec.ofNat 32 (0 * 16 + (l 0).val) * 256#32).toNat = _
  simp only [BitVec.toNat_mul, BitVec.toNat_ofNat]
  omega

/-- A word's place in the histograms: its lane's stretch, at its bucket. -/
theorem bucket_val (m v : FVec F S16 .f32) (l : S16.Idx) : ∃ b ≤ 255, (k0_pay19 k0_pay2 m v l).toNat = 256 * (l 0).val + b := by
  have hl := lane_lt l
  have h := clamp_le (fptosi 32 (k0_pay17 m v) l)
  refine ⟨_, h, ?_⟩
  show (k0_pay2 l + IntOp.minsi 255#32 (IntOp.maxsi 0#32 (fptosi 32 (k0_pay17 m v) l))).toNat = _
  rw [BitVec.toNat_add, lanes_val]
  omega

theorem bucket_lt (m v : FVec F S16 .f32) (l : S16.Idx) : (k0_pay19 k0_pay2 m v l).toNat < 4096 := by
  obtain ⟨b, hb, h⟩ := bucket_val m v l
  have hl := lane_lt l
  omega

theorem bucket_div (m v : FVec F S16 .f32) (l : S16.Idx) : (k0_pay19 k0_pay2 m v l).toNat / 256 = (l 0).val := by
  obtain ⟨b, hb, h⟩ := bucket_val m v l
  omega

/-- The counts after `n` columns. -/
def hC (m : FVec F S16 .f32) (X : ℕ → FVec F S16 .f32) : ℕ → S4096.Idx → F .f32
  | 0 => fun _ => z0
  | n + 1 => laneStore 256 (hC m X n) (k0_pay19 k0_pay2 m (X n)) k0_pay3 (k0_pay18 m (X n)) true

/-- The sums after `n` columns. -/
def hS (m : FVec F S16 .f32) (X : ℕ → FVec F S16 .f32) : ℕ → S4096.Idx → F .f32
  | 0 => fun _ => z0
  | n + 1 => laneStore 256 (hS m X n) (k0_pay19 k0_pay2 m (X n)) (X n) (k0_pay18 m (X n)) true

section
variable (d : Fin nD) (i : grid0.Coords) (arg2 : Memref sig .scVector .hbm S16777216 .f32) (harg2 : arg2.IsWhole) (arg3 : Memref sig .scVector .hbm S16777216 .f32) (harg3 : arg3.IsWhole) (arg4 : Memref sig .scVector .vmem S32768 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S4096 .f32) (harg7 : arg7.IsWhole) (arg8 : Memref sig .scVector .vmem S4096 .f32) (harg8 : arg8.IsWhole) (arg9 : DmaSems sig S_) (v178_r0 : DmaSems sig S_) (v178_r1 : DmaSems sig S_)
  (v1 : BitVec 32) (v4 : IVec S16 32) (v7 : IVec S16 32) (v8 : FVec F S16 .f32) (v9 : FVec F S16 .f32) (c0_i32_3 : BitVec 32) (c1_i32 : BitVec 32) (k0_t1 : Fin k0_t1_loop.trips)
  (A X : S32768.Idx → F .f32)

theorem t3_step {R : sProp 𝕄} (n : Fin k0_t3_loop.trips) (C H : S4096.Idx → F .f32) (hc : RowsUpto (fun _ _ => z0) C (8 * n.val))
    (hh : RowsUpto (fun _ _ => z0) H (8 * n.val)) :
    St (thr d i) arg4 arg6 arg7 arg8 A X C H R ⊢ wpK (thr d i)
      (k0_t3_body i arg2 harg2 arg3 harg3 arg4 harg4 arg5 harg5 arg6 harg6 arg7 harg7 arg8 harg8 arg9 v178_r0 v178_r1 v1 v4 v7 v8 k0_pay4 c0_i32_3 c1_i32 k0_t1 n ())
      fun _ => iprop(∃ p : (S4096.Idx → F .f32) × (S4096.Idx → F .f32), ⌜RowsUpto (fun _ _ => z0) p.1 (8 * (n.val + 1)) ∧ RowsUpto (fun _ _ => z0) p.2 (8 * (n.val + 1))⌝ ∗ St (thr d i) arg4 arg6 arg7 arg8 A X p.1 p.2 R) := by
  have hn : n.val < 32 := n.isLt
  have ho : ∀ r : Fin 8, k0_off12 n (BitVec.ofNat 32 r.val) = ![16 * (8 * n.val + r.val)] := fun r =>
    (k0_off12_eq n r).trans (congrArg (fun x => ![x]) (by omega))
  unfold k0_t3_body
  rw [k0_part2_eq_skeleton]; unfold k0_part2_skel
  simp only [bind_assoc, pure_bind]
  refine ldC ?_
  refine stRowC _ (ho 0) ?_
  refine ldH ?_
  refine stRowH _ (ho 0) ?_
  refine ldC ?_
  refine stRowC _ (ho 1) ?_
  refine ldH ?_
  refine stRowH _ (ho 1) ?_
  refine ldC ?_
  refine stRowC _ (ho 2) ?_
  refine ldH ?_
  refine stRowH _ (ho 2) ?_
  refine ldC ?_
  refine stRowC _ (ho 3) ?_
  refine ldH ?_
  refine stRowH _ (ho 3) ?_
  refine ldC ?_
  refine stRowC _ (ho 4) ?_
  refine ldH ?_
  refine stRowH _ (ho 4) ?_
  refine ldC ?_
  refine stRowC _ (ho 5) ?_
  refine ldH ?_
  refine stRowH _ (ho 5) ?_
  refine ldC ?_
  refine stRowC _ (ho 6) ?_
  refine ldH ?_
  refine stRowH _ (ho 6) ?_
  refine ldC ?_
  refine stRowC _ (ho 7) ?_
  refine ldH ?_
  refine stRowH _ (ho 7) ?_
  refine ret (exI (S := fun p : (S4096.Idx → F .f32) × (S4096.Idx → F .f32) => St (thr d i) arg4 arg6 arg7 arg8 A X p.1 p.2 R) (_, _) ⟨?_, ?_⟩)
  · exact ((((((((hc.set (by omega)).set (by omega)).set (by omega)).set (by omega)).set (by omega)).set (by omega)).set (by omega)).set (by omega))
  · exact ((((((((hh.set (by omega)).set (by omega)).set (by omega)).set (by omega)).set (by omega)).set (by omega)).set (by omega)).set (by omega))

theorem t4_step {R : sProp 𝕄} (v42_0 v42_1 v42_2 v42_3 v42_4 v42_5 v42_6 v42_7 m : FVec F S16 .f32) (hm : k0_pay245 v42_0 v42_1 v42_2 v42_3 v42_4 v42_5 v42_6 v42_7 = m)
    (n : Fin k0_t4_loop.trips) :
    St (thr d i) arg4 arg6 arg7 arg8 A X (hC m (row X) (8 * n.val)) (hS m (row X) (8 * n.val)) R ⊢ wpK (thr d i)
      (k0_t4_body i arg2 harg2 arg3 harg3 arg4 harg4 arg5 harg5 arg6 harg6 arg7 harg7 arg8 harg8 arg9 v178_r0 v178_r1 v1 v4 k0_pay2 k0_pay3 v9 c0_i32_3 c1_i32 k0_t1 v42_0 v42_1 v42_2 v42_3 v42_4 v42_5 v42_6 v42_7 n ())
      fun _ => St (thr d i) arg4 arg6 arg7 arg8 A X (hC m (row X) (8 * (n.val + 1))) (hS m (row X) (8 * (n.val + 1))) R := by
  have hn : n.val < 256 := n.isLt
  unfold k0_t4_body
  rw [k0_part3_eq_skeleton, k0_part4_eq_skeleton, k0_part5_eq_skeleton, hm]; unfold k0_part3_skel k0_part4_skel k0_part5_skel
  simp only [bind_assoc, pure_bind]
  refine ldRow (8 * n.val + 0) ((k0_off13_eq n).trans (congrArg (fun x => ![x]) (by omega))) ?_
  refine chk ⟨inb_of (bucket_lt m _), inb_of (bucket_lt m _)⟩ ?_
  refine scaHistC 256 (bucket_div m _) rfl ?_
  refine scaHistH 256 (bucket_div m _) rfl ?_
  refine ldRow (8 * n.val + 1) ((k0_off14_eq n).trans (congrArg (fun x => ![x]) (by omega))) ?_
  refine chk ⟨inb_of (bucket_lt m _), inb_of (bucket_lt m _)⟩ ?_
  refine scaHistC 256 (bucket_div m _) rfl ?_
  refine scaHistH 256 (bucket_div m _) rfl ?_
  refine ldRow (8 * n.val + 2) ((k0_off15_eq n).trans (congrArg (fun x => ![x]) (by omega))) ?_
  refine chk ⟨inb_of (bucket_lt m _), inb_of (bucket_lt m _)⟩ ?_
  refine scaHistC 256 (bucket_div m _) rfl ?_
  refine scaHistH 256 (bucket_div m _) rfl ?_
  refine ldRow (8 * n.val + 3) ((k0_off16_eq n).trans (congrArg (fun x => ![x]) (by omega))) ?_
  refine chk ⟨inb_of (bucket_lt m _), inb_of (bucket_lt m _)⟩ ?_
  refine scaHistC 256 (bucket_div m _) rfl ?_
  refine scaHistH 256 (bucket_div m _) rfl ?_
  refine ldRow (8 * n.val + 4) ((k0_off17_eq n).trans (congrArg (fun x => ![x]) (by omega))) ?_
  refine chk ⟨inb_of (bucket_lt m _), inb_of (bucket_lt m _)⟩ ?_
  refine scaHistC 256 (bucket_div m _) rfl ?_
  refine scaHistH 256 (bucket_div m _) rfl ?_
  refine ldRow (8 * n.val + 5) ((k0_off18_eq n).trans (congrArg (fun x => ![x]) (by omega))) ?_
  refine chk ⟨inb_of (bucket_lt m _), inb_of (bucket_lt m _)⟩ ?_
  refine scaHistC 256 (bucket_div m _) rfl ?_
  refine scaHistH 256 (bucket_div m _) rfl ?_
  refine ldRow (8 * n.val + 6) ((k0_off19_eq n).trans (congrArg (fun x => ![x]) (by omega))) ?_
  refine chk ⟨inb_of (bucket_lt m _), inb_of (bucket_lt m _)⟩ ?_
  refine scaHistC 256 (bucket_div m _) rfl ?_
  refine scaHistH 256 (bucket_div m _) rfl ?_
  refine ldRow (8 * n.val + 7) ((k0_off20_eq n).trans (congrArg (fun x => ![x]) (by omega))) ?_
  refine chk ⟨inb_of (bucket_lt m _), inb_of (bucket_lt m _)⟩ ?_
  refine scaHistC 256 (bucket_div m _) rfl ?_
  refine scaHistH 256 (bucket_div m _) rfl ?_
  refine ret ?_
  rw [show 8 * (n.val + 1) = 8 * n.val + 7 + 1 from rfl]
  exact Entails.rfl

theorem t10_eq (v127 : FVec F S16 .f32) :
    k0_t10_body i arg2 harg2 arg3 harg3 arg4 harg4 arg5 harg5 arg6 harg6 arg7 harg7 arg8 harg8 arg9 v178_r0 v178_r1 v7 v8 v9 v127 = k0_t3_body i arg2 harg2 arg3 harg3 arg5 harg5 arg4 harg4 arg6 harg6 arg7 harg7 arg8 harg8 arg9 v178_r0 v178_r1 v1 v4 v7 v8 v9 c0_i32_3 c1_i32 k0_t1 := rfl

end

end Cert.Proof

end
-- ==== Proof.Scan.lean ====
/-
  The scan of the histograms for a start below the threshold.
-/
module

public import proofs.«01_k».proof.Proof.Hist

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The lanes' positions at trip `n` of the scan, four a trip. -/
def idxS : ℕ → IVec S16 32
  | 0 => k0_pay2
  | n + 1 => k0_pay257 (k0_pay249 (k0_pay52 (k0_pay46 (idxS n))))

theorem idxS_val (l : S16.Idx) : ∀ n ≤ 64, (idxS n l).toNat = 256 * (l 0).val + 4 * n
  | 0, _ => lanes_val l
  | n + 1, h => by
    have hl := lane_lt l
    have ih := idxS_val l n (by omega)
    show (idxS n l + 1#32 + 1#32 + 1#32 + 1#32).toNat = _
    simp only [BitVec.toNat_add, BitVec.toNat_ofNat, ih]
    omega

/-- One bucket of the scan: the running count and sum, and the pair at the first bucket where they pass one. -/
def scanStep (C H : S4096.Idx → F .f32) (j : ℕ) (p : FVec F S16 .f32 × FVec F S16 .f32 × FVec F S16 .f32 × FVec F S16 .f32 × FVec F S16 .f32 × IVec S16 1) : FVec F S16 .f32 × FVec F S16 .f32 × FVec F S16 .f32 × FVec F S16 .f32 × FVec F S16 .f32 × IVec S16 1 :=
  have K := addf p.2.1 (lane 256 C j)
  have S := addf p.2.2.1 (lane 256 H j)
  have hit := andi (cmpf .oge (subf S (mulf p.1 K)) (broadcast S16 (Scalar.ofBits .f32 0x3F800000#32))) (xori p.2.2.2.2.2 (constantI S16 1 1#1))
  (subf p.1 (broadcast S16 (Scalar.ofBits .f32 0x3B800000#32)), K, S, select hit K p.2.2.2.1, select hit S p.2.2.2.2.1, ori p.2.2.2.2.2 hit)

def scanAt (m : FVec F S16 .f32) (C H : S4096.Idx → F .f32) : ℕ → FVec F S16 .f32 × FVec F S16 .f32 × FVec F S16 .f32 × FVec F S16 .f32 × FVec F S16 .f32 × IVec S16 1
  | 0 => (k0_pay246 m (Scalar.ofBits .f32 0x3B800000#32), k0_pay4, k0_pay4, k0_pay3, m, k0_pay247)
  | n + 1 => scanStep C H n (scanAt m C H n)

/-- What the scanning loop carries. -/
def sAcc (m : FVec F S16 .f32) (C H : S4096.Idx → F .f32) (n : ℕ) : IVec S16 32 × FVec F S16 .f32 × FVec F S16 .f32 × FVec F S16 .f32 × FVec F S16 .f32 × FVec F S16 .f32 × IVec S16 1 := (idxS n, scanAt m C H (4 * n))

section
variable (d : Fin nD) (i : grid0.Coords) (arg2 : Memref sig .scVector .hbm S16777216 .f32) (harg2 : arg2.IsWhole) (arg3 : Memref sig .scVector .hbm S16777216 .f32) (harg3 : arg3.IsWhole) (arg4 : Memref sig .scVector .vmem S32768 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S4096 .f32) (harg7 : arg7.IsWhole) (arg8 : Memref sig .scVector .vmem S4096 .f32) (harg8 : arg8.IsWhole) (arg9 : DmaSems sig S_) (v178_r0 : DmaSems sig S_) (v178_r1 : DmaSems sig S_)
  (v7 : IVec S16 32) (v8 : FVec F S16 .f32) (v9 : FVec F S16 .f32) (v49 : FVec F S16 .f32) (cst_33 : F .f32)
  (A X : S32768.Idx → F .f32) (C H : S4096.Idx → F .f32)

theorem t5_step {R : sProp 𝕄} (m : FVec F S16 .f32) (n : Fin k0_t5_loop.trips) :
    St (thr d i) arg4 arg6 arg7 arg8 A X C H R ⊢ wpK (thr d i)
      (k0_t5_body i arg2 harg2 arg3 harg3 arg4 harg4 arg5 harg5 arg6 harg6 arg7 harg7 arg8 harg8 arg9 v178_r0 v178_r1 v7 v8 v9 v49 cst_33 n (sAcc m C H n.val))
      fun a => iprop(∃ _ : Unit, ⌜a = sAcc m C H (n.val + 1)⌝ ∗ St (thr d i) arg4 arg6 arg7 arg8 A X C H R) := by
  have hn : n.val < 64 := n.isLt
  have hv0 : ∀ l : S16.Idx, (idxS n.val l).toNat = 256 * (l 0).val + 4 * n.val := fun l => idxS_val l n.val (by omega)
  have hv1 : ∀ l : S16.Idx, (k0_pay46 (idxS n.val) l).toNat = 256 * (l 0).val + (4 * n.val + 1) := by
    intro l
    have hl := lane_lt l
    show (idxS n.val l + 1#32).toNat = _
    rw [BitVec.toNat_add, hv0 l, BitVec.toNat_ofNat]
    omega
  have hv2 : ∀ l : S16.Idx, (k0_pay52 (k0_pay46 (idxS n.val)) l).toNat = 256 * (l 0).val + (4 * n.val + 2) := by
    intro l
    have hl := lane_lt l
    show (k0_pay46 (idxS n.val) l + 1#32).toNat = _
    rw [BitVec.toNat_add, hv1 l, BitVec.toNat_ofNat]
    omega
  have hv3 : ∀ l : S16.Idx, (k0_pay249 (k0_pay52 (k0_pay46 (idxS n.val))) l).toNat = 256 * (l 0).val + (4 * n.val + 3) := by
    intro l
    have hl := lane_lt l
    show (k0_pay52 (k0_pay46 (idxS n.val)) l + 1#32).toNat = _
    rw [BitVec.toNat_add, hv2 l, BitVec.toNat_ofNat]
    omega
  have hb : ∀ {v : IVec S16 32} {u : ℕ}, u < 256 → (∀ l : S16.Idx, (v l).toNat = 256 * (l 0).val + u) → ∀ l, (v l).toNat < 4096 := by
    intro v u hu h l
    have hl := lane_lt l
    rw [h l]; omega
  unfold k0_t5_body sAcc
  rw [k0_part6_eq_skeleton]; unfold k0_part6_skel
  rw [show 4 * (n.val + 1) = 4 * n.val + 3 + 1 from rfl]
  simp only [scanAt]
  generalize scanAt m C H (4 * n.val) = p
  obtain ⟨p0, p1, p2, p3, p4, p5⟩ := p
  simp only [bind_assoc, pure_bind]
  refine chk ⟨inb_of (hb (by omega) hv0), inb_of (hb (by omega) hv0)⟩ ?_
  refine gatLaneC 256 _ hv0 ?_
  refine gatLaneH 256 _ hv0 ?_
  refine chk ⟨inb_of (hb (by omega) hv1), inb_of (hb (by omega) hv1)⟩ ?_
  refine gatLaneC 256 _ hv1 ?_
  refine gatLaneH 256 _ hv1 ?_
  refine chk ⟨inb_of (hb (by omega) hv2), inb_of (hb (by omega) hv2)⟩ ?_
  refine gatLaneC 256 _ hv2 ?_
  refine gatLaneH 256 _ hv2 ?_
  refine chk ⟨inb_of (hb (by omega) hv3), inb_of (hb (by omega) hv3)⟩ ?_
  refine gatLaneC 256 _ hv3 ?_
  refine gatLaneH 256 _ hv3 ?_
  exact ret (exI (S := fun _ : Unit => St (thr d i) arg4 arg6 arg7 arg8 A X C H R) () rfl)

theorem t12_eq (v127 : FVec F S16 .f32) :
    k0_t12_body i arg2 harg2 arg3 harg3 arg4 harg4 arg5 harg5 arg6 harg6 arg7 harg7 arg8 harg8 arg9 v178_r0 v178_r1 v7 v8 v9 v127 = k0_t5_body i arg2 harg2 arg3 harg3 arg5 harg5 arg4 harg4 arg6 harg6 arg7 harg7 arg8 harg8 arg9 v178_r0 v178_r1 v7 v8 v9 v49 cst_33 := rfl

end

end Cert.Proof

end
-- ==== Proof.Sums.lean ====
/-
  The sums over the words above a bound, and the result's columns.
-/
module

public import proofs.«01_k».proof.Proof.Scan

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- How many of the words in columns `8 k + u`, `k < n`, are above the bound. -/
def kAt (t : FVec F S16 .f32) (X : ℕ → FVec F S16 .f32) (u : ℕ) : ℕ → FVec F S16 .f32
  | 0 => k0_pay4
  | n + 1 => addf (kAt t X u n) (select (cmpf .ogt (X (8 * n + u)) t) (broadcast S16 (Scalar.ofBits .f32 0x3F800000#32)) (broadcast S16 (Scalar.ofBits .f32 0x00000000#32)))

/-- Their sum. -/
def sAt (t : FVec F S16 .f32) (X : ℕ → FVec F S16 .f32) (u : ℕ) : ℕ → FVec F S16 .f32
  | 0 => k0_pay4
  | n + 1 => addf (sAt t X u n) (select (cmpf .ogt (X (8 * n + u)) t) (X (8 * n + u)) (broadcast S16 (Scalar.ofBits .f32 0x00000000#32)))

/-- What a loop of sums carries. -/
def nAcc (t : FVec F S16 .f32) (X : ℕ → FVec F S16 .f32) (n : ℕ) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (kAt t X 0 n, sAt t X 0 n, kAt t X 1 n, sAt t X 1 n, kAt t X 2 n, sAt t X 2 n, kAt t X 3 n, sAt t X 3 n, kAt t X 4 n, sAt t X 4 n, kAt t X 5 n, sAt t X 5 n, kAt t X 6 n, sAt t X 6 n, kAt t X 7 n, sAt t X 7 n)

/-- A column of the result. -/
def outCol (t : FVec F S16 .f32) (X : ℕ → FVec F S16 .f32) (j : ℕ) : FVec F S16 .f32 :=
  maximumf (subf (X j) t) (broadcast S16 (Scalar.ofBits .f32 0x00000000#32))

section
variable (d : Fin nD) (i : grid0.Coords) (arg2 : Memref sig .scVector .hbm S16777216 .f32) (harg2 : arg2.IsWhole) (arg3 : Memref sig .scVector .hbm S16777216 .f32) (harg3 : arg3.IsWhole) (arg4 : Memref sig .scVector .vmem S32768 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S4096 .f32) (harg7 : arg7.IsWhole) (arg8 : Memref sig .scVector .vmem S4096 .f32) (harg8 : arg8.IsWhole) (arg9 : DmaSems sig S_) (v178_r0 : DmaSems sig S_) (v178_r1 : DmaSems sig S_)
  (v7 : IVec S16 32) (v8 : FVec F S16 .f32) (v9 : FVec F S16 .f32) (v49 : FVec F S16 .f32) (cst_33 : F .f32)
  (A X : S32768.Idx → F .f32) (C H : S4096.Idx → F .f32)

theorem t6_step {R : sProp 𝕄} (v56_4 v56_5 t : FVec F S16 .f32) (ht : k0_pay259 v56_4 v56_5 = t) (n : Fin k0_t6_loop.trips) :
    St (thr d i) arg4 arg6 arg7 arg8 A X C H R ⊢ wpK (thr d i)
      (k0_t6_body i arg2 harg2 arg3 harg3 arg4 harg4 arg5 harg5 arg6 harg6 arg7 harg7 arg8 harg8 arg9 v178_r0 v178_r1 v7 v8 v9 v49 cst_33 v56_4 v56_5 n (nAcc t (row X) n.val))
      fun a => iprop(∃ _ : Unit, ⌜a = nAcc t (row X) (n.val + 1)⌝ ∗ St (thr d i) arg4 arg6 arg7 arg8 A X C H R) := by
  have hn : n.val < 256 := n.isLt
  have ho : ∀ r : Fin 8, k0_off21 n (BitVec.ofNat 32 (16 * r.val)) = ![16 * (8 * n.val + r.val)] := fun r =>
    (k0_off21_eq n r).trans (congrArg (fun x => ![x]) (by omega))
  unfold k0_t6_body nAcc
  rw [k0_part7_eq_skeleton, k0_part8_eq_skeleton]; unfold k0_part7_skel k0_part8_skel
  simp only [bind_assoc, pure_bind, ht]
  refine ldRow (8 * n.val + 0) (ho 0) ?_
  refine ldRow (8 * n.val + 1) (ho 1) ?_
  refine ldRow (8 * n.val + 2) (ho 2) ?_
  refine ldRow (8 * n.val + 3) (ho 3) ?_
  refine ldRow (8 * n.val + 4) (ho 4) ?_
  refine ldRow (8 * n.val + 5) (ho 5) ?_
  refine ldRow (8 * n.val + 6) (ho 6) ?_
  refine ldRow (8 * n.val + 7) (ho 7) ?_
  exact ret (exI (S := fun _ : Unit => St (thr d i) arg4 arg6 arg7 arg8 A X C H R) () rfl)

theorem t7_step {R : sProp 𝕄} (v61_0 v61_1 v61_2 v61_3 v61_4 v61_5 v61_6 v61_7 v61_8 v61_9 v61_10 v61_11 v61_12 v61_13 v61_14 v61_15 t : FVec F S16 .f32) (ht : k0_pay262 v61_0 v61_1 v61_2 v61_3 v61_4 v61_5 v61_6 v61_7 v61_8 v61_9 v61_10 v61_11 v61_12 v61_13 v61_14 v61_15 = t) (n : Fin k0_t7_loop.trips) :
    St (thr d i) arg4 arg6 arg7 arg8 A X C H R ⊢ wpK (thr d i)
      (k0_t7_body i arg2 harg2 arg3 harg3 arg4 harg4 arg5 harg5 arg6 harg6 arg7 harg7 arg8 harg8 arg9 v178_r0 v178_r1 v7 v8 v9 v49 cst_33 v61_0 v61_1 v61_2 v61_3 v61_4 v61_5 v61_6 v61_7 v61_8 v61_9 v61_10 v61_11 v61_12 v61_13 v61_14 v61_15 n (nAcc t (row X) n.val))
      fun a => iprop(∃ _ : Unit, ⌜a = nAcc t (row X) (n.val + 1)⌝ ∗ St (thr d i) arg4 arg6 arg7 arg8 A X C H R) := by
  have hn : n.val < 256 := n.isLt
  have ho : ∀ r : Fin 8, k0_off22 n (BitVec.ofNat 32 (16 * r.val)) = ![16 * (8 * n.val + r.val)] := fun r =>
    (k0_off22_eq n r).trans (congrArg (fun x => ![x]) (by omega))
  unfold k0_t7_body nAcc
  rw [k0_part9_eq_skeleton, k0_part10_eq_skeleton]; unfold k0_part9_skel k0_part10_skel
  simp only [bind_assoc, pure_bind, ht]
  refine ldRow (8 * n.val + 0) (ho 0) ?_
  refine ldRow (8 * n.val + 1) (ho 1) ?_
  refine ldRow (8 * n.val + 2) (ho 2) ?_
  refine ldRow (8 * n.val + 3) (ho 3) ?_
  refine ldRow (8 * n.val + 4) (ho 4) ?_
  refine ldRow (8 * n.val + 5) (ho 5) ?_
  refine ldRow (8 * n.val + 6) (ho 6) ?_
  refine ldRow (8 * n.val + 7) (ho 7) ?_
  exact ret (exI (S := fun _ : Unit => St (thr d i) arg4 arg6 arg7 arg8 A X C H R) () rfl)

theorem t13_eq (v127 a b : FVec F S16 .f32) :
    k0_t13_body i arg2 harg2 arg3 harg3 arg4 harg4 arg5 harg5 arg6 harg6 arg7 harg7 arg8 harg8 arg9 v178_r0 v178_r1 v7 v8 v9 v127 a b = k0_t6_body i arg2 harg2 arg3 harg3 arg5 harg5 arg4 harg4 arg6 harg6 arg7 harg7 arg8 harg8 arg9 v178_r0 v178_r1 v7 v8 v9 v49 cst_33 a b := rfl

theorem t14_eq (v127 v139_0 v139_1 v139_2 v139_3 v139_4 v139_5 v139_6 v139_7 v139_8 v139_9 v139_10 v139_11 v139_12 v139_13 v139_14 v139_15 : FVec F S16 .f32) :
    k0_t14_body i arg2 harg2 arg3 harg3 arg4 harg4 arg5 harg5 arg6 harg6 arg7 harg7 arg8 harg8 arg9 v178_r0 v178_r1 v7 v8 v9 v127 v139_0 v139_1 v139_2 v139_3 v139_4 v139_5 v139_6 v139_7 v139_8 v139_9 v139_10 v139_11 v139_12 v139_13 v139_14 v139_15 = k0_t7_body i arg2 harg2 arg3 harg3 arg5 harg5 arg4 harg4 arg6 harg6 arg7 harg7 arg8 harg8 arg9 v178_r0 v178_r1 v7 v8 v9 v49 cst_33 v139_0 v139_1 v139_2 v139_3 v139_4 v139_5 v139_6 v139_7 v139_8 v139_9 v139_10 v139_11 v139_12 v139_13 v139_14 v139_15 := rfl

end

section
variable (d : Fin nD) (i : grid0.Coords) (arg2 : Memref sig .scVector .hbm S16777216 .f32) (harg2 : arg2.IsWhole) (arg3 : Memref sig .scVector .hbm S16777216 .f32) (harg3 : arg3.IsWhole) (arg4 : Memref sig .scVector .vmem S32768 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S4096 .f32) (harg7 : arg7.IsWhole) (arg8 : Memref sig .scVector .vmem S4096 .f32) (harg8 : arg8.IsWhole) (arg9 : DmaSems sig S_) (v178_r0 : DmaSems sig S_) (v178_r1 : DmaSems sig S_)
  (v1 : BitVec 32) (v4 : IVec S16 32) (k0_t1 : Fin k0_t1_loop.trips) (v23 : BitVec 32)
  (X : S32768.Idx → F .f32) (C H : S4096.Idx → F .f32)

theorem t8_step {R : sProp 𝕄} (v87 v94 v95 t : FVec F S16 .f32) (ht : k0_pay268 v87 v94 v95 = t) (n : Fin k0_t8_loop.trips)
    (A : S32768.Idx → F .f32) (hA : LanesUpto 2048 (outCol t (row X)) A (8 * n.val)) :
    St (thr d i) arg4 arg6 arg7 arg8 A X C H R ⊢ wpK (thr d i)
      (k0_t8_body i arg2 harg2 arg3 harg3 arg4 harg4 arg5 harg5 arg6 harg6 arg7 harg7 arg8 harg8 arg9 v178_r0 v178_r1 v1 v4 k0_t1 v23 v87 v94 v95 n (idxT n.val))
      fun a => iprop(∃ A, ⌜LanesUpto 2048 (outCol t (row X)) A (8 * (n.val + 1)) ∧ a = idxT (n.val + 1)⌝ ∗ St (thr d i) arg4 arg6 arg7 arg8 A X C H R) := by
  have hn : n.val < 256 := n.isLt
  have hv : ∀ u < 8, ∀ l : S16.Idx, (idxT n.val l + BitVec.ofNat 32 u).toNat = 2048 * (l 0).val + (8 * n.val + u) := by
    intro u hu l
    have hl := lane_lt l
    rw [BitVec.toNat_add, idxT_val l n.val (by omega), BitVec.toNat_ofNat]
    omega
  have hb : ∀ u < 8, ∀ l : S16.Idx, (idxT n.val l + BitVec.ofNat 32 u).toNat < 32768 := by
    intro u hu l
    have hl := lane_lt l
    rw [hv u hu l]; omega
  unfold k0_t8_body
  rw [k0_part11_eq_skeleton, k0_part12_eq_skeleton]; unfold k0_part11_skel k0_part12_skel
  simp only [bind_assoc, pure_bind, ht]
  refine ldRow (8 * n.val + 0) ((k0_off23_eq n).trans (congrArg (fun x => ![x]) (by omega))) ?_
  refine chk (inb_of (hb 0 (by decide))) ?_
  refine scaLane 2048 (8 * n.val + 0) (hv 0 (by decide)) (by omega) rfl ?_
  refine ldRow (8 * n.val + 1) ((k0_off24_eq n).trans (congrArg (fun x => ![x]) (by omega))) ?_
  refine chk (inb_of (hb 1 (by decide))) ?_
  refine scaLane 2048 (8 * n.val + 1) (hv 1 (by decide)) (by omega) rfl ?_
  refine ldRow (8 * n.val + 2) ((k0_off25_eq n).trans (congrArg (fun x => ![x]) (by omega))) ?_
  refine chk (inb_of (hb 2 (by decide))) ?_
  refine scaLane 2048 (8 * n.val + 2) (hv 2 (by decide)) (by omega) rfl ?_
  refine ldRow (8 * n.val + 3) ((k0_off26_eq n).trans (congrArg (fun x => ![x]) (by omega))) ?_
  refine chk (inb_of (hb 3 (by decide))) ?_
  refine scaLane 2048 (8 * n.val + 3) (hv 3 (by decide)) (by omega) rfl ?_
  refine ldRow (8 * n.val + 4) ((k0_off27_eq n).trans (congrArg (fun x => ![x]) (by omega))) ?_
  refine chk (inb_of (hb 4 (by decide))) ?_
  refine scaLane 2048 (8 * n.val + 4) (hv 4 (by decide)) (by omega) rfl ?_
  refine ldRow (8 * n.val + 5) ((k0_off28_eq n).trans (congrArg (fun x => ![x]) (by omega))) ?_
  refine chk (inb_of (hb 5 (by decide))) ?_
  refine scaLane 2048 (8 * n.val + 5) (hv 5 (by decide)) (by omega) rfl ?_
  refine ldRow (8 * n.val + 6) ((k0_off29_eq n).trans (congrArg (fun x => ![x]) (by omega))) ?_
  refine chk (inb_of (hb 6 (by decide))) ?_
  refine scaLane 2048 (8 * n.val + 6) (hv 6 (by decide)) (by omega) rfl ?_
  refine ldRow (8 * n.val + 7) ((k0_off30_eq n).trans (congrArg (fun x => ![x]) (by omega))) ?_
  refine chk (inb_of (hb 7 (by decide))) ?_
  refine scaLane 2048 (8 * n.val + 7) (hv 7 (by decide)) (by omega) rfl ?_
  refine ret (exI (S := fun A => St (thr d i) arg4 arg6 arg7 arg8 A X C H R) _ ⟨?_, rfl⟩)
  have h0 := hA
  exact ((((((((h0.set rfl (by omega)).set rfl (by omega)).set rfl (by omega)).set rfl (by omega)).set rfl (by omega)).set rfl (by omega)).set rfl (by omega)).set rfl (by omega))

end

end Cert.Proof

end
-- ==== Proof.Group.lean ====
/-
  The group of sixteen rows: what the loops over it leave, one after another.
-/
module

public import proofs.«01_k».proof.Proof.Sums

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- A group's buffer, columns first. -/
def tr (A : S32768.Idx → F .f32) : S32768.Idx → F .f32 := fun i => A (ix 32768 (2048 * ((i 0).val % 16) + (i 0).val / 16))

theorem row_tr (A : S32768.Idx → F .f32) {k : ℕ} (hk : k < 2048) : row (tr A) k = lane 2048 A k := by
  funext l
  have hl := lane_lt l
  unfold row tr lane
  refine congrArg A ?_
  have h1 : (16 * k + (l 0).val) % 32768 = 16 * k + (l 0).val := Nat.mod_eq_of_lt (by omega)
  rw [ix_val, h1]
  congr 1
  omega

theorem eq_tr {A X : S32768.Idx → F .f32} (h : RowsUpto (lane 2048 A) X 2048) : X = tr A := by
  funext i
  have hi : (i 0).val < 32768 := (i 0).isLt
  have h1 : ∀ Y : S32768.Idx → F .f32, Y i = row Y ((i 0).val / 16) (ix 16 ((i 0).val % 16)) := by
    intro Y
    refine congrArg Y (idx_eq_ix i ?_)
    rw [ix_val]; omega
  rw [h1 X, h1 (tr A), h _ (by omega), row_tr A (by omega)]

/-- The rows' maxima. -/
def mxOf (A : S32768.Idx → F .f32) : FVec F S16 .f32 := k0_pay245 (colMax A 0 256) (colMax A 1 256) (colMax A 2 256) (colMax A 3 256) (colMax A 4 256) (colMax A 5 256) (colMax A 6 256) (colMax A 7 256)

/-- What the scan leaves. -/
def scOf (A : S32768.Idx → F .f32) : FVec F S16 .f32 × FVec F S16 .f32 × FVec F S16 .f32 × FVec F S16 .f32 × FVec F S16 .f32 × IVec S16 1 :=
  scanAt (mxOf A) (hC (mxOf A) (row (tr A)) 2048) (hS (mxOf A) (row (tr A)) 2048) 256

def t1Of (A : S32768.Idx → F .f32) : FVec F S16 .f32 := k0_pay259 (scOf A).2.2.2.1 (scOf A).2.2.2.2.1

/-- The next bound, from the counts and sums of the words above one. -/
def nextOf (t : FVec F S16 .f32) (X : ℕ → FVec F S16 .f32) : FVec F S16 .f32 :=
  k0_pay262 (kAt t X 0 256) (sAt t X 0 256) (kAt t X 1 256) (sAt t X 1 256) (kAt t X 2 256) (sAt t X 2 256) (kAt t X 3 256) (sAt t X 3 256) (kAt t X 4 256) (sAt t X 4 256) (kAt t X 5 256) (sAt t X 5 256) (kAt t X 6 256) (sAt t X 6 256) (kAt t X 7 256) (sAt t X 7 256)

def tauOf (A : S32768.Idx → F .f32) : FVec F S16 .f32 := nextOf (nextOf (t1Of A) (row (tr A))) (row (tr A))

/-- A group's result. -/
def gOut (A : S32768.Idx → F .f32) : S32768.Idx → F .f32 :=
  fun i => outCol (tauOf A) (row (tr A)) ((i 0).val % 2048) (ix 16 ((i 0).val / 2048))

theorem eq_gOut {A Y : S32768.Idx → F .f32} (h : LanesUpto 2048 (outCol (tauOf A) (row (tr A))) Y 2048) : Y = gOut A := by
  funext i
  have hi : (i 0).val < 32768 := (i 0).isLt
  unfold gOut
  rw [← h _ (Nat.mod_lt _ (by decide))]
  refine congrArg Y (idx_eq_ix i ?_)
  rw [ix_val]; omega

section Frame
variable {c : Thread nD τ} {sb st sc ss : Shape} {b : Memref sig c.2.kind .vmem sb .f32} {bt : Memref sig c.2.kind .vmem st .f32}
    {hc : Memref sig c.2.kind .vmem sc .f32} {hs : Memref sig c.2.kind .vmem ss .f32}
    {A : sb.Idx → F .f32} {X : st.Idx → F .f32} {C : sc.Idx → F .f32} {H : ss.Idx → F .f32}

theorem St_in {R : sProp 𝕄} : iprop(St c b bt hc hs A X C H iprop(emp) ∗ R) ⊢ St c b bt hc hs A X C H R := by
  unfold St
  iintro ⟨⟨HA, HX, HC, HH, -⟩, HR⟩
  isplitl [HA]; · iexact HA
  isplitl [HX]; · iexact HX
  isplitl [HC]; · iexact HC
  isplitl [HH]; · iexact HH
  iexact HR

theorem St_out {R Q : sProp 𝕄} (h : iprop(St c b bt hc hs A X C H iprop(emp) ∗ R) ⊢ Q) : St c b bt hc hs A X C H R ⊢ Q := by
  refine BI.BIBase.Entails.trans ?_ h
  unfold St
  iintro ⟨HA, HX, HC, HH, HR⟩
  isplitl [HA HX HC HH]
  · isplitl [HA]; · iexact HA
    isplitl [HX]; · iexact HX
    isplitl [HC]; · iexact HC
    isplitl [HH]; · iexact HH
    iempintro
  iexact HR

/-- From a run that carries anything along to one that is told what to do next. -/
theorem St_wand {A' : sb.Idx → F .f32} {X' : st.Idx → F .f32} {C' : sc.Idx → F .f32} {H' : ss.Idx → F .f32} {P Q : sProp 𝕄}
    (h : ∀ R : sProp 𝕄, (St c b bt hc hs A' X' C' H' R ⊢ P) → St c b bt hc hs A X C H R ⊢ Q) :
    St c b bt hc hs A X C H iprop(emp) ⊢ iprop((St c b bt hc hs A' X' C' H' iprop(emp) -∗ P) -∗ Q) := by
  iintro HS Hk
  iapply (St_in.trans (h iprop(St c b bt hc hs A' X' C' H' iprop(emp) -∗ P) (St_out (by
    iintro ⟨HS, Hk⟩
    iapply Hk $$ HS))))
  isplitl [HS] <;> iassumption

end Frame

section
variable (d : Fin nD) (i : grid0.Coords) (arg2 : Memref sig .scVector .hbm S16777216 .f32) (harg2 : arg2.IsWhole) (arg3 : Memref sig .scVector .hbm S16777216 .f32) (harg3 : arg3.IsWhole) (arg4 : Memref sig .scVector .vmem S32768 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S4096 .f32) (harg7 : arg7.IsWhole) (arg8 : Memref sig .scVector .vmem S4096 .f32) (harg8 : arg8.IsWhole) (arg9 : DmaSems sig S_) (v178_r0 : DmaSems sig S_) (v178_r1 : DmaSems sig S_)
  (v1 : BitVec 32) (v4 : IVec S16 32) (v7 : IVec S16 32) (v8 : FVec F S16 .f32) (v9 : FVec F S16 .f32) (c0_i32_3 : BitVec 32) (c1_i32 : BitVec 32) (k0_t1 : Fin k0_t1_loop.trips)

  (v23 : BitVec 32) (v127 : FVec F S16 .f32)
  (A X : S32768.Idx → F .f32) (C H : S4096.Idx → F .f32)
  {α : Type}

theorem loop_t2 {Φ : α → sProp 𝕄} {ok : (k0_t2_loop : Scf.Loop 32).OK} {kont : FVec F S16 .f32 × FVec F S16 .f32 × FVec F S16 .f32 × FVec F S16 .f32 × FVec F S16 .f32 × FVec F S16 .f32 × FVec F S16 .f32 × FVec F S16 .f32 × IVec S16 32 → Prog (TpuEff nD τ sig (Elt F) Λ₀ (thr d i).2) α} :
    St (thr d i) arg4 arg6 arg7 arg8 A X C H iprop(emp) ⊢ iprop((St (thr d i) arg4 arg6 arg7 arg8 A (tr A) C H iprop(emp) -∗ wpK (thr d i) (kont (colMax A 0 256, colMax A 1 256, colMax A 2 256, colMax A 3 256, colMax A 4 256, colMax A 5 256, colMax A 6 256, colMax A 7 256, idxT 256)) Φ)
      -∗ wpK (thr d i) (Scf.Loop.for k0_t2_loop ok (k0_pay236, k0_pay236, k0_pay236, k0_pay236, k0_pay236, k0_pay236, k0_pay236, k0_pay236, k0_pay1) (k0_t2_body i arg2 harg2 arg3 harg3 arg4 harg4 arg5 harg5 arg6 harg6 arg7 harg7 arg8 harg8 arg9 v178_r0 v178_r1 v1 k0_pay1 v7 v8 v9 c0_i32_3 c1_i32 k0_t1) >>= kont) Φ) := by
  refine St_wand fun R h => ?_
  refine loop (fun n a => iprop(∃ X, ⌜RowsUpto (lane 2048 A) X (8 * n) ∧ a = tAcc A n⌝ ∗ St (thr d i) arg4 arg6 arg7 arg8 A X C H R)) ?_ ?_ ?_
  · exact exI (S := fun X => St (thr d i) arg4 arg6 arg7 arg8 A X C H R) X ⟨RowsUpto.zero _ _, rfl⟩
  · intro n a
    refine exE fun X hX => ?_
    obtain ⟨hX, rfl⟩ := hX
    exact t2_step d i arg2 harg2 arg3 harg3 arg4 harg4 arg5 harg5 arg6 harg6 arg7 harg7 arg8 harg8 arg9 v178_r0 v178_r1 v1 k0_pay1 v7 v8 v9 c0_i32_3 c1_i32 k0_t1 A C H n X hX
  · intro a
    refine exE fun X hX => ?_
    obtain ⟨hX, rfl⟩ := hX
    obtain rfl := eq_tr hX
    exact h

theorem loop_t3 {Φ : α → sProp 𝕄} {ok : (k0_t3_loop : Scf.Loop 32).OK} {kont : Unit → Prog (TpuEff nD τ sig (Elt F) Λ₀ (thr d i).2) α} :
    St (thr d i) arg4 arg6 arg7 arg8 A X C H iprop(emp) ⊢ iprop((St (thr d i) arg4 arg6 arg7 arg8 A X (fun _ => z0) (fun _ => z0) iprop(emp) -∗ wpK (thr d i) (kont ⟨⟩) Φ)
      -∗ wpK (thr d i) (Scf.Loop.for k0_t3_loop ok ⟨⟩ (k0_t3_body i arg2 harg2 arg3 harg3 arg4 harg4 arg5 harg5 arg6 harg6 arg7 harg7 arg8 harg8 arg9 v178_r0 v178_r1 v1 v4 v7 v8 k0_pay4 c0_i32_3 c1_i32 k0_t1) >>= kont) Φ) := by
  refine St_wand fun R h => ?_
  refine loop (fun n _ => iprop(∃ p : (S4096.Idx → F .f32) × (S4096.Idx → F .f32), ⌜RowsUpto (fun _ _ => z0) p.1 (8 * n) ∧ RowsUpto (fun _ _ => z0) p.2 (8 * n)⌝ ∗ St (thr d i) arg4 arg6 arg7 arg8 A X p.1 p.2 R)) ?_ ?_ ?_
  · exact exI (S := fun p : (S4096.Idx → F .f32) × (S4096.Idx → F .f32) => St (thr d i) arg4 arg6 arg7 arg8 A X p.1 p.2 R) (C, H) ⟨RowsUpto.zero _ _, RowsUpto.zero _ _⟩
  · intro n a
    refine exE fun p hp => ?_
    exact t3_step d i arg2 harg2 arg3 harg3 arg4 harg4 arg5 harg5 arg6 harg6 arg7 harg7 arg8 harg8 arg9 v178_r0 v178_r1 v1 v4 v7 v8 c0_i32_3 c1_i32 k0_t1 A X n p.1 p.2 hp.1 hp.2
  · intro a
    refine exE fun p hp => ?_
    obtain ⟨C, H⟩ := p
    obtain ⟨hc, hh⟩ := hp
    obtain rfl := RowsUpto.const hc (by rfl)
    obtain rfl := RowsUpto.const hh (by rfl)
    exact h

theorem loop_t4 (v42_0 v42_1 v42_2 v42_3 v42_4 v42_5 v42_6 v42_7 : FVec F S16 .f32) {Φ : α → sProp 𝕄} {ok : (k0_t4_loop : Scf.Loop 32).OK} {kont : Unit → Prog (TpuEff nD τ sig (Elt F) Λ₀ (thr d i).2) α} :
    St (thr d i) arg4 arg6 arg7 arg8 A X (fun _ => z0) (fun _ => z0) iprop(emp) ⊢ iprop((St (thr d i) arg4 arg6 arg7 arg8 A X (hC (k0_pay245 v42_0 v42_1 v42_2 v42_3 v42_4 v42_5 v42_6 v42_7) (row X) 2048) (hS (k0_pay245 v42_0 v42_1 v42_2 v42_3 v42_4 v42_5 v42_6 v42_7) (row X) 2048) iprop(emp) -∗ wpK (thr d i) (kont ⟨⟩) Φ)
      -∗ wpK (thr d i) (Scf.Loop.for k0_t4_loop ok ⟨⟩ (k0_t4_body i arg2 harg2 arg3 harg3 arg4 harg4 arg5 harg5 arg6 harg6 arg7 harg7 arg8 harg8 arg9 v178_r0 v178_r1 v1 v4 k0_pay2 k0_pay3 v9 c0_i32_3 c1_i32 k0_t1 v42_0 v42_1 v42_2 v42_3 v42_4 v42_5 v42_6 v42_7) >>= kont) Φ) := by
  refine St_wand fun R h => ?_
  refine loop (fun n _ => St (thr d i) arg4 arg6 arg7 arg8 A X (hC (k0_pay245 v42_0 v42_1 v42_2 v42_3 v42_4 v42_5 v42_6 v42_7) (row X) (8 * n)) (hS (k0_pay245 v42_0 v42_1 v42_2 v42_3 v42_4 v42_5 v42_6 v42_7) (row X) (8 * n)) R) ?_ ?_ ?_
  · exact Entails.rfl
  · intro n a
    exact t4_step d i arg2 harg2 arg3 harg3 arg4 harg4 arg5 harg5 arg6 harg6 arg7 harg7 arg8 harg8 arg9 v178_r0 v178_r1 v1 v4 v9 c0_i32_3 c1_i32 k0_t1 A X v42_0 v42_1 v42_2 v42_3 v42_4 v42_5 v42_6 v42_7 _ rfl n
  · intro a
    exact h

theorem loop_t5 (m : FVec F S16 .f32) (v49 : FVec F S16 .f32) (cst_33 : F .f32) {Φ : α → sProp 𝕄} {ok : (k0_t5_loop : Scf.Loop 32).OK} {kont : IVec S16 32 × FVec F S16 .f32 × FVec F S16 .f32 × FVec F S16 .f32 × FVec F S16 .f32 × FVec F S16 .f32 × IVec S16 1 → Prog (TpuEff nD τ sig (Elt F) Λ₀ (thr d i).2) α} :
    St (thr d i) arg4 arg6 arg7 arg8 A X C H iprop(emp) ⊢ iprop((St (thr d i) arg4 arg6 arg7 arg8 A X C H iprop(emp) -∗ wpK (thr d i) (kont (sAcc m C H 64)) Φ)
      -∗ wpK (thr d i) (Scf.Loop.for k0_t5_loop ok (k0_pay2, k0_pay246 m (Scalar.ofBits .f32 0x3B800000#32), k0_pay4, k0_pay4, k0_pay3, m, k0_pay247) (k0_t5_body i arg2 harg2 arg3 harg3 arg4 harg4 arg5 harg5 arg6 harg6 arg7 harg7 arg8 harg8 arg9 v178_r0 v178_r1 v7 v8 v9 v49 cst_33) >>= kont) Φ) := by
  refine St_wand fun R h => ?_
  refine loop (fun n a => iprop(∃ _ : Unit, ⌜a = sAcc m C H n⌝ ∗ St (thr d i) arg4 arg6 arg7 arg8 A X C H R)) ?_ ?_ ?_
  · exact exI (S := fun _ : Unit => St (thr d i) arg4 arg6 arg7 arg8 A X C H R) () rfl
  · intro n a
    refine exE fun _ ha => ?_
    obtain rfl := ha
    exact t5_step d i arg2 harg2 arg3 harg3 arg4 harg4 arg5 harg5 arg6 harg6 arg7 harg7 arg8 harg8 arg9 v178_r0 v178_r1 v7 v8 v9 v49 cst_33 A X C H m n
  · intro a
    refine exE fun _ ha => ?_
    obtain rfl := ha
    exact h

theorem loop_t6 (v56_4 v56_5 : FVec F S16 .f32) (v49 : FVec F S16 .f32) (cst_33 : F .f32) {Φ : α → sProp 𝕄} {ok : (k0_t6_loop : Scf.Loop 32).OK} {kont : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 → Prog (TpuEff nD τ sig (Elt F) Λ₀ (thr d i).2) α} :
    St (thr d i) arg4 arg6 arg7 arg8 A X C H iprop(emp) ⊢ iprop((St (thr d i) arg4 arg6 arg7 arg8 A X C H iprop(emp) -∗ wpK (thr d i) (kont (nAcc (k0_pay259 v56_4 v56_5) (row X) 256)) Φ)
      -∗ wpK (thr d i) (Scf.Loop.for k0_t6_loop ok (k0_pay4, k0_pay4, k0_pay4, k0_pay4, k0_pay4, k0_pay4, k0_pay4, k0_pay4, k0_pay4, k0_pay4, k0_pay4, k0_pay4, k0_pay4, k0_pay4, k0_pay4, k0_pay4) (k0_t6_body i arg2 harg2 arg3 harg3 arg4 harg4 arg5 harg5 arg6 harg6 arg7 harg7 arg8 harg8 arg9 v178_r0 v178_r1 v7 v8 v9 v49 cst_33 v56_4 v56_5) >>= kont) Φ) := by
  refine St_wand fun R h => ?_
  refine loop (fun n a => iprop(∃ _ : Unit, ⌜a = nAcc (k0_pay259 v56_4 v56_5) (row X) n⌝ ∗ St (thr d i) arg4 arg6 arg7 arg8 A X C H R)) ?_ ?_ ?_
  · exact exI (S := fun _ : Unit => St (thr d i) arg4 arg6 arg7 arg8 A X C H R) () rfl
  · intro n a
    refine exE fun _ ha => ?_
    obtain rfl := ha
    exact t6_step d i arg2 harg2 arg3 harg3 arg4 harg4 arg5 harg5 arg6 harg6 arg7 harg7 arg8 harg8 arg9 v178_r0 v178_r1 v7 v8 v9 v49 cst_33 A X C H v56_4 v56_5 _ rfl n
  · intro a
    refine exE fun _ ha => ?_
    obtain rfl := ha
    exact h

theorem loop_t7 (v61_0 v61_1 v61_2 v61_3 v61_4 v61_5 v61_6 v61_7 v61_8 v61_9 v61_10 v61_11 v61_12 v61_13 v61_14 v61_15 : FVec F S16 .f32) (v49 : FVec F S16 .f32) (cst_33 : F .f32) {Φ : α → sProp 𝕄} {ok : (k0_t7_loop : Scf.Loop 32).OK} {kont : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 → Prog (TpuEff nD τ sig (Elt F) Λ₀ (thr d i).2) α} :
    St (thr d i) arg4 arg6 arg7 arg8 A X C H iprop(emp) ⊢ iprop((St (thr d i) arg4 arg6 arg7 arg8 A X C H iprop(emp) -∗ wpK (thr d i) (kont (nAcc (k0_pay262 v61_0 v61_1 v61_2 v61_3 v61_4 v61_5 v61_6 v61_7 v61_8 v61_9 v61_10 v61_11 v61_12 v61_13 v61_14 v61_15) (row X) 256)) Φ)
      -∗ wpK (thr d i) (Scf.Loop.for k0_t7_loop ok (k0_pay4, k0_pay4, k0_pay4, k0_pay4, k0_pay4, k0_pay4, k0_pay4, k0_pay4, k0_pay4, k0_pay4, k0_pay4, k0_pay4, k0_pay4, k0_pay4, k0_pay4, k0_pay4) (k0_t7_body i arg2 harg2 arg3 harg3 arg4 harg4 arg5 harg5 arg6 harg6 arg7 harg7 arg8 harg8 arg9 v178_r0 v178_r1 v7 v8 v9 v49 cst_33 v61_0 v61_1 v61_2 v61_3 v61_4 v61_5 v61_6 v61_7 v61_8 v61_9 v61_10 v61_11 v61_12 v61_13 v61_14 v61_15) >>= kont) Φ) := by
  refine St_wand fun R h => ?_
  refine loop (fun n a => iprop(∃ _ : Unit, ⌜a = nAcc (k0_pay262 v61_0 v61_1 v61_2 v61_3 v61_4 v61_5 v61_6 v61_7 v61_8 v61_9 v61_10 v61_11 v61_12 v61_13 v61_14 v61_15) (row X) n⌝ ∗ St (thr d i) arg4 arg6 arg7 arg8 A X C H R)) ?_ ?_ ?_
  · exact exI (S := fun _ : Unit => St (thr d i) arg4 arg6 arg7 arg8 A X C H R) () rfl
  · intro n a
    refine exE fun _ ha => ?_
    obtain rfl := ha
    exact t7_step d i arg2 harg2 arg3 harg3 arg4 harg4 arg5 harg5 arg6 harg6 arg7 harg7 arg8 harg8 arg9 v178_r0 v178_r1 v7 v8 v9 v49 cst_33 A X C H v61_0 v61_1 v61_2 v61_3 v61_4 v61_5 v61_6 v61_7 v61_8 v61_9 v61_10 v61_11 v61_12 v61_13 v61_14 v61_15 _ rfl n
  · intro a
    refine exE fun _ ha => ?_
    obtain rfl := ha
    exact h

theorem loop_t8 (v87 v94 v95 : FVec F S16 .f32) (ht : k0_pay268 v87 v94 v95 = tauOf A) {Φ : α → sProp 𝕄} {ok : (k0_t8_loop : Scf.Loop 32).OK} {kont : IVec S16 32 → Prog (TpuEff nD τ sig (Elt F) Λ₀ (thr d i).2) α} :
    St (thr d i) arg4 arg6 arg7 arg8 A (tr A) C H iprop(emp) ⊢ iprop((St (thr d i) arg4 arg6 arg7 arg8 (gOut A) (tr A) C H iprop(emp) -∗ wpK (thr d i) (kont (idxT 256)) Φ)
      -∗ wpK (thr d i) (Scf.Loop.for k0_t8_loop ok k0_pay1 (k0_t8_body i arg2 harg2 arg3 harg3 arg4 harg4 arg5 harg5 arg6 harg6 arg7 harg7 arg8 harg8 arg9 v178_r0 v178_r1 v1 k0_pay1 k0_t1 v23 v87 v94 v95) >>= kont) Φ) := by
  refine St_wand fun R h => ?_
  refine loop (fun n a => iprop(∃ Y, ⌜LanesUpto 2048 (outCol (tauOf A) (row (tr A))) Y (8 * n) ∧ a = idxT n⌝ ∗ St (thr d i) arg4 arg6 arg7 arg8 Y (tr A) C H R)) ?_ ?_ ?_
  · exact exI (S := fun Y => St (thr d i) arg4 arg6 arg7 arg8 Y (tr A) C H R) A ⟨LanesUpto.zero _ _, rfl⟩
  · intro n a
    refine exE fun Y hY => ?_
    obtain ⟨hY, rfl⟩ := hY
    exact t8_step d i arg2 harg2 arg3 harg3 arg4 harg4 arg5 harg5 arg6 harg6 arg7 harg7 arg8 harg8 arg9 v178_r0 v178_r1 v1 k0_pay1 k0_t1 v23 (tr A) C H v87 v94 v95 _ ht n Y hY
  · intro a
    refine exE fun Y hY => ?_
    obtain ⟨hY, rfl⟩ := hY
    obtain rfl := eq_gOut hY
    exact h

theorem loop_t9 (v87 v94 v95 : FVec F S16 .f32) {Φ : α → sProp 𝕄} {ok : (k0_t9_loop : Scf.Loop 32).OK} {kont : FVec F S16 .f32 × FVec F S16 .f32 × FVec F S16 .f32 × FVec F S16 .f32 × FVec F S16 .f32 × FVec F S16 .f32 × FVec F S16 .f32 × FVec F S16 .f32 × IVec S16 32 → Prog (TpuEff nD τ sig (Elt F) Λ₀ (thr d i).2) α} :
    St (thr d i) arg5 arg6 arg7 arg8 A X C H iprop(emp) ⊢ iprop((St (thr d i) arg5 arg6 arg7 arg8 A (tr A) C H iprop(emp) -∗ wpK (thr d i) (kont (colMax A 0 256, colMax A 1 256, colMax A 2 256, colMax A 3 256, colMax A 4 256, colMax A 5 256, colMax A 6 256, colMax A 7 256, idxT 256)) Φ)
      -∗ wpK (thr d i) (Scf.Loop.for k0_t9_loop ok (k0_pay271, k0_pay271, k0_pay271, k0_pay271, k0_pay271, k0_pay271, k0_pay271, k0_pay271, k0_pay1) (k0_t9_body i arg2 harg2 arg3 harg3 arg4 harg4 arg5 harg5 arg6 harg6 arg7 harg7 arg8 harg8 arg9 v178_r0 v178_r1 v1 k0_pay1 k0_t1 v23 v87 v94 v95) >>= kont) Φ) :=
  loop_t2 d i arg2 harg2 arg3 harg3 arg5 harg5 arg4 harg4 arg6 harg6 arg7 harg7 arg8 harg8 arg9 v178_r0 v178_r1 v1 k0_pay2 k0_pay3 k0_pay4 v1 v1 k0_t1 A X C H

theorem loop_t10 {Φ : α → sProp 𝕄} {ok : (k0_t10_loop : Scf.Loop 32).OK} {kont : Unit → Prog (TpuEff nD τ sig (Elt F) Λ₀ (thr d i).2) α} :
    St (thr d i) arg5 arg6 arg7 arg8 A X C H iprop(emp) ⊢ iprop((St (thr d i) arg5 arg6 arg7 arg8 A X (fun _ => z0) (fun _ => z0) iprop(emp) -∗ wpK (thr d i) (kont ⟨⟩) Φ)
      -∗ wpK (thr d i) (Scf.Loop.for k0_t10_loop ok ⟨⟩ (k0_t10_body i arg2 harg2 arg3 harg3 arg4 harg4 arg5 harg5 arg6 harg6 arg7 harg7 arg8 harg8 arg9 v178_r0 v178_r1 v7 v8 k0_pay4 v127) >>= kont) Φ) :=
  loop_t3 d i arg2 harg2 arg3 harg3 arg5 harg5 arg4 harg4 arg6 harg6 arg7 harg7 arg8 harg8 arg9 v178_r0 v178_r1 0#32 k0_pay1 v7 v8 0#32 0#32 (⟨0, by decide⟩ : Fin k0_t1_loop.trips) A X C H

theorem loop_t11 (v42_0 v42_1 v42_2 v42_3 v42_4 v42_5 v42_6 v42_7 : FVec F S16 .f32) {Φ : α → sProp 𝕄} {ok : (k0_t11_loop : Scf.Loop 32).OK} {kont : Unit → Prog (TpuEff nD τ sig (Elt F) Λ₀ (thr d i).2) α} :
    St (thr d i) arg5 arg6 arg7 arg8 A X (fun _ => z0) (fun _ => z0) iprop(emp) ⊢ iprop((St (thr d i) arg5 arg6 arg7 arg8 A X (hC (k0_pay245 v42_0 v42_1 v42_2 v42_3 v42_4 v42_5 v42_6 v42_7) (row X) 2048) (hS (k0_pay245 v42_0 v42_1 v42_2 v42_3 v42_4 v42_5 v42_6 v42_7) (row X) 2048) iprop(emp) -∗ wpK (thr d i) (kont ⟨⟩) Φ)
      -∗ wpK (thr d i) (Scf.Loop.for k0_t11_loop ok ⟨⟩ (k0_t11_body i arg2 harg2 arg3 harg3 arg4 harg4 arg5 harg5 arg6 harg6 arg7 harg7 arg8 harg8 arg9 v178_r0 v178_r1 k0_pay2 k0_pay3 v9 (k0_pay280 v42_0 v42_1 v42_2 v42_3 v42_4 v42_5 v42_6 v42_7)) >>= kont) Φ) :=
  loop_t4 d i arg2 harg2 arg3 harg3 arg5 harg5 arg4 harg4 arg6 harg6 arg7 harg7 arg8 harg8 arg9 v178_r0 v178_r1 0#32 k0_pay1 v9 0#32 0#32 (⟨0, by decide⟩ : Fin k0_t1_loop.trips) A X v42_0 v42_1 v42_2 v42_3 v42_4 v42_5 v42_6 v42_7

theorem loop_t12 (m : FVec F S16 .f32) {Φ : α → sProp 𝕄} {ok : (k0_t12_loop : Scf.Loop 32).OK} {kont : IVec S16 32 × FVec F S16 .f32 × FVec F S16 .f32 × FVec F S16 .f32 × FVec F S16 .f32 × FVec F S16 .f32 × IVec S16 1 → Prog (TpuEff nD τ sig (Elt F) Λ₀ (thr d i).2) α} :
    St (thr d i) arg5 arg6 arg7 arg8 A X C H iprop(emp) ⊢ iprop((St (thr d i) arg5 arg6 arg7 arg8 A X C H iprop(emp) -∗ wpK (thr d i) (kont (sAcc m C H 64)) Φ)
      -∗ wpK (thr d i) (Scf.Loop.for k0_t12_loop ok (k0_pay2, k0_pay281 m, k0_pay4, k0_pay4, k0_pay3, m, k0_pay282) (k0_t12_body i arg2 harg2 arg3 harg3 arg4 harg4 arg5 harg5 arg6 harg6 arg7 harg7 arg8 harg8 arg9 v178_r0 v178_r1 v7 v8 v9 v127) >>= kont) Φ) :=
  loop_t5 d i arg2 harg2 arg3 harg3 arg5 harg5 arg4 harg4 arg6 harg6 arg7 harg7 arg8 harg8 arg9 v178_r0 v178_r1 v7 v8 v9 A X C H m v127 z0

theorem loop_t13 (v56_4 v56_5 : FVec F S16 .f32) {Φ : α → sProp 𝕄} {ok : (k0_t13_loop : Scf.Loop 32).OK} {kont : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 → Prog (TpuEff nD τ sig (Elt F) Λ₀ (thr d i).2) α} :
    St (thr d i) arg5 arg6 arg7 arg8 A X C H iprop(emp) ⊢ iprop((St (thr d i) arg5 arg6 arg7 arg8 A X C H iprop(emp) -∗ wpK (thr d i) (kont (nAcc (k0_pay259 v56_4 v56_5) (row X) 256)) Φ)
      -∗ wpK (thr d i) (Scf.Loop.for k0_t13_loop ok (k0_pay4, k0_pay4, k0_pay4, k0_pay4, k0_pay4, k0_pay4, k0_pay4, k0_pay4, k0_pay4, k0_pay4, k0_pay4, k0_pay4, k0_pay4, k0_pay4, k0_pay4, k0_pay4) (k0_t13_body i arg2 harg2 arg3 harg3 arg4 harg4 arg5 harg5 arg6 harg6 arg7 harg7 arg8 harg8 arg9 v178_r0 v178_r1 v7 v8 v9 v127 v56_4 v56_5) >>= kont) Φ) :=
  loop_t6 d i arg2 harg2 arg3 harg3 arg5 harg5 arg4 harg4 arg6 harg6 arg7 harg7 arg8 harg8 arg9 v178_r0 v178_r1 v7 v8 v9 A X C H v56_4 v56_5 v127 z0

theorem loop_t14 (v61_0 v61_1 v61_2 v61_3 v61_4 v61_5 v61_6 v61_7 v61_8 v61_9 v61_10 v61_11 v61_12 v61_13 v61_14 v61_15 : FVec F S16 .f32) {Φ : α → sProp 𝕄} {ok : (k0_t14_loop : Scf.Loop 32).OK} {kont : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 → Prog (TpuEff nD τ sig (Elt F) Λ₀ (thr d i).2) α} :
    St (thr d i) arg5 arg6 arg7 arg8 A X C H iprop(emp) ⊢ iprop((St (thr d i) arg5 arg6 arg7 arg8 A X C H iprop(emp) -∗ wpK (thr d i) (kont (nAcc (k0_pay262 v61_0 v61_1 v61_2 v61_3 v61_4 v61_5 v61_6 v61_7 v61_8 v61_9 v61_10 v61_11 v61_12 v61_13 v61_14 v61_15) (row X) 256)) Φ)
      -∗ wpK (thr d i) (Scf.Loop.for k0_t14_loop ok (k0_pay4, k0_pay4, k0_pay4, k0_pay4, k0_pay4, k0_pay4, k0_pay4, k0_pay4, k0_pay4, k0_pay4, k0_pay4, k0_pay4, k0_pay4, k0_pay4, k0_pay4, k0_pay4) (k0_t14_body i arg2 harg2 arg3 harg3 arg4 harg4 arg5 harg5 arg6 harg6 arg7 harg7 arg8 harg8 arg9 v178_r0 v178_r1 v7 v8 v9 v127 v61_0 v61_1 v61_2 v61_3 v61_4 v61_5 v61_6 v61_7 v61_8 v61_9 v61_10 v61_11 v61_12 v61_13 v61_14 v61_15) >>= kont) Φ) :=
  loop_t7 d i arg2 harg2 arg3 harg3 arg5 harg5 arg4 harg4 arg6 harg6 arg7 harg7 arg8 harg8 arg9 v178_r0 v178_r1 v7 v8 v9 A X C H v61_0 v61_1 v61_2 v61_3 v61_4 v61_5 v61_6 v61_7 v61_8 v61_9 v61_10 v61_11 v61_12 v61_13 v61_14 v61_15 v127 z0

theorem loop_t15 (v158_0 v158_1 v158_2 v158_3 v158_4 v158_5 v158_6 v158_7 v158_8 v158_9 v158_10 v158_11 v158_12 v158_13 v158_14 v158_15 : FVec F S16 .f32) (ht : (k0_pay268 (k0_pay265 v158_0 v158_2 v158_4 v158_6 v158_8 v158_10 v158_12 v158_14) (k0_pay266 v158_1 v158_3 v158_5 v158_7 v158_9 v158_11 v158_13 v158_15) k0_pay267) = tauOf A) {Φ : α → sProp 𝕄} {ok : (k0_t15_loop : Scf.Loop 32).OK} {kont : IVec S16 32 → Prog (TpuEff nD τ sig (Elt F) Λ₀ (thr d i).2) α} :
    St (thr d i) arg5 arg6 arg7 arg8 A (tr A) C H iprop(emp) ⊢ iprop((St (thr d i) arg5 arg6 arg7 arg8 (gOut A) (tr A) C H iprop(emp) -∗ wpK (thr d i) (kont (idxT 256)) Φ)
      -∗ wpK (thr d i) (Scf.Loop.for k0_t15_loop ok k0_pay1 (k0_t15_body i arg2 harg2 arg3 harg3 arg4 harg4 arg5 harg5 arg6 harg6 arg7 harg7 arg8 harg8 arg9 v178_r0 v178_r1 v158_1 v158_3 v158_4 v158_5 v158_6 v158_7 v158_8 v158_9 v158_10 v158_11 v158_12 v158_13 v158_14 v158_15 (k0_pay300 v158_0 v158_2)) >>= kont) Φ) :=
  loop_t8 d i arg2 harg2 arg3 harg3 arg5 harg5 arg4 harg4 arg6 harg6 arg7 harg7 arg8 harg8 arg9 v178_r0 v178_r1 0#32 (⟨0, by decide⟩ : Fin k0_t1_loop.trips) 0#32 A C H _ _ _ ht

end

end Cert.Proof

end
-- ==== Proof.Moves.lean ====
/-
  The kernel's copies: a group fetched into a buffer while the rest of the array stays held, and a group sent out.
-/
module

public import proofs.«01_k».proof.Proof.Group

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

section
variable {c : Thread nD τ} {s : Shape} {α : Type}

/-- What a subcore owes the launch, and the evidence that its waits are admissible. -/
def owed (c : Thread nD τ) (O : CellTallies nD τ sig (HIx 1)) (W : Waits sig (HIx 1)) : sProp 𝕄 :=
  iprop(Transfers.MayWaits c (none : HIx 1) O ∗ ∃ W', ⌜∀ p ∈ W', p ∈ W ∨ p.2 = none⌝ ∗ owes c O W')

/-- A fetch under way: what it will deliver, and the part of the array it does not read. -/
def fetching (c : Thread nD τ) (b : Memref sig c.2.kind .vmem s .f32) (src : Memref sig c.2.kind .hbm s .f32) (sm : DmaSem sig)
    (S : Finset (Idx (src.view.loc c))) (fx : Buf (Elt F) (src.view.loc c)) : sProp 𝕄 :=
  iprop(Transfers.Flight countersEmb c (.dma sm) (none : HIx 1) (b.view.amount (.dma sm))
      iprop(holds c b (src.view.read (Elt F) fx) ∗ (src.view.loc c ↦[src.view.set]{fullShare} fx))
    ∗ (src.view.loc c ↦[S \ src.view.set]{fullShare} fx))

theorem fetch_start {Φ : α → sProp 𝕄} {b : Memref sig c.2.kind .vmem s .f32} {src : Memref sig c.2.kind .hbm s .f32} {sm : DmaSem sig}
    {S : Finset (Idx (src.view.loc c))} {fx : Buf (Elt F) (src.view.loc c)} {A : s.Idx → F .f32} (hS : src.view.set ⊆ S) (h0 : 0 < s.numel)
    {hsrc : src.view.WordExact} {hdst : b.view.WordExact} {hsem : DmaTarget.Typed (nD := nD) .hbm (.dma sm) (.here b)}
    {k : PUnit → Prog (TpuEff nD τ sig (Elt F) Λ₀ c.2) α} :
    iprop((src.view.loc c ↦[S]{fullShare} fx) ∗ holds c b A ∗ semVal (c, .dma sm) 0)
      ⊢ iprop((fetching c b src sm S fx -∗ wpK c (k ⟨⟩) Φ)
        -∗ wpK c (Prog.lift (.enqueueDma src (.here b) (.dma sm) hsrc hdst hsem) >>= k) Φ) := by
  unfold fetching holds
  iintro ⟨Hx, ⟨%f, -, Hb⟩, Hs⟩ Hk
  ihave Hx' := (pointsTo_split_subset hS).1 $$ Hx
  icases Hx' with ⟨Hx, Hr⟩
  iapply (Transfers.wp_dmaLocal countersEmb 𝒱₀ c none (none : HIx 1) (b.view.amount (.dma sm)) rfl (View.amount_pos _ _ h0)
    (subset_refl b.view.set)) $$ [Hx Hb Hs]
  · isplitl [Hx]; · iexact Hx
    isplitl [Hb]; · iexact Hb
    iexact Hs
  iintro HF
  iapply Hk
  isplitl [HF]
  · iapply (Transfers.Flight_mono countersEmb c ?_) $$ HF
    iintro ⟨Hb, Hx⟩
    isplitl [Hb]
    · iexists _; isplitr; rotate_left; · iexact Hb
      ipureintro; exact View.read_write_univ _ _
    · iexact Hx
  · iexact Hr

theorem fetch_wait {Φ : α → sProp 𝕄} {b : Memref sig c.2.kind .vmem s .f32} {src src' : Memref sig c.2.kind .hbm s .f32} {sm : DmaSem sig}
    {S : Finset (Idx (src.view.loc c))} {fx : Buf (Elt F) (src.view.loc c)} {O : CellTallies nD τ sig (HIx 1)} {W : Waits sig (HIx 1)} (hS : src.view.set ⊆ S)
    {hsrc : src'.view.WordExact} {hdst : b.view.WordExact}
    {k : PUnit → Prog (TpuEff nD τ sig (Elt F) Λ₀ c.2) α} :
    iprop(fetching c b src sm S fx ∗ owed c O W)
      ⊢ iprop((iprop((src.view.loc c ↦[S]{fullShare} fx) ∗ holds c b (src.view.read (Elt F) fx) ∗ semVal (c, .dma sm) 0 ∗ owed c O W) -∗ wpK c (k ⟨⟩) Φ)
        -∗ wpK c (Prog.lift (.waitDma2 sm src' b hsrc hdst) >>= k) Φ) := by
  unfold fetching owed
  iintro ⟨⟨HF, Hr⟩, #Hmw, %W', %hW, HO⟩ Hk
  iapply (Transfers.wp_waitLocalO countersEmb 𝒱₀ c none (none : HIx 1) (N := b.view.amount (.dma sm)) rfl) $$ [HF HO]
  · isplitl [HF]; · iexact HF
    isplitl [HO]; · iexact HO
    iapply (Transfers.MayWaits.elim (SemLoc.dma sm)) $$ Hmw
  iintro ⟨⟨Hb, Hx⟩, Hs, HO⟩
  iapply Hk
  isplitl [Hx Hr]
  · iapply (pointsTo_split_subset hS).2; isplitl [Hx] <;> iassumption
  isplitl [Hb]; · iexact Hb
  isplitl [Hs]; · iexact Hs
  isplitr; · iexact Hmw
  iexists _; isplitr; rotate_left; · iexact HO
  ipureintro
  intro p hp
  rcases Finset.mem_insert.mp hp with hp | hp
  · exact .inr (hp ▸ rfl)
  · exact hW p hp

theorem send {Φ : α → sProp 𝕄} {b : Memref sig c.2.kind .vmem s .f32} {dst : Memref sig c.2.kind .hbm s .f32} {sm : DmaSem sig}
    {S : Finset (Idx (dst.view.loc c))} {fo : Buf (Elt F) (dst.view.loc c)} {A : s.Idx → F .f32} {O : CellTallies nD τ sig (HIx 1)} {W : Waits sig (HIx 1)}
    (hS : dst.view.set ⊆ S) (h0 : 0 < s.numel)
    {hsrc hsrc' : b.view.WordExact} {hdst hdst' : dst.view.WordExact} {hsem : DmaTarget.Typed (nD := nD) .vmem (.dma sm) (.here dst)}
    {k : PUnit → Prog (TpuEff nD τ sig (Elt F) Λ₀ c.2) α} :
    iprop(holds c b A ∗ (dst.view.loc c ↦[S]{fullShare} fo) ∗ semVal (c, .dma sm) 0 ∗ owed c O W)
      ⊢ iprop((iprop(holds c b A ∗ (dst.view.loc c ↦[S]{fullShare} (dst.view.write (Elt F) fo A Finset.univ)) ∗ semVal (c, .dma sm) 0 ∗ owed c O W) -∗ wpK c (k ⟨⟩) Φ)
        -∗ wpK c (Prog.lift (.enqueueDma b (.here dst) (.dma sm) hsrc hdst hsem) >>= fun _ => Prog.lift (.waitDma2 sm b dst hsrc' hdst') >>= k) Φ) := by
  unfold holds owed
  iintro ⟨⟨%f, %hf, Hb⟩, Ho, Hs, #Hmw, %W', %hW, HO⟩ Hk
  subst hf
  iapply (Transfers.wp_dmaLocal countersEmb 𝒱₀ c none (none : HIx 1) (dst.view.amount (.dma sm)) rfl (View.amount_pos _ _ h0) hS) $$ [Hb Ho Hs]
  · isplitl [Hb]; · iexact Hb
    isplitl [Ho]; · iexact Ho
    iexact Hs
  iintro HF
  iapply (Transfers.wp_waitLocalO countersEmb 𝒱₀ c none (none : HIx 1) (N := dst.view.amount (.dma sm)) rfl) $$ [HF HO]
  · isplitl [HF]; · iexact HF
    isplitl [HO]; · iexact HO
    iapply (Transfers.MayWaits.elim (SemLoc.dma sm)) $$ Hmw
  iintro ⟨⟨Ho, Hb⟩, Hs, HO⟩
  iapply Hk
  isplitl [Hb]
  · iexists f; isplitr; · ipureintro; rfl
    iexact Hb
  isplitl [Ho]; · iexact Ho
  isplitl [Hs]; · iexact Hs
  isplitr; · iexact Hmw
  iexists _; isplitr; rotate_left; · iexact HO
  ipureintro
  intro p hp
  rcases Finset.mem_insert.mp hp with hp | hp
  · exact .inr (hp ▸ rfl)
  · exact hW p hp

end

/-! ## The groups of the whole array -/

/-- Group `b` of an array. -/
def blk (x : S16777216.Idx → F .f32) (b : ℕ) : S32768.Idx → F .f32 := fun j => x (ix 16777216 (32768 * b + (j 0).val))

/-- The whole result. -/
def kOut (x : S16777216.Idx → F .f32) : S16777216.Idx → F .f32 := fun p => gOut (blk x ((p 0).val / 32768)) (ix 32768 ((p 0).val % 32768))

/-- The sixteen groups of subcore number `w`. -/
def region (w : ℕ) : Finset S16777216.Idx := Finset.univ.filter fun p => (p 0).val / 524288 = w

theorem mem_region {w : ℕ} {p : S16777216.Idx} : p ∈ region w ↔ (p 0).val / 524288 = w := by simp [region]

section
variable {off : Fin 1 → ℕ} {inb : ∀ a, off a + S32768.size a ≤ S16777216.size a} {b : ℕ}

theorem slice_idx (h : off = ![32768 * b]) (j : S32768.Idx) :
    ((Rect.unit (s := S16777216) off S32768.size inb).idx j) = ix 16777216 (32768 * b + (j 0).val) := by
  subst h
  have h1 := inb 0
  have hj : (j 0).val < 32768 := (j 0).isLt
  refine idx_eq_ix _ ?_
  have h2 : 32768 * b + 32768 ≤ 16777216 := h1
  show 32768 * b + 1 * (j 0).val = _
  omega

theorem slice_read {κ : Kind} {x : Memref sig κ .hbm S16777216 .f32} (h : off = ![32768 * b]) (f : x.view.ty.Contents (Elt F)) :
    (x.slice (Rect.unit (s := S16777216) off S32768.size inb) (fun _ => rfl)).view.read (Elt F) f = blk (x.view.read (Elt F) f) b := by
  funext j
  exact congrArg (x.view.read (Elt F) f) (slice_idx (inb := inb) h j)

theorem mem_slice (h : off = ![32768 * b]) (p : S16777216.Idx) :
    p ∈ (Rect.unit (s := S16777216) off S32768.size inb).set ↔ (p 0).val / 32768 = b := by
  subst h
  rw [Rect.mem_set_unit]
  constructor
  · intro hp
    have h1 : 32768 * b ≤ (p 0).val := (hp 0).1
    have h2 : (p 0).val < 32768 * b + 32768 := (hp 0).2
    omega
  · intro hp a
    obtain rfl := Subsingleton.elim a 0
    show 32768 * b ≤ (p 0).val ∧ (p 0).val < 32768 * b + 32768
    omega

end

end Cert.Proof

end
-- ==== Proof.Pair.lean ====
/-
  One trip of the kernel's loop: two groups, each fetched while the other is worked on.
-/
module

public import proofs.«01_k».proof.Proof.Moves

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The kernel's two arrays, as a vector subcore names them. -/
abbrev xV : Memref sig .scVector .hbm S16777216 .f32 := Memref.whole main_v0_scv
abbrev oV : Memref sig .scVector .hbm S16777216 .f32 := Memref.whole main_v1_scv

/-- The part of either array from an offset on, a group long. -/
abbrev xS (off : Fin 1 → ℕ) (inb : ∀ a, off a + S32768.size a ≤ S16777216.size a) : Memref sig .scVector .hbm S32768 .f32 :=
  xV.slice (Rect.unit (s := S16777216) off S32768.size inb) (fun _ => rfl)
abbrev oS (off : Fin 1 → ℕ) (inb : ∀ a, off a + S32768.size a ≤ S16777216.size a) : Memref sig .scVector .hbm S32768 .f32 :=
  oV.slice (Rect.unit (s := S16777216) off S32768.size inb) (fun _ => rfl)

theorem S32768_pos : 0 < S32768.numel := by decide +kernel

section
variable (d : Fin nD) (i : grid0.Coords) (w : ℕ) (x : S16777216.Idx → F .f32)

/-- The subcore's part of the argument. -/
def xHeld : sProp 𝕄 := xV.view.loc (thr d i) ↦[region w]{fullShare} x

/-- The subcore's part of the result, right on the groups before `n`. -/
def outTo (n : ℕ) : sProp 𝕄 :=
  iprop(∃ f : S16777216.Idx → F .f32, ⌜∀ p ∈ region w, (p 0).val / 32768 < n → f p = kOut x p⌝ ∗ (oV.view.loc (thr d i) ↦[region w]{fullShare} f))

/-- Group `b` on its way into a buffer. -/
def coming (B : Memref sig .scVector .vmem S32768 .f32) (sm : DmaSem sig) (b : ℕ) : sProp 𝕄 :=
  iprop(∃ off : Fin 1 → ℕ, ∃ inb : ∀ a, off a + S32768.size a ≤ S16777216.size a, ⌜off = ![32768 * b]⌝
    ∗ fetching (thr d i) B (xS off inb) sm (region w) x)

variable {d i w x} {α : Type}
  {off off' : Fin 1 → ℕ} {inb : ∀ a, off a + S32768.size a ≤ S16777216.size a} {inb' : ∀ a, off' a + S32768.size a ≤ S16777216.size a} {b : ℕ}
  {B : Memref sig .scVector .vmem S32768 .f32} {sm : DmaSem sig} {A : S32768.Idx → F .f32}
  {O : CellTallies nD τ sig (HIx 1)} {W : Waits sig (HIx 1)}

theorem slice_sub (h : off = ![32768 * b]) (hb : b / 16 = w) : (Rect.unit (s := S16777216) off S32768.size inb).set ⊆ region w := by
  intro p hp
  rw [mem_slice h] at hp
  rw [mem_region]; omega

theorem get_start {Φ : α → sProp 𝕄} (h : off = ![32768 * b]) (hb : b / 16 = w)
    {hsrc : (xS off inb).view.WordExact} {hdst : B.view.WordExact} {hsem : DmaTarget.Typed (nD := nD) .hbm (.dma sm) (DmaTarget.here (nD := nD) (p := (thr d i).2) B)}
    {k : PUnit → Prog (TpuEff nD τ sig (Elt F) Λ₀ (thr d i).2) α} :
    iprop(xHeld d i w x ∗ holds (thr d i) B A ∗ semVal (thr d i, .dma sm) 0)
      ⊢ iprop((coming d i w x B sm b -∗ wpK (thr d i) (k ⟨⟩) Φ)
        -∗ wpK (thr d i) (Prog.lift (.enqueueDma (xS off inb) (.here B) (.dma sm) hsrc hdst hsem) >>= k) Φ) := by
  unfold xHeld
  iintro H Hk
  iapply (fetch_start (c := thr d i) (b := B) (src := xS off inb) (S := region w) (fx := x) (A := A) ?hS S32768_pos) $$ H
  case hS => rw [show (xS off inb).view.set = _ from View.set_slice_whole _ _]; exact slice_sub h hb
  iintro H
  iapply Hk
  unfold coming
  iexists off, inb
  isplitr; · ipureintro; exact h
  iexact H

theorem get_wait {Φ : α → sProp 𝕄} (hb : b / 16 = w)
    {hsrc : (xS off' inb').view.WordExact} {hdst : B.view.WordExact}
    {k : PUnit → Prog (TpuEff nD τ sig (Elt F) Λ₀ (thr d i).2) α} :
    iprop(coming d i w x B sm b ∗ owed (thr d i) O W)
      ⊢ iprop((iprop(xHeld d i w x ∗ holds (thr d i) B (blk x b) ∗ semVal (thr d i, .dma sm) 0 ∗ owed (thr d i) O W) -∗ wpK (thr d i) (k ⟨⟩) Φ)
        -∗ wpK (thr d i) (Prog.lift (.waitDma2 sm (xS off' inb') B hsrc hdst) >>= k) Φ) := by
  unfold coming
  iintro ⟨⟨%off, %inb, %h, HF⟩, HO⟩ Hk
  iapply (fetch_wait (c := thr d i) (b := B) (src := xS off inb) (S := region w) (fx := x) (O := O) (W := W) ?hS) $$ [HF HO]
  case hS => rw [show (xS off inb).view.set = _ from View.set_slice_whole _ _]; exact slice_sub h hb
  · isplitl [HF] <;> iassumption
  rw [slice_read h]
  iintro H
  iapply Hk
  iexact H

theorem put_out {Φ : α → sProp 𝕄} (h : off = ![32768 * b]) (hb : b / 16 = w)
    {hsrc hsrc' : B.view.WordExact} {hdst hdst' : (oS off inb).view.WordExact}
    {hsem : DmaTarget.Typed (nD := nD) .vmem (.dma sm) (DmaTarget.here (nD := nD) (p := (thr d i).2) (oS off inb))}
    {k : PUnit → Prog (TpuEff nD τ sig (Elt F) Λ₀ (thr d i).2) α} :
    iprop(holds (thr d i) B (gOut (blk x b)) ∗ outTo d i w x b ∗ semVal (thr d i, .dma sm) 0 ∗ owed (thr d i) O W)
      ⊢ iprop((iprop(holds (thr d i) B (gOut (blk x b)) ∗ outTo d i w x (b + 1) ∗ semVal (thr d i, .dma sm) 0 ∗ owed (thr d i) O W) -∗ wpK (thr d i) (k ⟨⟩) Φ)
        -∗ wpK (thr d i) (Prog.lift (.enqueueDma B (.here (oS off inb)) (.dma sm) hsrc hdst hsem)
            >>= fun _ => Prog.lift (.waitDma2 sm B (oS off inb) hsrc' hdst') >>= k) Φ) := by
  have hset : (oS off inb).view.set = (Rect.unit (s := S16777216) off S32768.size inb).set :=
    View.set_slice_whole _ _
  unfold outTo
  iintro ⟨HB, ⟨%f, %hf, Ho⟩, Hs, HO⟩ Hk
  iapply (send (c := thr d i) (b := B) (dst := oS off inb) (S := region w) (fo := f) (A := gOut (blk x b)) (O := O) (W := W) ?hS S32768_pos) $$ [HB Ho Hs HO]
  case hS => rw [hset]; exact slice_sub h hb
  · isplitl [HB]; · iexact HB
    isplitl [Ho]; · iexact Ho
    isplitl [Hs] <;> iassumption
  iintro ⟨HB, Ho, Hs, HO⟩
  iapply Hk
  isplitl [HB]; · iexact HB
  isplitl [Ho]
  · iexists _; isplitr; rotate_left; · iexact Ho
    ipureintro
    intro p hp hpb
    by_cases hpe : (p 0).val / 32768 = b
    · have hp0 : (p 0).val < 16777216 := (p 0).isLt
      have e : p = (oS off inb).view.emb (ix 32768 ((p 0).val % 32768)) := by
        refine (idx_eq_ix p ?_).trans (slice_idx (inb := inb) h _).symm
        rw [ix_val]; omega
      conv_lhs => rw [e]
      rw [View.write_emb, if_pos (Finset.mem_univ _)]
      unfold kOut
      rw [hpe]
      rfl
    · rw [View.write_of_not_mem]
      · exact hf p hp (by omega)
      · intro hm
        exact hpe ((mem_slice (inb := inb) h p).mp (hset ▸ hm))
  isplitl [Hs] <;> iassumption

end

section
variable {c : Thread nD τ} {sb st sc ss : Shape} {b : Memref sig c.2.kind .vmem sb .f32} {bt : Memref sig c.2.kind .vmem st .f32}
    {hc : Memref sig c.2.kind .vmem sc .f32} {hs : Memref sig c.2.kind .vmem ss .f32}
    {A : sb.Idx → F .f32} {X : st.Idx → F .f32} {C : sc.Idx → F .f32} {H : ss.Idx → F .f32}

theorem St_mk : iprop(holds c b A ∗ holds c bt X ∗ holds c hc C ∗ holds c hs H) ⊢ St c b bt hc hs A X C H iprop(emp : sProp 𝕄) := by
  unfold St
  iintro ⟨HA, HX, HC, HH⟩
  isplitl [HA]; · iexact HA
  isplitl [HX]; · iexact HX
  isplitl [HC]; · iexact HC
  isplitl [HH]; · iexact HH
  iempintro

theorem St_un : St c b bt hc hs A X C H iprop(emp : sProp 𝕄) ⊢ iprop(holds c b A ∗ holds c bt X ∗ holds c hc C ∗ holds c hs H) := by
  unfold St
  iintro ⟨HA, HX, HC, HH, -⟩
  isplitl [HA]; · iexact HA
  isplitl [HX]; · iexact HX
  isplitl [HC] <;> iassumption

end

theorem done {c : Thread nD τ} {α : Type} {Φ : α → sProp 𝕄} {a : α} : Φ a ⊢ wpK c (pure a) Φ := ret BI.BIBase.Entails.rfl

/-- A buffer at whatever it holds. -/
def some_ (c : Thread nD τ) {s : Shape} (b : Memref sig c.2.kind .vmem s .f32) : sProp 𝕄 := iprop(∃ X : s.Idx → F .f32, holds c b X)

/-- The number of a subcore. -/
def wid (i : grid0.Coords) : ℕ := 2 * (i 1).val + (i 0).val

section
variable (d : Fin nD) (i : grid0.Coords) (arg4 : Memref sig .scVector .vmem S32768 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S4096 .f32) (harg7 : arg7.IsWhole) (arg8 : Memref sig .scVector .vmem S4096 .f32) (harg8 : arg8.IsWhole) (arg9 : DmaSems sig S_) (v178_r0 : DmaSems sig S_) (v178_r1 : DmaSems sig S_)
  (v1 : BitVec 32) (x : S16777216.Idx → F .f32) (O : CellTallies nD τ sig (HIx 1)) (W : Waits sig (HIx 1))

/-- Before trip `n`: the group the trip begins with on its way in, the result right on the groups done. -/
def pairI (n : ℕ) (_ : Unit) : sProp 𝕄 :=
  iprop(coming d i (wid i) x arg4 arg9.sem (16 * wid i + 2 * n % 16) ∗ some_ (F := F) (thr d i) arg5 ∗ some_ (F := F) (thr d i) arg6 ∗ some_ (F := F) (thr d i) arg7 ∗ some_ (F := F) (thr d i) arg8
    ∗ outTo d i (wid i) x (16 * wid i + 2 * n) ∗ semVal (thr d i, .dma v178_r0.sem) 0 ∗ semVal (thr d i, .dma v178_r1.sem) 0 ∗ owed (thr d i) O W)

theorem pair_step (n : Fin k0_t1_loop.trips) (a : Unit) :
    pairI d i arg4 arg5 arg6 arg7 arg8 arg9 v178_r0 v178_r1 x O W n.val a
      ⊢ wpK (thr d i) (k0_t1_body (F := F) i xV (Memref.isWhole_whole _) oV (Memref.isWhole_whole _) arg4 harg4 arg5 harg5 arg6 harg6 arg7 harg7 arg8 harg8 arg9 v178_r0 v178_r1 v1 n a)
        (pairI d i arg4 arg5 arg6 arg7 arg8 arg9 v178_r0 v178_r1 x O W (n.val + 1)) := by
  have hn : n.val < 8 := n.isLt
  unfold k0_t1_body
  simp only [k0_part25_eq_skeleton, k0_part26_eq_skeleton, k0_part27_eq_skeleton, k0_part28_eq_skeleton]
  unfold k0_part25_skel k0_part26_skel k0_part27_skel k0_part28_skel
  simp only [bind_assoc, pure_bind]
  unfold pairI some_
  rw [Nat.mod_eq_of_lt (by omega : 2 * n.val < 16)]
  iintro ⟨HF, ⟨%B0, HB⟩, ⟨%T0, HT⟩, ⟨%C0, HC⟩, ⟨%H0, HH⟩, Hout, Hr0, Hr1, HO⟩
  iapply (get_wait (w := wid i) (x := x) (O := O) (W := W) (b := 16 * wid i + 2 * n.val) (by omega)) $$ [HF HO]
  · isplitl [HF] <;> iassumption
  iintro ⟨Hx, HA, Hs, HO⟩
  iapply (get_start (w := wid i) (x := x) (b := 16 * wid i + (2 * n.val + 1)) ((k0_off3_eq i n 0).trans (by congr 1; unfold wid; simp only [Fin.val_zero]; omega)) (by omega)) $$ [Hx HB Hs]
  · isplitl [Hx]; · iexact Hx
    isplitl [HB] <;> iassumption
  iintro HF
  ihave HS := (St_mk (F := F)) $$ [HA HT HC HH]
  · isplitl [HA]; · iexact HA
    isplitl [HT]; · iexact HT
    isplitl [HC] <;> iassumption
  iapply (loop_t2 d i) $$ HS
  iintro HS
  iapply (loop_t3 d i) $$ HS
  iintro HS
  iapply (loop_t4 d i) $$ HS
  iintro HS
  iapply (loop_t5 d i) $$ HS
  iintro HS
  iapply (loop_t6 d i) $$ HS
  iintro HS
  iapply (loop_t7 d i) $$ HS
  iintro HS
  iapply (loop_t8 d i (ht := rfl)) $$ HS
  iintro HS
  ihave HS' := (St_un (F := F)) $$ HS
  icases HS' with ⟨HA, HT, HC, HH⟩
  iapply (put_out (w := wid i) (x := x) (b := 16 * wid i + 2 * n.val) (O := O) (W := W) ((k0_off31_eq i n).trans (by congr 1; unfold wid; omega)) (by omega)) $$ [HA Hout Hr0 HO]
  · isplitl [HA]; · iexact HA
    isplitl [Hout]; · iexact Hout
    isplitl [Hr0] <;> iassumption
  iintro ⟨HA, Hout, Hr0, HO⟩
  iapply (get_wait (w := wid i) (x := x) (O := O) (W := W) (b := 16 * wid i + (2 * n.val + 1)) (by omega)) $$ [HF HO]
  · isplitl [HF] <;> iassumption
  iintro ⟨Hx, HB, Hs, HO⟩
  iapply (get_start (w := wid i) (x := x) (b := 16 * wid i + 2 * (n.val + 1) % 16) ((k0_off3_eq i n 1).trans (by congr 1; unfold wid; simp only [Fin.val_one]; omega)) (by omega)) $$ [Hx HA Hs]
  · isplitl [Hx]; · iexact Hx
    isplitl [HA] <;> iassumption
  iintro HF
  ihave HS := (St_mk (F := F)) $$ [HB HT HC HH]
  · isplitl [HB]; · iexact HB
    isplitl [HT]; · iexact HT
    isplitl [HC] <;> iassumption
  iapply (loop_t9 d i) $$ HS
  iintro HS
  iapply (loop_t10 d i) $$ HS
  iintro HS
  iapply (loop_t11 d i) $$ HS
  iintro HS
  iapply (loop_t12 d i) $$ HS
  iintro HS
  iapply (loop_t13 d i) $$ HS
  iintro HS
  iapply (loop_t14 d i) $$ HS
  iintro HS
  iapply (loop_t15 d i (ht := rfl)) $$ HS
  iintro HS
  ihave HS' := (St_un (F := F)) $$ HS
  icases HS' with ⟨HB, HT, HC, HH⟩
  iapply (put_out (w := wid i) (x := x) (b := 16 * wid i + (2 * n.val + 1)) (O := O) (W := W) ((k0_off59_eq i n).trans (by congr 1; unfold wid; omega)) (by omega)) $$ [HB Hout Hr1 HO]
  · isplitl [HB]; · iexact HB
    isplitl [Hout]; · iexact Hout
    isplitl [Hr1] <;> iassumption
  iintro ⟨HB, Hout, Hr1, HO⟩
  iapply done
  isplitl [HF]; · iexact HF
  isplitl [HB]; · iexists _; iexact HB
  isplitl [HT]; · iexists _; iexact HT
  isplitl [HC]; · iexists _; iexact HC
  isplitl [HH]; · iexists _; iexact HH
  isplitl [Hout]; · iexact Hout
  isplitl [Hr0]; · iexact Hr0
  isplitl [Hr1] <;> iassumption

theorem pair_exit (u : PUnit) : pairI d i arg4 arg5 arg6 arg7 arg8 arg9 v178_r0 v178_r1 x O W (Scf.trips k0_t1_loop.lb k0_t1_loop.ub k0_t1_loop.st) u
    ⊢ pairI d i arg4 arg5 arg6 arg7 arg8 arg9 v178_r0 v178_r1 x O W 8 ⟨⟩ := by
  rw [show Scf.trips k0_t1_loop.lb k0_t1_loop.ub k0_t1_loop.st = 8 by decide]

theorem body_run :
    iprop(xHeld d i (wid i) x ∗ outTo d i (wid i) x (16 * wid i) ∗ some_ (F := F) (thr d i) arg4 ∗ some_ (F := F) (thr d i) arg5 ∗ some_ (F := F) (thr d i) arg6 ∗ some_ (F := F) (thr d i) arg7 ∗ some_ (F := F) (thr d i) arg8
        ∗ semVal (thr d i, .dma arg9.sem) 0 ∗ semVal (thr d i, .dma v178_r0.sem) 0 ∗ semVal (thr d i, .dma v178_r1.sem) 0 ∗ owed (thr d i) O W)
      ⊢ wpK (thr d i) (cc0__body (F := F) i xV (Memref.isWhole_whole _) oV (Memref.isWhole_whole _) arg4 harg4 arg5 harg5 arg6 harg6 arg7 harg7 arg8 harg8 arg9 v178_r0 v178_r1)
        fun _ => iprop(xHeld d i (wid i) x ∗ outTo d i (wid i) x (16 * wid i + 16) ∗ some_ (F := F) (thr d i) arg4 ∗ some_ (F := F) (thr d i) arg5 ∗ some_ (F := F) (thr d i) arg6 ∗ some_ (F := F) (thr d i) arg7 ∗ some_ (F := F) (thr d i) arg8
          ∗ semVal (thr d i, .dma arg9.sem) 0 ∗ semVal (thr d i, .dma v178_r0.sem) 0 ∗ semVal (thr d i, .dma v178_r1.sem) 0 ∗ owed (thr d i) O W) := by
  rw [cc0__body_eq_skeleton]
  unfold cc0__body_skel
  iintro ⟨Hx, Hout, H4, H5, H6, H7, H8, Hs, Hr0, Hr1, HO⟩
  unfold some_
  icases H4 with ⟨%A, HA⟩
  iapply (get_start (w := wid i) (x := x) (b := 16 * wid i) ((k0_off1_eq i).trans (by congr 1; unfold wid; omega)) (by omega)) $$ [Hx HA Hs]
  · isplitl [Hx]; · iexact Hx
    isplitl [HA] <;> iassumption
  iintro HF
  ihave HI := (BI.BIBase.Entails.rfl (P := pairI d i arg4 arg5 arg6 arg7 arg8 arg9 v178_r0 v178_r1 x O W 0 ⟨⟩)) $$ [HF Hout H5 H6 H7 H8 Hr0 Hr1 HO]
  · unfold pairI some_
    isplitl [HF]; · iexact HF
    isplitl [H5]; · iexact H5
    isplitl [H6]; · iexact H6
    isplitl [H7]; · iexact H7
    isplitl [H8]; · iexact H8
    isplitl [Hout]; · iexact Hout
    isplitl [Hr0]; · iexact Hr0
    isplitl [Hr1] <;> iassumption
  iapply (Scf.wp_for_bind frame (wpE (defs₀ (F := F)) 𝒱₀ (thr d i) none) Set.univ k0_t1_loop.lb k0_t1_loop.ub k0_t1_loop.st k0_t1_ok _ _
    (pairI d i arg4 arg5 arg6 arg7 arg8 arg9 v178_r0 v178_r1 x O W)
    (pair_step d i arg4 harg4 arg5 harg5 arg6 harg6 arg7 harg7 arg8 harg8 arg9 v178_r0 v178_r1 _ x O W)) $$ HI
  iintro %_ HI
  ihave HI' := (pair_exit d i arg4 arg5 arg6 arg7 arg8 arg9 v178_r0 v178_r1 x O W _) $$ HI
  unfold pairI some_
  icases HI' with ⟨HF, H5, H6, H7, H8, Hout, Hr0, Hr1, HO⟩
  iapply (get_wait (w := wid i) (x := x) (O := O) (W := W) (b := 16 * wid i + 2 * 8 % 16) (by omega)) $$ [HF HO]
  · isplitl [HF] <;> iassumption
  iintro ⟨Hx, HA, Hs, HO⟩
  iapply done
  isplitl [Hx]; · iexact Hx
  isplitl [Hout]; · iexact Hout
  isplitl [HA]; · iexists _; iexact HA
  isplitl [H5]; · iexact H5
  isplitl [H6]; · iexact H6
  isplitl [H7]; · iexact H7
  isplitl [H8]; · iexact H8
  isplitl [Hs]; · iexact Hs
  isplitl [Hr0]; · iexact Hr0
  isplitl [Hr1] <;> iassumption

end

end Cert.Proof

end
-- ==== Proof.Launch.lean ====
/-
  The whole program's run. Each of the thirty-two vector subcores works on its own sixteen groups of the flat argument
  (`body_run`); the call deals the argument and the result out to them and joins them again; the two reshapes around
  the call are single operations. The run is stated once, for floats of any kind: it ends, the argument is kept, the
  result is the reshape of `kOut` of the argument's reshape, and every semaphore is back at zero.
-/
module

public import proofs.«01_k».proof.Proof.Pair

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Named F]

local notation "𝕄" => MT nD τ sig (HIx 1) (Elt F) ℕ UU ℕ

/-! ## The program as the launch theorem takes it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-- The TensorCore's four arrays: the argument, its reshape, the kernel's result, the reshape of that. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg0 main_v0 (rfl : (.f32 : EltTy) = .f32) shapeCasts_S8192x2048_S16777216
abbrev opOut : HloOp τ sig (Elt F) := StableHlo.reshape main_v1 main_v2 (rfl : (.f32 : EltTy) = .f32) shapeCasts_S16777216_S8192x2048

/-- What the arrays hold at the launch, after the first reshape, after the call and at the end. -/
def V0 (d : Dev nD) : Valuation τ sig (Elt F) := fun b => m (d, b)
def V1 (d : Dev nD) : Valuation τ sig (Elt F) := (opIn (F := F)).result (V0 m d)
def flat (d : Dev nD) : S16777216.Idx → F .f32 := V1 m d x'
def V2 (d : Dev nD) : Valuation τ sig (Elt F) := Function.update (V1 m d) o' (kOut (flat m d))
def V3 (d : Dev nD) : Valuation τ sig (Elt F) := (opOut (F := F)).result (V2 m d)

theorem V1_a (d : Dev nD) : V1 m d a' = m (aLoc d) :=
  (opIn (F := F)).result_of_not_mem (V0 m d) (b := a') (show a' ∉ ({x'} : Finset (DevRef τ sig)) by decide)
theorem V1_o (d : Dev nD) : V1 m d o' = m (oLoc d) :=
  (opIn (F := F)).result_of_not_mem (V0 m d) (b := o') (show o' ∉ ({x'} : Finset (DevRef τ sig)) by decide)
theorem V2_a (d : Dev nD) : V2 m d a' = V1 m d a' := Function.update_of_ne (show a' ≠ o' by decide) _ _
theorem V2_x (d : Dev nD) : V2 m d x' = V1 m d x' := Function.update_of_ne (show x' ≠ o' by decide) _ _
theorem V2_r (d : Dev nD) : V2 m d r' = V1 m d r' := Function.update_of_ne (show r' ≠ o' by decide) _ _
theorem V2_o (d : Dev nD) : V2 m d o' = kOut (flat m d) := Function.update_self _ _ _
theorem V3_a (d : Dev nD) : V3 m d a' = m (aLoc d) :=
  ((opOut (F := F)).result_of_not_mem (V2 m d) (b := a') (show a' ∉ ({r'} : Finset (DevRef τ sig)) by decide)).trans
    ((V2_a m d).trans (V1_a m d))

/-! ## The parts -/

/-- What SparseCore `c` works on: every other region. -/
def half (c : ℕ) : Finset S16777216.Idx := Finset.univ.filter fun p => (p 0).val / 524288 % 2 = c

theorem mem_half {c : ℕ} {p : S16777216.Idx} : p ∈ half c ↔ (p 0).val / 524288 % 2 = c := by simp [half]

theorem p_lt (p : S16777216.Idx) : (p 0).val < 16777216 := (p 0).isLt

theorem half_eq (c : Fin 2) : (Finset.univ : Finset (Fin 16)).biUnion (fun i => region (2 * i.val + c.val)) = half c.val := by
  ext p
  have := p_lt p
  have hc := c.isLt
  simp only [Finset.mem_biUnion, Finset.mem_univ, true_and, mem_region, mem_half]
  constructor
  · rintro ⟨i, hi⟩; omega
  · intro h
    exact ⟨⟨(p 0).val / 524288 / 2, by omega⟩, by show _ = 2 * ((p 0).val / 524288 / 2) + c.val; omega⟩

theorem whole_eq : (Finset.univ : Finset (Fin 2)).biUnion (fun c => half c.val) = Finset.univ := by
  ext p
  simp only [Finset.mem_biUnion, Finset.mem_univ, true_and, mem_half, iff_true]
  exact ⟨⟨(p 0).val / 524288 % 2, Nat.mod_lt _ (by norm_num)⟩, rfl⟩

theorem regions_disjoint (c : ℕ) : ∀ i ∈ (Finset.univ : Finset (Fin 16)), ∀ j ∈ (Finset.univ : Finset (Fin 16)), i ≠ j →
    Disjoint (region (2 * i.val + c)) (region (2 * j.val + c)) := fun i _ j _ h => by
  refine Finset.disjoint_left.mpr fun p h1 h2 => h (Fin.ext ?_)
  rw [mem_region] at h1 h2; omega

theorem halves_disjoint : ∀ i ∈ (Finset.univ : Finset (Fin 2)), ∀ j ∈ (Finset.univ : Finset (Fin 2)), i ≠ j →
    Disjoint (half i.val) (half j.val) := fun i _ j _ h => by
  refine Finset.disjoint_left.mpr fun p h1 h2 => h (Fin.ext ?_)
  rw [mem_half] at h1 h2; omega

abbrev xPts (d : Dev nD) (I : Finset S16777216.Idx) : sProp 𝕄 := xLoc d ↦[I]{fullShare} (flat m d)
abbrev oPts (d : Dev nD) (I : Finset S16777216.Idx) (f : S16777216.Idx → F .f32) : sProp 𝕄 := oLoc d ↦[I]{fullShare} f

theorem half_split (d : Dev nD) (c : Fin 2) : xPts m d (half c.val) = bigSep Finset.univ fun i : Fin 16 => xPts m d (region (2 * i.val + c.val)) := by
  unfold xPts
  rw [← pointsTo_biUnion Finset.univ (ℓ := xLoc d) (fun i : Fin 16 => region (2 * i.val + c.val)) (regions_disjoint c.val)]
  exact congrArg (fun I => (xLoc d ↦[I]{fullShare} (flat m d) : sProp 𝕄)) (half_eq c).symm
theorem half_split_o (d : Dev nD) (c : Fin 2) (f : S16777216.Idx → F .f32) :
    oPts d (half c.val) f = bigSep Finset.univ fun i : Fin 16 => oPts d (region (2 * i.val + c.val)) f := by
  unfold oPts
  rw [← pointsTo_biUnion Finset.univ (ℓ := oLoc d) (fun i : Fin 16 => region (2 * i.val + c.val)) (regions_disjoint c.val)]
  exact congrArg (fun I => (oLoc d ↦[I]{fullShare} f : sProp 𝕄)) (half_eq c).symm
theorem whole_split (d : Dev nD) : xPts m d Finset.univ = bigSep Finset.univ fun c : Fin 2 => xPts m d (half c.val) := by
  unfold xPts
  rw [← pointsTo_biUnion Finset.univ (ℓ := xLoc d) (fun c : Fin 2 => half c.val) halves_disjoint]
  exact congrArg (fun I => (xLoc d ↦[I]{fullShare} (flat m d) : sProp 𝕄)) whole_eq.symm
theorem whole_split_o (d : Dev nD) (f : S16777216.Idx → F .f32) :
    oPts d Finset.univ f = bigSep Finset.univ fun c : Fin 2 => oPts d (half c.val) f := by
  unfold oPts
  rw [← pointsTo_biUnion Finset.univ (ℓ := oLoc d) (fun c : Fin 2 => half c.val) halves_disjoint]
  exact congrArg (fun I => (oLoc d ↦[I]{fullShare} f : sProp 𝕄)) whole_eq.symm

/-- What the call hands on and takes back: the argument always, the result at its old contents, then at the new. -/
def P : (K (F := F)).Pay (nD := nD) (Val := Elt F) (Name := ℕ) (U := UU) where
  st := fun _ d c => iprop(xPts m d (half c.val) ∗ oPts d (half c.val) (m (oLoc d)))
  dn := fun _ d c => iprop(xPts m d (half c.val) ∗ oPts d (half c.val) (kOut (flat m d)))
  go := fun _ d c i => iprop(xPts m d (region (2 * i.val + c.val)) ∗ oPts d (region (2 * i.val + c.val)) (m (oLoc d)))
  td := fun _ d c i => iprop(xPts m d (region (2 * i.val + c.val)) ∗ oPts d (region (2 * i.val + c.val)) (kOut (flat m d)))
  x := fun _ _ => iprop(emp)

instance P_storable : (P (F := F) m).IsStorable where
  st _ d c := by unfold P; infer_instance
  dn _ d c := by unfold P; infer_instance
  go _ d c i := by unfold P; infer_instance
  td _ d c i := by unfold P; infer_instance

/-! ## A vector subcore's task -/

section Tile

variable (d : Dev nD) (i : grid0.Coords)

abbrev cell0 : GSem nD τ sig := (thr d i, .dma cc0_scratch5.sem)
abbrev cell1 : GSem nD τ sig := (thr d i, .dma cc0_scoped0.sem)
abbrev cell2 : GSem nD τ sig := (thr d i, .dma cc0_scoped1.sem)

/-- The subcore's other semaphores and buffers, which the task leaves alone. -/
abbrev restS : sProp 𝕄 := bigSep ((((ownCells (thr d i)).erase (cell0 d i)).erase (cell1 d i)).erase (cell2 d i)) fun g => semVal g 0
abbrev pV : Proc τ := Proc.scVector ((i 0).castLE hcore0) ((i 1).castLE hsub0)
abbrev restB : sProp 𝕄 := bigSep ((((((ownRefs (τ := τ) (pV i)).erase ((pV i).devRef cc0_scratch0)).erase ((pV i).devRef cc0_scratch1)).erase
              ((pV i).devRef cc0_scratch2)).erase ((pV i).devRef cc0_scratch3)).erase ((pV i).devRef cc0_scratch4))
              fun b => iprop(∃ f, ((d, b) : Loc nD τ sig) ↦{fullShare} f)

theorem sems_V :
    (ownSems0 (thr d i) : sProp 𝕄)
      = iprop(semVal (cell0 d i) 0 ∗ semVal (cell1 d i) 0 ∗ semVal (cell2 d i) 0 ∗ restS d i) := by
  unfold SparseCore.Cfg.ownSems0
  rw [SparseCore.bigSep_erase' ((mem_ownCells (g := cell0 d i)).mpr ⟨rfl, by
      show (SemLoc.dma cc0_scratch5.sem : SemLoc sig).isScoped .scVector = true; decide⟩),
    SparseCore.bigSep_erase' (Finset.mem_erase.mpr ⟨by simp [cell0, cell1]; decide, (mem_ownCells (g := cell1 d i)).mpr ⟨rfl, by
      show (SemLoc.dma cc0_scoped0.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d i)).mpr ⟨rfl, by show (SemLoc.dma cc0_scoped1.sem : SemLoc sig).isScoped .scVector = true; decide⟩⟩⟩)]

theorem devRef_ne {b b' : Ref sig (pV i).kind} (h : b ≠ b') : (pV i).devRef b ≠ (pV i).devRef b' :=
  fun e => absurd (Proc.devRef_injective _ e) h

theorem bufs_V :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ (∃ f, (thr d i).loc cc0_scratch4 ↦{fullShare} f)
          ∗ restB d i) := by
  unfold SparseCore.Cfg.ownBufs
  refine (SparseCore.bigSep_erase' (SparseCore.Cfg.mem_ownRefs_of_owner (p := pV i) (b := (pV i).devRef cc0_scratch0) rfl)).trans ?_
  rw [SparseCore.bigSep_erase' (i := (pV i).devRef cc0_scratch1) (by
      simp only [Finset.mem_erase]
      exact ⟨devRef_ne i (show (cc0_scratch1 : Ref sig .scVector) ≠ cc0_scratch0 by decide), SparseCore.Cfg.mem_ownRefs_of_owner (p := pV i) rfl⟩),
    SparseCore.bigSep_erase' (i := (pV i).devRef cc0_scratch2) (by
      simp only [Finset.mem_erase]
      exact ⟨devRef_ne i (show (cc0_scratch2 : Ref sig .scVector) ≠ cc0_scratch1 by decide), devRef_ne i (show (cc0_scratch2 : Ref sig .scVector) ≠ cc0_scratch0 by decide), SparseCore.Cfg.mem_ownRefs_of_owner (p := pV i) rfl⟩),
    SparseCore.bigSep_erase' (i := (pV i).devRef cc0_scratch3) (by
      simp only [Finset.mem_erase]
      exact ⟨devRef_ne i (show (cc0_scratch3 : Ref sig .scVector) ≠ cc0_scratch2 by decide), devRef_ne i (show (cc0_scratch3 : Ref sig .scVector) ≠ cc0_scratch1 by decide), devRef_ne i (show (cc0_scratch3 : Ref sig .scVector) ≠ cc0_scratch0 by decide), SparseCore.Cfg.mem_ownRefs_of_owner (p := pV i) rfl⟩),
    SparseCore.bigSep_erase' (i := (pV i).devRef cc0_scratch4) (by
      simp only [Finset.mem_erase]
      exact ⟨devRef_ne i (show (cc0_scratch4 : Ref sig .scVector) ≠ cc0_scratch3 by decide), devRef_ne i (show (cc0_scratch4 : Ref sig .scVector) ≠ cc0_scratch2 by decide), devRef_ne i (show (cc0_scratch4 : Ref sig .scVector) ≠ cc0_scratch1 by decide), devRef_ne i (show (cc0_scratch4 : Ref sig .scVector) ≠ cc0_scratch0 by decide), SparseCore.Cfg.mem_ownRefs_of_owner (p := pV i) rfl⟩)]

/-- A scratch at whatever it holds, as the task's memref of it. -/
theorem some_whole {s : Shape} (b : Memref sig .scVector .vmem s .f32) (hb : b.view.set = Finset.univ) :
    (some_ (F := F) (thr d i) b : sProp 𝕄) ⊣⊢ iprop(∃ f, (b.view.loc (thr d i)) ↦{fullShare} f) := by
  unfold some_ holds
  rw [hb]
  constructor
  · iintro ⟨%X, %f, -, H⟩; iexists f; iexact H
  · iintro ⟨%f, H⟩; iexists _; iexists f; isplitr; · ipureintro; rfl
    iexact H

theorem some_b {s : Shape} (b : Memref sig .scVector .vmem s .f32) (hb : b.view.set = Finset.univ) (ℓ : Loc nD τ sig) (hℓ : b.view.loc (thr d i) = ℓ) :
    (some_ (F := F) (thr d i) b : sProp 𝕄) = iprop(∃ f, ℓ ↦{fullShare} f) := by
  subst hℓ; exact BI.equiv_iff.mp ⟨(some_whole d i b hb).1, (some_whole d i b hb).2⟩

theorem out_first : (oPts d (region (wid i)) (m (oLoc d)) : sProp 𝕄) ⊢ outTo d i (wid i) (flat m d) (16 * wid i) := by
  unfold outTo oPts
  iintro H
  iexists (m (oLoc d)); isplitr
  · ipureintro; intro p hp h; rw [mem_region] at hp; omega
  · iexact H

theorem out_last : (outTo d i (wid i) (flat m d) (16 * wid i + 16) : sProp 𝕄) ⊢ oPts d (region (wid i)) (kOut (flat m d)) := by
  unfold outTo oPts
  iintro ⟨%f, %hf, H⟩
  have e := pointsTo_congr (nD := nD) (τ := τ) (sig := sig) (Val := Elt F) (Ix := HIx 1) (Name := ℕ) (U := UU) (Lvl := ℕ) (ℓ := oLoc d) (I := region (wid i)) (q := fullShare) (f := f) (g := kOut (flat m d))
    fun p hp => hf p hp (by rw [mem_region] at hp; omega)
  rw [← e]
  iexact H

theorem tile_post (O : CellTallies nD τ sig (HIx 1)) (W : Waits sig (HIx 1)) :
    iprop((xHeld d i (wid i) (flat m d) ∗ outTo d i (wid i) (flat m d) (16 * wid i + 16) ∗ some_ (F := F) (thr d i) (Memref.whole cc0_scratch0)
          ∗ some_ (F := F) (thr d i) (Memref.whole cc0_scratch1) ∗ some_ (F := F) (thr d i) (Memref.whole cc0_scratch2)
          ∗ some_ (F := F) (thr d i) (Memref.whole cc0_scratch3) ∗ some_ (F := F) (thr d i) (Memref.whole cc0_scratch4)
          ∗ semVal (cell0 d i) 0 ∗ semVal (cell1 d i) 0 ∗ semVal (cell2 d i) 0 ∗ owed (thr d i) O W) ∗ (restB d i ∗ restS d i))
      ⊢ iprop((xPts m d (region (wid i)) ∗ oPts d (region (wid i)) (kOut (flat m d)))
        ∗ ((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ (∃ f, (thr d i).loc cc0_scratch4 ↦{fullShare} f) ∗ restB d i)
        ∗ (semVal (cell0 d i) 0 ∗ semVal (cell1 d i) 0 ∗ semVal (cell2 d i) 0 ∗ restS d i)
        ∗ ∃ W', ⌜∀ p ∈ W', p ∈ W ∨ p.2 = none⌝ ∗ owes (thr d i) O W') := by
  have e0 := some_b (F := F) d i (Memref.whole cc0_scratch0) (View.set_whole _) _ rfl
  have e1 := some_b (F := F) d i (Memref.whole cc0_scratch1) (View.set_whole _) _ rfl
  have e2 := some_b (F := F) d i (Memref.whole cc0_scratch2) (View.set_whole _) _ rfl
  have e3 := some_b (F := F) d i (Memref.whole cc0_scratch3) (View.set_whole _) _ rfl
  have e4 := some_b (F := F) d i (Memref.whole cc0_scratch4) (View.set_whole _) _ rfl
  rw [e0, e1, e2, e3, e4]
  unfold owed
  iintro ⟨⟨Hx, Ho, H0, H1, H2, H3, H4, Hs0, Hs1, Hs2, HO⟩, Hbufs, Hsems⟩
  icases HO with ⟨-, HO⟩
  isplitl [Hx Ho]
  · isplitl [Hx]; · unfold xHeld; iexact Hx
    iapply (out_last m d i); iexact Ho
  isplitl [H0 H1 H2 H3 H4 Hbufs]
  · isplitl [H0]; · iexact H0
    isplitl [H1]; · iexact H1
    isplitl [H2]; · iexact H2
    isplitl [H3]; · iexact H3
    isplitl [H4]; · iexact H4
    iexact Hbufs
  isplitl [Hs0 Hs1 Hs2 Hsems]
  · isplitl [Hs0]; · iexact Hs0
    isplitl [Hs1]; · iexact Hs1
    isplitl [Hs2]; · iexact Hs2
    iexact Hsems
  iexact HO

/-- The task of one vector subcore. -/
theorem tile_run (hF : (K (F := F)).Facts) (O : CellTallies nD τ sig (HIx 1)) (W : Waits sig (HIx 1)) (hO : ∀ g, O g none = 0) :
    iprop(levAts (K (F := F)).L (K (F := F)).lev ∗ emp
        ∗ (xPts m d (region (wid i)) ∗ oPts d (region (wid i)) (m (oLoc d)))
        ∗ scopedBufs (thr d i) ∗ scopedSems0 (thr d i) ∗ owes (thr d i) O W)
      ⊢ wp frame (wpE (defs₀ (F := F)) 𝒱₀ (thr d i) none) Set.univ
          (cc0__body (F := F) i xV (Memref.isWhole_whole _) oV (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scoped0 cc0_scoped1)
          fun _ => iprop((xPts m d (region (wid i)) ∗ oPts d (region (wid i)) (kOut (flat m d))) ∗ scopedBufs (thr d i) ∗ scopedSems0 (thr d i)
            ∗ ∃ W', ⌜∀ p ∈ W', p ∈ W ∨ p.2 = none⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), sems_V, bufs_V]
  have e0 := some_b (F := F) d i (Memref.whole cc0_scratch0) (View.set_whole _) _ rfl
  have e1 := some_b (F := F) d i (Memref.whole cc0_scratch1) (View.set_whole _) _ rfl
  have e2 := some_b (F := F) d i (Memref.whole cc0_scratch2) (View.set_whole _) _ rfl
  have e3 := some_b (F := F) d i (Memref.whole cc0_scratch3) (View.set_whole _) _ rfl
  have e4 := some_b (F := F) d i (Memref.whole cc0_scratch4) (View.set_whole _) _ rfl
  refine BI.BIBase.Entails.trans (?_ : _ ⊢ iprop(_ ∗ (restB d i ∗ restS d i))) ((sep_mono_left (body_run d i (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scoped0 cc0_scoped1 (flat m d) O W)).trans
    ((wp_frame_r frame _ Set.univ).trans (wp_mono frame _ Set.univ fun _ => ?_)))
  · iintro ⟨#Hlv, -, ⟨Hx, Ho⟩, ⟨H0, H1, H2, H3, H4, Hbufs⟩, ⟨Hs0, Hs1, Hs2, Hsems⟩, HO⟩
    ihave Hmw := ((K (F := F)).mayWaits_none (thr := thr d i) hO) $$ Hlv
    isplitr [Hbufs Hsems]
    · isplitl [Hx]; · unfold xHeld; iexact Hx
      isplitl [Ho]; · iapply (out_first m d i); iexact Ho
      isplitl [H0]; · rw [e0]; iexact H0
      isplitl [H1]; · rw [e1]; iexact H1
      isplitl [H2]; · rw [e2]; iexact H2
      isplitl [H3]; · rw [e3]; iexact H3
      isplitl [H4]; · rw [e4]; iexact H4
      isplitl [Hs0]; · iexact Hs0
      isplitl [Hs1]; · iexact Hs1
      isplitl [Hs2]; · iexact Hs2
      unfold owed
      isplitl [Hmw]; · iexact Hmw
      iexists W; isplitr
      · ipureintro; exact fun p hp => .inl hp
      · iexact HO
    · isplitl [Hbufs] <;> iassumption
  · exact tile_post m d i O W

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s) xV (Memref.isWhole_whole _) oV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) cc0_scratch5 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_run m d (coordsV ⟨_, hc.1⟩ ⟨_, hc.2⟩) hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(xPts m d (half c.val) ∗ oPts d (half c.val) (m (oLoc d))) ⊢ |={Set.univ}=> iprop(
      (bigSep (Finset.univ : Finset (Fin 16)) fun i =>
        iprop(xPts m d (region (2 * i.val + c.val)) ∗ oPts d (region (2 * i.val + c.val)) (m (oLoc d))))
      ∗ ((bigSep (Finset.univ : Finset (Fin 16)) fun i =>
          iprop(xPts m d (region (2 * i.val + c.val)) ∗ oPts d (region (2 * i.val + c.val)) (kOut (flat m d))))
          -∗ iprop(xPts m d (half c.val) ∗ oPts d (half c.val) (kOut (flat m d)))))
  rw [bigSep_sep', bigSep_sep']
  have hx := half_split m d (⟨c.val, c.isLt⟩ : Fin 2)
  have ho := half_split_o (F := F) d (⟨c.val, c.isLt⟩ : Fin 2) (m (oLoc d))
  have ho' := half_split_o (F := F) d (⟨c.val, c.isLt⟩ : Fin 2) (kOut (flat m d))
  rw [← hx, ← ho, ← ho']
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's program -/

abbrev S4 : Finset (DevRef τ sig) := {a', x', o', r'}

theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ (rLoc d ↦{fullShare} W r')) := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ (rLoc d ↦{fullShare} W main_v2)) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem st0_eq (d : Dev nD) : (bigSep Finset.univ fun c : Fin ((K (F := F)).nCore 0) => (P m).st 0 d c)
    = iprop(xPts m d Finset.univ ∗ oPts d Finset.univ (m (oLoc d))) := by
  show (bigSep (Finset.univ : Finset (Fin 2)) fun c => iprop(xPts m d (half c.val) ∗ oPts d (half c.val) (m (oLoc d)))) = _
  rw [bigSep_sep', ← whole_split, ← whole_split_o]
theorem dn0_eq (d : Dev nD) : (bigSep Finset.univ fun c : Fin ((K (F := F)).nCore 0) => (P m).dn 0 d c)
    = iprop(xPts m d Finset.univ ∗ oPts d Finset.univ (kOut (flat m d))) := by
  show (bigSep (Finset.univ : Finset (Fin 2)) fun c => iprop(xPts m d (half c.val) ∗ oPts d (half c.val) (kOut (flat m d)))) = _
  rw [bigSep_sep', ← whole_split, ← whole_split_o]

theorem hIn : (opIn (F := F)).bufs ⊆ S4 := show ({a', x'} : Finset (DevRef τ sig)) ⊆ S4 by decide
theorem hOut : (opOut (F := F)).bufs ⊆ S4 := show ({o', r'} : Finset (DevRef τ sig)) ⊆ S4 by decide

/-- What the program keeps for the end: the argument, and the result. -/
abbrev FIN (d : Dev nD) : sProp 𝕄 := iprop((aLoc d ↦{fullShare} m (aLoc d)) ∗ (rLoc d ↦{fullShare} V3 m d r'))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  ihave Hh := (Entails.of_eq (held_S4 (F := F) d (V1 m d))) $$ [Hheld]
  · unfold V1; iexact Hheld
  icases Hh with ⟨Ha, Hx, Ho, Hr⟩
  rw [wp_ret]; imodintro
  iapply ((K (F := F)).wp_run (D (F := F)) 𝒱 (EH := EH) (P := P m) κ d 0) $$ [Hst Hx Ho Hb Ha Hr Hts]
  isplitr; · iexact Hctx
  isplitl [Hst]; · iexact Hst
  isplitl [Hx Ho]
  · rw [st0_eq]
    isplitl [Hx]; · iexact Hx
    rw [V1_o]; iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_S4 (F := F) d (V3 m d))) $$ [Hheld]
  · unfold V3; iexact Hheld
  rw [V3_a]
  icases Hh with ⟨Ha, -, -, Hr⟩
  rw [wp_ret]; imodintro; imodintro
  isplitl [Hst]; · iexact Hst
  isplitr [Hb Hts]
  · isplitl [Ha] <;> iassumption
  isplitl [Hb] <;> iassumption

def fq (d : Dev nD) (s' : Phys nD τ sig (Elt F)) : Prop := s'.mem.mem (aLoc d) = m (aLoc d) ∧ s'.mem.mem (rLoc d) = V3 m d r'

theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := aLoc d) (I := Finset.univ) (q := fullShare) (f := m (aLoc d)))) $$ [HSI Hi]
  · isplitl [HSI] <;> iassumption
  icases H with ⟨%h1, HSI, -⟩
  ihave H := (SI_pointsTo_agree (st := s') (ℓ := rLoc d) (I := Finset.univ) (q := fullShare) (f := V3 m d r')) $$ [HSI Hx]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop := fun r =>
  (∀ c : Dev nD, r.2.mem (aLoc c) = m (aLoc c) ∧ r.2.mem (rLoc c) = V3 m c r') ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Frames.lean ====
/-
  The runs' frames, and what the named constant keeps: the kernel's two programs from the one run of Launch.lean, the
  reference's from its generated run.
-/
module

public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_settles

@[expose] public section

noncomputable section

namespace Cert.Proof

open Idealize.ShloMosaic Idealize.SL.Sem

/-- A named constant read as its own word: with this reading the two kernel programs are one program. -/
@[instance_reducible] def wordNamed : Named Bits where
  named _ _ {φ} w := Scalar.ofBits φ w

attribute [local instance] wordNamed

theorem frame_kernel : Cert.quiescent_Kernel := fun m ρ _ =>
  (θ_run Cert.KernelIdeal.defs _ _).mono (fun _ h => ⟨fun c => (h.1 c).1, h.2⟩) (run_main (F := Bits) m ρ)

theorem frame_ideal : Cert.quiescent_KernelIdeal := fun m ρ _ =>
  (θ_run Cert.KernelIdeal.defs _ _).mono (fun _ h => ⟨fun c => (h.1 c).1, h.2⟩) (run_main (F := Ideal) m ρ)

theorem frame_ideal_pre : Cert.quiescent_KernelIdeal_pre_settles := fun m ρ _ => frame_ideal m ρ trivial

theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ref_pre : Cert.quiescent_ReferenceIdeal_pre_settles := fun m ρ _ => frame_ref m ρ trivial

theorem keeps : Cert.preserves_Kernel_KernelIdeal := IdealRules.named_const.statement _ _ _ _ _ rfl

end Cert.Proof

end
-- ==== Proof.Newton.lean ====
/-
  The threshold of a finite family of reals: the bound the excesses over which add up to one, and the Newton steps
  that climb to it from below.
-/
module

public import Mathlib.Algebra.BigOperators.Field
public import Mathlib.Algebra.Order.BigOperators.Group.Finset
public import Mathlib.Data.Real.Basic
public import Mathlib.Tactic.Linarith
public import Mathlib.Tactic.FieldSimp
public import Mathlib.Tactic.Ring
public import Mathlib.Tactic.NormNum
public import Mathlib.Order.Interval.Finset.Fin

@[expose] public section

noncomputable section

namespace Cert.Proof

variable {ι : Type} [Fintype ι] (x : ι → ℝ)

/-- How many entries lie above a bound. -/
def cnt (t : ℝ) : ℝ := ∑ i, if t < x i then 1 else 0

/-- Their sum. -/
def tot (t : ℝ) : ℝ := ∑ i, if t < x i then x i else 0

/-- The next bound. -/
def nxt (t : ℝ) : ℝ := (tot x t - 1) / cnt x t

/-- The excesses over a bound, added up. -/
def exc (t : ℝ) : ℝ := ∑ i, max (x i - t) 0

theorem exc_eq (t : ℝ) : exc x t = tot x t - t * cnt x t := by
  unfold exc tot cnt
  rw [Finset.mul_sum, ← Finset.sum_sub_distrib]
  refine Finset.sum_congr rfl fun i _ => ?_
  by_cases h : t < x i
  · rw [if_pos h, if_pos h, max_eq_left (by linarith)]; ring
  · rw [if_neg h, if_neg h, max_eq_right (by linarith)]; ring

theorem le_exc (t u : ℝ) : tot x t - u * cnt x t ≤ exc x u := by
  unfold exc tot cnt
  rw [Finset.mul_sum, ← Finset.sum_sub_distrib]
  refine Finset.sum_le_sum fun i _ => ?_
  by_cases h : t < x i
  · rw [if_pos h, if_pos h]; linarith [le_max_left (x i - u) 0]
  · rw [if_neg h, if_neg h]; linarith [le_max_right (x i - u) 0]

theorem exc_anti {t u : ℝ} (h : t ≤ u) : exc x u ≤ exc x t :=
  Finset.sum_le_sum fun i _ => max_le_max (by linarith) le_rfl

theorem cnt_nonneg (t : ℝ) : 0 ≤ cnt x t := Finset.sum_nonneg fun i _ => by split <;> norm_num

theorem cnt_pos {t : ℝ} {i : ι} (h : t < x i) : 0 < cnt x t := by
  have h1 : (if t < x i then (1 : ℝ) else 0) ≤ cnt x t :=
    Finset.single_le_sum (f := fun i => if t < x i then (1 : ℝ) else 0) (fun i _ => by split <;> norm_num) (Finset.mem_univ i)
  rw [if_pos h] at h1
  linarith

variable {x}

theorem exists_above {t : ℝ} (h : 0 < exc x t) : ∃ i, t < x i := by
  by_contra hc
  push Not at hc
  have : exc x t = 0 := Finset.sum_eq_zero fun i _ => max_eq_right (by linarith [hc i])
  linarith

variable {τ : ℝ} (hτ : exc x τ = 1)

include hτ

theorem cnt_pos_of_le {t : ℝ} (h : t ≤ τ) : 0 < cnt x t := by
  obtain ⟨i, hi⟩ := exists_above (x := x) (t := τ) (by rw [hτ]; norm_num)
  exact cnt_pos x (lt_of_le_of_lt h hi)

theorem one_le_exc_iff (t : ℝ) : 1 ≤ exc x t ↔ t ≤ τ := by
  refine ⟨fun h => ?_, fun h => hτ ▸ exc_anti x h⟩
  by_contra hc
  push Not at hc
  have hs : exc x t < exc x τ := by
    obtain ⟨i, hi⟩ := exists_above (x := x) (t := τ) (by rw [hτ]; norm_num)
    refine Finset.sum_lt_sum (fun i _ => max_le_max (by linarith) le_rfl) ⟨i, Finset.mem_univ i, ?_⟩
    rw [max_eq_left (a := x i - τ) (by linarith)]
    exact max_lt (by linarith) (by linarith)
  linarith

theorem nxt_le {t : ℝ} (h : t ≤ τ) : nxt x t ≤ τ := by
  unfold nxt
  rw [div_le_iff₀ (cnt_pos_of_le hτ h)]
  have := le_exc x t τ
  linarith

theorem le_nxt {t : ℝ} (h : t ≤ τ) : t ≤ nxt x t := by
  unfold nxt
  rw [le_div_iff₀ (cnt_pos_of_le hτ h)]
  have h1 := (one_le_exc_iff hτ t).mpr h
  rw [exc_eq] at h1
  linarith

theorem nxt_mono {t u : ℝ} (htu : t ≤ u) (hu : u ≤ τ) : nxt x t ≤ nxt x u := by
  by_cases hc : nxt x t ≤ u
  · exact hc.trans (le_nxt hτ hu)
  push Not at hc
  have hK := cnt_pos_of_le hτ (htu.trans hu)
  have h1 : tot x t - nxt x t * cnt x t = 1 := by
    unfold nxt; field_simp; ring
  generalize nxt x t = n at h1 hc ⊢
  have h2 : tot x t - n * cnt x t ≤ tot x u - n * cnt x u := by
    unfold tot cnt
    rw [Finset.mul_sum, Finset.mul_sum, ← Finset.sum_sub_distrib, ← Finset.sum_sub_distrib]
    refine Finset.sum_le_sum fun i _ => ?_
    by_cases h : t < x i
    · by_cases h' : u < x i
      · rw [if_pos h, if_pos h, if_pos h', if_pos h']
      · rw [if_pos h, if_pos h, if_neg h', if_neg h']; linarith
    · rw [if_neg h, if_neg h, if_neg (by linarith), if_neg (by linarith)]
  unfold nxt
  rw [le_div_iff₀ (cnt_pos_of_le hτ hu)]
  linarith

/-- A step from below with no entry between ends at the threshold. -/
theorem nxt_eq {t : ℝ} (h : t ≤ τ) (hn : ∀ i, x i ≤ t ∨ τ ≤ x i) : nxt x t = τ := by
  unfold nxt
  rw [div_eq_iff (cnt_pos_of_le hτ h).ne']
  have : tot x t - τ * cnt x t = exc x τ := by
    unfold exc tot cnt
    rw [Finset.mul_sum, ← Finset.sum_sub_distrib]
    refine Finset.sum_congr rfl fun i _ => ?_
    by_cases h' : t < x i
    · have := (hn i).resolve_left (not_le.mpr h')
      rw [if_pos h', if_pos h', max_eq_left (by linarith)]; ring
    · rw [if_neg h', if_neg h', max_eq_right (by linarith)]; ring
  linarith

/-- Three steps from a bound at most `δ` below the threshold, when two steps from `δ` below it pass every entry below it. -/
theorem three_steps {δ s : ℝ} (h1 : τ - δ ≤ s) (h2 : s ≤ τ) (hn : ∀ i, x i ≤ nxt x (nxt x (τ - δ)) ∨ τ ≤ x i) :
    nxt x (nxt x (nxt x s)) = τ := by
  have a1 := nxt_mono hτ h1 h2
  have b1 := nxt_le hτ h2
  have a2 := nxt_mono hτ a1 b1
  have b2 := nxt_le hτ b1
  exact nxt_eq hτ b2 fun i => (hn i).imp (fun h => h.trans a2) id

omit hτ

/-- Moving every entry by a constant moves every bound by it. -/
theorem cnt_shift (m t : ℝ) : cnt (fun i => x i - m) t = cnt x (t + m) :=
  Finset.sum_congr rfl fun i _ => by simp only [lt_sub_iff_add_lt]

theorem tot_shift (m t : ℝ) : tot (fun i => x i - m) t = tot x (t + m) - m * cnt x (t + m) := by
  unfold tot cnt
  rw [Finset.mul_sum, ← Finset.sum_sub_distrib]
  refine Finset.sum_congr rfl fun i _ => ?_
  simp only [lt_sub_iff_add_lt]
  split <;> ring

theorem nxt_shift (m t : ℝ) (h : cnt x (t + m) ≠ 0) : nxt (fun i => x i - m) t = nxt x (t + m) - m := by
  unfold nxt
  rw [cnt_shift, tot_shift]
  field_simp
  ring

theorem exc_shift (m t : ℝ) : exc (fun i => x i - m) t = exc x (t + m) :=
  Finset.sum_congr rfl fun i _ => by rw [sub_sub, add_comm m t]

/-- The threshold lies less than one below the greatest entry. -/
theorem root_range {τ m : ℝ} (hτ : exc x τ = 1) (hm : ∀ i, x i ≤ m) (i : ι) (hi : x i = m) : m - 1 ≤ τ ∧ τ < m := by
  constructor
  · rw [← one_le_exc_iff hτ]
    have : max (x i - (m - 1)) 0 ≤ exc x (m - 1) :=
      Finset.single_le_sum (f := fun i => max (x i - (m - 1)) 0) (fun i _ => le_max_right _ _) (Finset.mem_univ i)
    rw [hi, max_eq_left (by linarith)] at this
    linarith
  · obtain ⟨j, hj⟩ := exists_above (x := x) (t := τ) (by rw [hτ]; norm_num)
    exact lt_of_lt_of_le hj (hm j)

/-- Sorted downwards, the entries whose rank times their value, plus one, exceeds the sum up to them are the first `k`, and
    their sum less one over `k` is the threshold. -/
theorem sorted_root {n : ℕ} (hn : 0 < n) (z : Fin n → ℝ) (hz : ∀ i j, i ≤ j → z j ≤ z i) :
    ∃ k : ℕ, 1 ≤ k ∧ k ≤ n ∧ (∀ i : Fin n, (∑ j, if j ≤ i then z j else 0) < 1 + (i.val + 1) * z i ↔ i.val < k)
      ∧ exc z (((∑ i, if i.val < k then z i else 0) - 1) / k) = 1 := by
  classical
  -- the gap of an entry: what the entries down to it exceed it by
  let G : Fin n → ℝ := fun i => ∑ j, if j ≤ i then z j - z i else 0
  have hc : ∀ i : Fin n, (∑ j : Fin n, if j ≤ i then (1 : ℝ) else 0) = i.val + 1 := by
    intro i
    rw [Finset.sum_ite, Finset.sum_const_zero, add_zero, Finset.sum_const, nsmul_eq_mul, mul_one]
    have : (Finset.univ.filter fun j : Fin n => j ≤ i) = Finset.Iic i := by ext j; simp
    rw [this, Fin.card_Iic]
    push_cast; ring
  have hG : ∀ i, (∑ j, if j ≤ i then z j else 0) < 1 + (i.val + 1) * z i ↔ G i < 1 := by
    intro i
    have : G i = (∑ j, if j ≤ i then z j else 0) - (i.val + 1) * z i := by
      rw [← hc i, Finset.sum_mul, ← Finset.sum_sub_distrib]
      refine Finset.sum_congr rfl fun j _ => ?_
      split <;> ring
    rw [this]
    constructor <;> intro h <;> linarith
  have hmono : ∀ i j, i ≤ j → G i ≤ G j := by
    intro i j hij
    refine Finset.sum_le_sum fun l _ => ?_
    by_cases h : l ≤ i
    · rw [if_pos h, if_pos (h.trans hij)]; linarith [hz i j hij]
    · rw [if_neg h]
      split
      · rename_i h'; linarith [hz l j h']
      · exact le_rfl
  have h0 : G ⟨0, hn⟩ < 1 := by
    have : G ⟨0, hn⟩ = 0 := Finset.sum_eq_zero fun j _ => by
      split
      · rename_i h
        have : j = ⟨0, hn⟩ := le_antisymm h (Fin.mk_le_of_le_val (Nat.zero_le _))
        rw [this, sub_self]
      · rfl
    rw [this]; norm_num
  -- the first `k`
  have hk : ∃ k : ℕ, 1 ≤ k ∧ k ≤ n ∧ ∀ i : Fin n, G i < 1 ↔ i.val < k := by
    by_cases hex : ∃ k : ℕ, ∃ h : k < n, ¬ G ⟨k, h⟩ < 1
    · refine ⟨Nat.find hex, ?_, ?_, fun i => ⟨fun h => ?_, fun h => ?_⟩⟩
      · rw [Nat.one_le_iff_ne_zero]
        intro h
        obtain ⟨h1, h2⟩ := Nat.find_spec hex
        simp only [h] at h2
        exact h2 h0
      · obtain ⟨h1, -⟩ := Nat.find_spec hex
        exact h1.le
      · obtain ⟨h1, h2⟩ := Nat.find_spec hex
        by_contra hc'
        rw [not_lt] at hc'
        exact h2 (lt_of_le_of_lt (hmono ⟨Nat.find hex, h1⟩ i (by rw [Fin.le_def]; exact hc')) h)
      · by_contra hc'
        exact Nat.find_min hex h ⟨i.isLt, hc'⟩
    · push Not at hex
      exact ⟨n, hn, le_rfl, fun i => ⟨fun _ => i.isLt, fun _ => hex i.val i.isLt⟩⟩
  obtain ⟨k, hk1, hkn, hk⟩ := hk
  refine ⟨k, hk1, hkn, fun i => (hG i).trans (hk i), ?_⟩
  have hkpos : (0 : ℝ) < k := by exact_mod_cast hk1
  have hcard : (∑ i : Fin n, if i.val < k then (1 : ℝ) else 0) = k := by
    have := hc ⟨k - 1, by omega⟩
    rw [show (((⟨k - 1, by omega⟩ : Fin n).val : ℝ) + 1) = k by
      show ((k - 1 : ℕ) : ℝ) + 1 = k
      rw [Nat.cast_sub hk1]; push_cast; ring] at this
    rw [← this]
    refine Finset.sum_congr rfl fun i _ => ?_
    have : i.val < k ↔ i ≤ (⟨k - 1, by omega⟩ : Fin n) := by
      rw [Fin.le_def]; show i.val < k ↔ i.val ≤ k - 1; omega
    simp only [this]
  generalize hs : (∑ i, if i.val < k then z i else 0) = s
  have hτ : (s - 1) / k * k = s - 1 := by field_simp
  generalize (s - 1) / (k : ℝ) = τ at hτ
  -- those before `k` lie above, the others do not
  have hup : ∀ i : Fin n, i.val < k → τ ≤ z i := by
    intro i hi
    have h1 := (hk ⟨k - 1, by omega⟩).mpr (show k - 1 < k by omega)
    have h2 : G ⟨k - 1, by omega⟩ = s - k * z ⟨k - 1, by omega⟩ := by
      rw [← hs, ← hcard, Finset.sum_mul, ← Finset.sum_sub_distrib]
      refine Finset.sum_congr rfl fun j _ => ?_
      have : j ≤ (⟨k - 1, by omega⟩ : Fin n) ↔ j.val < k := by
        rw [Fin.le_def]; show j.val ≤ k - 1 ↔ j.val < k; omega
      simp only [this]
      split <;> ring
    have h3 : z ⟨k - 1, by omega⟩ ≤ z i := hz _ _ (by rw [Fin.le_def]; show i.val ≤ k - 1; omega)
    have h4 : τ * k < k * z ⟨k - 1, by omega⟩ := by linarith
    have : τ < z ⟨k - 1, by omega⟩ := by nlinarith
    linarith
  have hdn : ∀ i : Fin n, k ≤ i.val → z i ≤ τ := by
    intro i hi
    have hkl : k < n := lt_of_le_of_lt hi i.isLt
    have h1 : ¬ G ⟨k, hkl⟩ < 1 := fun h => absurd ((hk ⟨k, hkl⟩).mp h) (lt_irrefl k)
    have h2 : G ⟨k, hkl⟩ = s - k * z ⟨k, hkl⟩ := by
      rw [← hs, ← hcard, Finset.sum_mul, ← Finset.sum_sub_distrib]
      refine Finset.sum_congr rfl fun j _ => ?_
      by_cases hj : j.val < k
      · have : j ≤ (⟨k, hkl⟩ : Fin n) := by rw [Fin.le_def]; exact hj.le
        rw [if_pos this, if_pos hj, if_pos hj]; ring
      · rw [if_neg hj, if_neg hj]
        split
        · rename_i h'
          have : j = ⟨k, hkl⟩ := le_antisymm h' (by rw [Fin.le_def]; show k ≤ j.val; omega)
          rw [this]; ring
        · ring
    have h3 : z i ≤ z ⟨k, hkl⟩ := hz _ _ (by rw [Fin.le_def]; exact hi)
    have h4 : k * z ⟨k, hkl⟩ ≤ τ * k := by linarith
    have : z ⟨k, hkl⟩ ≤ τ := by nlinarith
    linarith
  have : exc z τ = s - τ * k := by
    rw [← hs, ← hcard, Finset.mul_sum, ← Finset.sum_sub_distrib]
    refine Finset.sum_congr rfl fun i _ => ?_
    by_cases hi : i.val < k
    · rw [if_pos hi, if_pos hi, max_eq_left (by linarith [hup i hi])]; ring
    · rw [if_neg hi, if_neg hi, max_eq_right (by linarith [hdn i (by omega)])]; ring
  rw [this]; linarith

theorem exc_perm {n : ℕ} (y z : Fin n → ℝ) (f : Fin n → Fin n) (hf : Function.Bijective f) (h : ∀ i, z i = y (f i)) (t : ℝ) :
    exc z t = exc y t := by
  unfold exc
  simp only [h]
  exact hf.sum_comp fun i => max (y i - t) 0

end Cert.Proof

end
-- ==== Proof.Words.lean ====
/-
  The kernel's literals and small integer words at the extended reals.
-/
module

public import proofs.«01_k».proof.Proof.Newton
public import proofs.«01_k».proof.Proof.Group

@[expose] public section

noncomputable section

namespace Cert.Proof

open Cert.KernelIdeal Cert.KernelIdeal.Gen
open Idealize.ShloMosaic

theorem lit_one : Ideal.ofBits .f32 0x3F800000#32 = ((1 : ℝ) : EReal) := by
  simp [Ideal.ofBits, Ideal.ieee, -EReal.coe_mul]; norm_num

theorem lit_zero : Ideal.ofBits .f32 0x00000000#32 = ((0 : ℝ) : EReal) := by
  simp [Ideal.ofBits, Ideal.ieee]

theorem lit_256 : Ideal.ofBits .f32 0x43800000#32 = ((256 : ℝ) : EReal) := by
  simp [Ideal.ofBits, Ideal.ieee, -EReal.coe_mul]; norm_num

theorem lit_step : Ideal.ofBits .f32 0x3B800000#32 = ((1 / 256 : ℝ) : EReal) := by
  simp [Ideal.ofBits, Ideal.ieee, -EReal.coe_mul]; norm_num

theorem lit_neg : Ideal.ofBits .f32 0xFF800000#32 = ⊥ := by simp [Ideal.ofBits, Ideal.ieee]

theorem lit_pos : Ideal.ofBits .f32 0x7F800000#32 = ⊤ := by simp [Ideal.ofBits, Ideal.ieee]

/-- The running maxima start below everything. -/
theorem least_val (l : S16.Idx) : (k0_pay236 : FVec Ideal S16 .f32) l = (⊥ : EReal) := by
  show (κ "least").getD (Ideal.ofBits .f32 0xF149F2CA#32) = ⊥
  rfl

theorem ofBool_one {b : Bool} : BitVec.ofBool b = 1#1 ↔ b = true := by cases b <;> decide

theorem div_real {x y : ℝ} (h : y ≠ 0) : Ideal.div (x : EReal) (y : EReal) = ((x / y : ℝ) : EReal) := by
  rw [Ideal.div_coe h, ← EReal.coe_mul]
  congr 1
  ring

theorem coe_max (x y : ℝ) : ((max x y : ℝ) : EReal) = max (x : EReal) (y : EReal) :=
  (EReal.coe_strictMono.monotone.map_max)

/-- The bucket of a distance in `[0, 256)` is its whole part. -/
theorem clamp_val {e : ℝ} (h0 : 0 ≤ e) (h1 : e < 256) :
    (IntOp.minsi 255#32 (IntOp.maxsi 0#32 (Ideal.fptosi 32 (e : EReal)))).toNat = ⌊e⌋₊ := by
  have hf : ⌊e⌋₊ < 256 := (Nat.floor_lt h0).mpr (by exact_mod_cast h1)
  have hz : ⌊e⌋ = (⌊e⌋₊ : ℤ) := (Int.natCast_floor_eq_floor h0).symm
  have hw : Ideal.fptosi 32 (e : EReal) = BitVec.ofNat 32 ⌊e⌋₊ := by
    unfold Ideal.fptosi
    rw [Ideal.toIntClamped_coe, if_pos h0, hz, min_eq_right (by omega), max_eq_right (by omega)]
    exact BitVec.ofInt_natCast _ _
  rw [hw]
  generalize ⌊e⌋₊ = n at hf
  have ht : (BitVec.ofNat 32 n).toInt = n := by
    rw [BitVec.toInt_eq_toNat_cond, BitVec.toNat_ofNat]
    split <;> omega
  have h2 : ¬ (BitVec.ofNat 32 n).slt 0#32 = true := by
    rw [BitVec.slt_iff_toInt_lt, ht]
    show ¬ (n : ℤ) < 0
    omega
  have h3 : ¬ (255#32).slt (BitVec.ofNat 32 n) = true := by
    rw [BitVec.slt_iff_toInt_lt, ht]
    show ¬ (255 : ℤ) < n
    omega
  unfold IntOp.minsi IntOp.maxsi
  rw [if_neg h2, if_neg h3, BitVec.toNat_ofNat]
  omega

/-- A sum over `8 n` places is the eight sums over every eighth place. -/
theorem sum_eight (f : ℕ → ℝ) (n : ℕ) : ∑ k ∈ Finset.range (8 * n), f k
    = ∑ i ∈ Finset.range n, f (8 * i + 0) + ∑ i ∈ Finset.range n, f (8 * i + 1) + ∑ i ∈ Finset.range n, f (8 * i + 2)
      + ∑ i ∈ Finset.range n, f (8 * i + 3) + ∑ i ∈ Finset.range n, f (8 * i + 4) + ∑ i ∈ Finset.range n, f (8 * i + 5)
      + ∑ i ∈ Finset.range n, f (8 * i + 6) + ∑ i ∈ Finset.range n, f (8 * i + 7) := by
  induction n with
  | zero => simp
  | succ n ih =>
    rw [show 8 * (n + 1) = 8 * n + 7 + 1 by ring]
    simp only [Finset.sum_range_succ, ih]
    simp only [add_zero]
    ring

end Cert.Proof

end
-- ==== Proof.RefOps.lean ====
/-
  The reference's array operations at a row and a column of a matrix: the greatest entry of a row, its sum, its entries
  in order, the sums down to each of them, and the copies of a row, a column or a number over a matrix.
-/
module

public import proofs.«01_k».proof.Proof.Words
public import Idealize.ShloMosaic.Lib.Pointwise.Reduce
public import Idealize.ShloMosaic.Lib.SortFacts
public import Idealize.ShloMosaic.Lib.Pointwise.Index
public import Idealize.ShloMosaic.PureOps

@[expose] public section

noncomputable section

namespace Cert.Proof

open Idealize.ShloMosaic

variable {R N : ℕ}

/-- The greatest entry of a row. -/
theorem rowTop (x : FVec Ideal ⟨2, ![R, N]⟩ .f32) (init : FVec Ideal ⟨0, ![]⟩ .f32) (hi : ∀ j, init j = (⊥ : EReal))
    (h : (⟨2, ![R, N]⟩ : Shape).ReducesTo [1] ⟨1, ![R]⟩) (hu : 0 < (⟨0, ![]⟩ : Shape).numel) (r : Fin R) (m : EReal)
    (hm : ∀ k, x (ix2 r k) ≤ m) (he : ∃ k, x (ix2 r k) = m) :
    Host.reduce FloatOps.maximumf x init h hu (ix1 r) = m := by
  rw [Host.reduce_eq_fold, h.fold_fiber_r2_a1, hi]
  show Finset.fold max (⊥ : EReal) (fun k => x (ix2 r k)) Finset.univ = m
  refine le_antisymm ?_ ?_
  · exact (Finset.fold_max_le _).mpr ⟨bot_le, fun k _ => hm k⟩
  · obtain ⟨k, hk⟩ := he
    exact (Finset.le_fold_max _).mpr (.inr ⟨k, Finset.mem_univ k, hk.ge⟩)

/-- The greatest entry of a row of reals. -/
theorem rowMax (x : FVec Ideal ⟨2, ![R, N]⟩ .f32) (init : FVec Ideal ⟨0, ![]⟩ .f32) (hi : ∀ j, init j = (⊥ : EReal))
    (h : (⟨2, ![R, N]⟩ : Shape).ReducesTo [1] ⟨1, ![R]⟩) (hu : 0 < (⟨0, ![]⟩ : Shape).numel) (r : Fin R) (a : Fin N → ℝ)
    (hx : ∀ k, x (ix2 r k) = (a k : EReal)) (m : ℝ) (hm : ∀ k, a k ≤ m) (he : ∃ k, a k = m) :
    Host.reduce FloatOps.maximumf x init h hu (ix1 r) = (m : EReal) := by
  refine rowTop x init hi h hu r m (fun k => ?_) ?_
  · rw [hx]; exact EReal.coe_le_coe_iff.mpr (hm k)
  · obtain ⟨k, hk⟩ := he
    exact ⟨k, by rw [hx, hk]⟩

/-- The sum of a row of reals. -/
theorem rowSum (x : FVec Ideal ⟨2, ![R, N]⟩ .f32) (init : FVec Ideal ⟨0, ![]⟩ .f32) (hi : ∀ j, init j = ((0 : ℝ) : EReal))
    (h : (⟨2, ![R, N]⟩ : Shape).ReducesTo [1] ⟨1, ![R]⟩) (hu : 0 < (⟨0, ![]⟩ : Shape).numel) (r : Fin R) (a : Fin N → ℝ)
    (hx : ∀ k, x (ix2 r k) = (a k : EReal)) : Host.reduceAdd x init h hu (ix1 r) = ((∑ k, a k : ℝ) : EReal) := by
  show Ideal.hostReduceAdd h x (init (Shape.Idx.first hu)) (ix1 r) = _
  rw [Ideal.hostReduceAdd_r2_a1, hi]
  show ((0 : ℝ) : EReal) + ∑ k, x (ix2 r k) = _
  simp only [hx]
  rw [EReal.coe_zero, zero_add]
  exact (map_sum (⟨⟨((↑) : ℝ → EReal), EReal.coe_zero⟩, EReal.coe_add⟩ : ℝ →+ EReal) a Finset.univ).symm

/-- A column copied over the columns of a matrix. -/
theorem bcCol {α : Type} (hN : 1 < R) (v : (⟨1, ![R]⟩ : Shape).Idx → α) (h : (⟨1, ![R]⟩ : Shape).BroadcastsInDim ⟨2, ![R, 1]⟩ ![0]) (r : Fin R) :
    broadcastInDim ⟨2, ![R, 1]⟩ ![0] h v (ix2 r 0) = v (ix1 r) := by
  unfold broadcastInDim
  congr 1
  funext a
  match a with
  | ⟨0, _⟩ => exact dif_neg (show ¬ (R = 1) by omega)

theorem bcWide {α : Type} (hN : 1 < R) (v : (⟨2, ![R, 1]⟩ : Shape).Idx → α)
    (h : (⟨2, ![R, 1]⟩ : Shape).BroadcastsInDim ⟨2, ![R, N]⟩ ![0, 1]) (r : Fin R) (c : Fin N) :
    broadcastInDim ⟨2, ![R, N]⟩ ![0, 1] h v (ix2 r c) = v (ix2 r 0) := by
  unfold broadcastInDim
  congr 1
  funext a
  match a with
  | ⟨0, _⟩ => exact dif_neg (show ¬ (R = 1) by omega)
  | ⟨1, _⟩ => exact dif_pos rfl

/-- A row copied over the rows of a matrix. -/
theorem bcRow {α : Type} (hN : 1 < N) (v : (⟨1, ![N]⟩ : Shape).Idx → α) (h' : (⟨1, ![N]⟩ : Shape).BroadcastsInDim ⟨2, ![1, N]⟩ ![1])
    (h : (⟨2, ![1, N]⟩ : Shape).BroadcastsInDim ⟨2, ![R, N]⟩ ![0, 1]) (r : Fin R) (c : Fin N) :
    broadcastInDim ⟨2, ![R, N]⟩ ![0, 1] h (broadcastInDim ⟨2, ![1, N]⟩ ![1] h' v) (ix2 r c) = v (ix1 c) := by
  unfold broadcastInDim
  congr 1
  funext a
  match a with
  | ⟨0, _⟩ => exact (dif_neg (show ¬ (N = 1) by omega)).trans (Fin.ext (congrArg Fin.val (dif_neg (show ¬ (N = 1) by omega))))

/-- A row in order and back to front: a rearrangement that does not rise. -/
theorem rowSorted (cmp : Ideal .f32 → Ideal .f32 → BitVec 1) (hc : ∀ u v : EReal, cmp u v = BitVec.ofBool (decide (u < v)))
    (x : FVec Ideal ⟨2, ![R, N]⟩ .f32) (r : Fin R) (a : Fin N → EReal) (hx : ∀ k, x (ix2 r k) = a k) :
    ∃ f : Fin N → Fin N, Function.Bijective f ∧ (∀ i j, i ≤ j → a (f j) ≤ a (f i)) ∧
      ∀ c, Host.reverse [1] (Host.sort ⟨2, ![R, N]⟩ 1 cmp x) (ix2 r c) = a (f c) := by
  let B : Fin N → Fin N → Bool := fun k k' => decide (a k < a k')
  refine ⟨fun c => sortedFrom B c.rev, ?_, ?_, ?_⟩
  · have hb : Function.Bijective (sortedFrom B) := ⟨sortedFrom_injective B, sortedFrom_surjective B⟩
    exact hb.comp Fin.rev_bijective
  · intro i j hij
    rcases eq_or_lt_of_le hij with rfl | hlt
    · exact le_rfl
    have := sortedFrom_noInversion B B (fun p q h => by
        simp only [B, decide_eq_true_eq, decide_eq_false_iff_not, not_lt] at h ⊢; exact h.le) (fun p q h => h)
        (fun p q s h1 h2 => by simp only [B, decide_eq_false_iff_not, not_lt] at h1 h2 ⊢; exact h2.trans h1)
        j.rev i.rev (Fin.rev_lt_rev.mpr hlt)
    simp only [B, decide_eq_false_iff_not, not_lt] at this
    exact this
  · intro c
    have ha : ∀ k : Fin N, Shape.Idx.along (s := ⟨2, ![R, N]⟩) (ix2 r c.rev) 1 k = ix2 r k := fun k => by
      funext d
      match d with
      | ⟨0, _⟩ => rfl
      | ⟨1, _⟩ => rfl
    have hr : (fun d => if d ∈ ([1] : List (Fin 2)) then ((ix2 r c : (⟨2, ![R, N]⟩ : Shape).Idx) d).rev else (ix2 r c : (⟨2, ![R, N]⟩ : Shape).Idx) d)
        = (ix2 r c.rev : (⟨2, ![R, N]⟩ : Shape).Idx) := by
      funext d
      match d with
      | ⟨0, _⟩ => rfl
      | ⟨1, _⟩ => rfl
    have hB : (fun k k' : Fin N => (BitVec.ofBool (decide (a k < a k')) == 1#1)) = B := by
      funext k k'
      simp only [B]
      cases decide (a k < a k') <;> rfl
    unfold Host.reverse
    rw [hr]
    unfold Host.sort
    rw [dif_pos (show 1 < 2 by decide)]
    show x (Shape.Idx.along (s := ⟨2, ![R, N]⟩) (ix2 r c.rev) 1 (sortedFrom (fun k k' : Fin N =>
      cmp (x (Shape.Idx.along (s := ⟨2, ![R, N]⟩) (ix2 r c.rev) 1 k)) (x (Shape.Idx.along (s := ⟨2, ![R, N]⟩) (ix2 r c.rev) 1 k')) == 1#1) c.rev)) = _
    simp only [ha, hx, hc]
    rw [hB]
    exact (congrArg x (ha _)).trans (hx _)

theorem foldl_add {n : ℕ} (F : EReal → Fin n → EReal) (g : Fin n → EReal) (hF : ∀ r k, F r k = r + g k) :
    ∀ (l : List (Fin n)) (v : EReal), l.foldl F v = v + (l.map g).sum
  | [], v => by simp
  | k :: l, v => by
    rw [List.foldl_cons, hF, foldl_add F g hF l]
    simp [add_assoc]

theorem window_sum (N i : ℕ) (hi : i < N) (z : ℕ → EReal) :
    (∑ w ∈ Finset.range N, if N - 1 ≤ i + w then z (i + w - (N - 1)) else 0) = ∑ j ∈ Finset.range N, if j ≤ i then z j else 0 := by
  rw [← Finset.sum_filter, ← Finset.sum_filter]
  refine Finset.sum_nbij' (fun w => i + w - (N - 1)) (fun j => j + (N - 1) - i) ?_ ?_ ?_ ?_ ?_
  · intro w hw; simp only [Finset.mem_filter, Finset.mem_range] at hw ⊢; omega
  · intro w hw; simp only [Finset.mem_filter, Finset.mem_range] at hw ⊢; omega
  · intro w hw; simp only [Finset.mem_filter, Finset.mem_range] at hw; omega
  · intro w hw; simp only [Finset.mem_filter, Finset.mem_range] at hw; omega
  · intro w hw; rfl

/-- The sums of a row down to each entry. -/
theorem rowPrefix {M : ℕ} (hN : M + 1 = N) (x : FVec Ideal ⟨2, ![R, N]⟩ .f32) (init : FVec Ideal ⟨0, ![]⟩ .f32) (hi : ∀ j, init j = ((0 : ℝ) : EReal))
    (h : (⟨2, ![R, N]⟩ : Shape).ReduceWindows (![1, N] : Fin 2 → Nat) ![1, 1] ![0, M] ![0, 0] ⟨2, ![R, N]⟩)
    (hu : 0 < (⟨0, ![]⟩ : Shape).numel) (r : Fin R) (z : Fin N → EReal) (hx : ∀ k, x (ix2 r k) = z k) (i : Fin N) :
    Host.reduceWindowAdd ![1, N] ![1, 1] ![0, M] ![0, 0] x init h hu (ix2 r i) = ∑ j, if j ≤ i then z j else 0 := by
  subst hN
  have hn : (⟨2, ![1, M + 1]⟩ : Shape).numel = M + 1 := by
    simp [Shape.numel, Fin.prod_univ_two]
  let z' : ℕ → EReal := fun k => if hk : k < M + 1 then z ⟨k, hk⟩ else 0
  have hz' : ∀ k : Fin (M + 1), z' k.val = z k := fun k => dif_pos k.isLt
  have hv : init (Shape.Idx.first hu) = (0 : EReal) := (hi _).trans EReal.coe_zero
  show Host.reduceWindow (α := EReal) (· + ·) ![1, M + 1] ![1, 1] ![0, M] ![0, 0] x (fun _ : (⟨0, ![]⟩ : Shape).Idx => init (Shape.Idx.first hu)) h hu (ix2 r i) = _
  unfold Host.reduceWindow
  rw [hv]
  refine (foldl_add _ (fun n => if M ≤ i.val + n.val then z' (i.val + n.val - M) else 0) (fun v n => ?_) _ 0).trans ?_
  · have hw0 : ((⟨2, ![1, M + 1]⟩ : Shape).rowMajor.symm n 0).val = 0 := by
      have := ((⟨2, ![1, M + 1]⟩ : Shape).rowMajor.symm n 0).isLt
      change _ < 1 at this
      omega
    have hw : ((⟨2, ![1, M + 1]⟩ : Shape).rowMajor.symm n 1).val = n.val := by
      have := Shape.rowMajor_val_two ((⟨2, ![1, M + 1]⟩ : Shape).rowMajor.symm n)
      rw [Equiv.apply_symm_apply] at this
      rw [this]
      change _ = ((⟨2, ![1, M + 1]⟩ : Shape).rowMajor.symm n 0).val * (M + 1) + _
      rw [hw0, Nat.zero_mul, Nat.zero_add]
    have hnl : n.val < M + 1 := lt_of_lt_of_eq n.isLt hn
    have hil := i.isLt
    dsimp only
    congr 1
    split
    · next hin =>
      have h1 := hin 1
      change M ≤ i.val * 1 + ((⟨2, ![1, M + 1]⟩ : Shape).rowMajor.symm n 1).val
        ∧ i.val * 1 + ((⟨2, ![1, M + 1]⟩ : Shape).rowMajor.symm n 1).val - M < M + 1 at h1
      rw [hw] at h1
      have hk : i.val + n.val - M < M + 1 := by omega
      rw [if_pos (by omega), hz' ⟨i.val + n.val - M, hk⟩, ← hx]
      refine congrArg x (funext fun a => Fin.ext ?_)
      match a with
      | ⟨0, _⟩ =>
        show r.val * 1 + ((⟨2, ![1, M + 1]⟩ : Shape).rowMajor.symm n 0).val - 0 = r.val
        rw [hw0]; omega
      | ⟨1, _⟩ =>
        show i.val * 1 + ((⟨2, ![1, M + 1]⟩ : Shape).rowMajor.symm n 1).val - M = i.val + n.val - M
        rw [hw, Nat.mul_one]
    · next hin =>
      rw [if_neg fun hle => hin fun a => by
        match a with
        | ⟨0, _⟩ =>
          show 0 ≤ r.val * 1 + ((⟨2, ![1, M + 1]⟩ : Shape).rowMajor.symm n 0).val
            ∧ r.val * 1 + ((⟨2, ![1, M + 1]⟩ : Shape).rowMajor.symm n 0).val - 0 < R
          have := r.isLt
          rw [hw0]; omega
        | ⟨1, _⟩ =>
          show M ≤ i.val * 1 + ((⟨2, ![1, M + 1]⟩ : Shape).rowMajor.symm n 1).val
            ∧ i.val * 1 + ((⟨2, ![1, M + 1]⟩ : Shape).rowMajor.symm n 1).val - M < M + 1
          rw [hw]; omega]
  · rw [zero_add, ← List.ofFn_eq_map, List.sum_ofFn]
    have h1 : (∑ n : Fin (⟨2, ![1, M + 1]⟩ : Shape).numel, if M ≤ i.val + n.val then z' (i.val + n.val - M) else 0)
        = ∑ w ∈ Finset.range (M + 1), if M ≤ i.val + w then z' (i.val + w - M) else 0 := by
      rw [Fin.sum_univ_eq_sum_range (fun w => if M ≤ i.val + w then z' (i.val + w - M) else 0), hn]
    have h2 := window_sum (M + 1) i.val i.isLt z'
    rw [Nat.add_sub_cancel] at h2
    rw [h1, h2, ← Fin.sum_univ_eq_sum_range (fun j => if j ≤ i.val then z' j else 0)]
    exact Finset.sum_congr rfl fun j _ => by rw [hz']; rfl

end Cert.Proof
-- ==== Proof.LaneVal.lean ====
/-
  What the group's loops leave in one lane: the greatest entry, the counts and sums down to each bucket, the first bound
  the excesses over which reach one, and the steps from it. The row is one of reals, except that an entry may be −∞: the
  family of reals that stands for the row then has some number two or more below the greatest entry there, and no count
  or sum can tell. A row with an infinite entry above it all, at the end, comes to nothing.
-/
module

public import proofs.«01_k».proof.Proof.Words

@[expose] public section

noncomputable section

namespace Cert.Proof

open Cert.KernelIdeal Cert.KernelIdeal.Gen
open Idealize.ShloMosaic

variable (l : S16.Idx) (a : ℕ → ℝ)

/-- The row as a finite family. -/
def fam (i : Fin 2048) : ℝ := a i.val

theorem sum_fam (f : ℝ → ℝ) : ∑ i, f (fam a i) = ∑ k ∈ Finset.range 2048, f (a k) :=
  Fin.sum_univ_eq_sum_range (fun k => f (a k)) 2048

section Max
variable (A : S32768.Idx → Ideal .f32) (v : ℕ → EReal) (hA : ∀ k < 2048, lane 2048 A k l = v k)

include hA in
theorem colMax_val (u : ℕ) (hu : u < 8) : ∀ n ≤ 256, (∀ i < n, v (8 * i + u) ≤ colMax A u n l)
    ∧ (colMax A u n l = (⊥ : EReal) ∨ ∃ k < 2048, colMax A u n l = v k)
  | 0, _ => ⟨fun i hi => absurd hi (Nat.not_lt_zero _), .inl (least_val l)⟩
  | n + 1, hn => by
    obtain ⟨h1, h2⟩ := colMax_val u hu n (by omega)
    have hs : colMax A u (n + 1) l = max (colMax A u n l) (v (8 * n + u)) := by
      rw [← hA (8 * n + u) (by omega)]; rfl
    rw [hs]
    refine ⟨fun i hi => ?_, ?_⟩
    · rcases Nat.lt_succ_iff_lt_or_eq.mp hi with h | rfl
      · exact (h1 i h).trans (le_max_left _ _)
      · exact le_max_right _ _
    · rcases max_choice (colMax A u n l : EReal) (v (8 * n + u)) with h | h
      · rw [h]; exact h2
      · rw [h]; exact .inr ⟨_, by omega, rfl⟩

include hA in
theorem mx_sup : (∀ k < 2048, v k ≤ mxOf A l) ∧ ∃ k < 2048, mxOf A l = v k := by
  have hc : ∀ u < 8, _ := fun u hu => colMax_val l A v hA u hu 256 le_rfl
  have hm : mxOf A l = max (max (max (max (max (max (max (colMax A 0 256 l) (colMax A 1 256 l)) (colMax A 2 256 l)) (colMax A 3 256 l))
    (colMax A 4 256 l)) (colMax A 5 256 l)) (colMax A 6 256 l)) (colMax A 7 256 l) := rfl
  have hup : ∀ u < 8, (colMax A u 256 l : EReal) ≤ mxOf A l := by
    intro u hu
    rw [hm]
    interval_cases u <;> simp only [le_max_iff, le_refl, true_or, or_true]
  have hle : ∀ k < 2048, v k ≤ mxOf A l := by
    intro k hk
    have := (hc (k % 8) (by omega)).1 (k / 8) (by omega)
    rw [Nat.div_add_mod] at this
    exact this.trans (hup _ (by omega))
  have hQ : ∀ x y : EReal, (x = ⊥ ∨ ∃ k < 2048, x = v k) → (y = ⊥ ∨ ∃ k < 2048, y = v k) →
      (max x y = ⊥ ∨ ∃ k < 2048, max x y = v k) := by
    intro x y hx hy
    rcases max_choice x y with h | h <;> rw [h] <;> assumption
  have hat : (mxOf A l : EReal) = ⊥ ∨ ∃ k < 2048, mxOf A l = v k := by
    rw [hm]
    exact hQ _ _ (hQ _ _ (hQ _ _ (hQ _ _ (hQ _ _ (hQ _ _ (hQ _ _ (hc 0 (by omega)).2 (hc 1 (by omega)).2) (hc 2 (by omega)).2)
      (hc 3 (by omega)).2) (hc 4 (by omega)).2) (hc 5 (by omega)).2) (hc 6 (by omega)).2) (hc 7 (by omega)).2
  rcases hat with h | h
  · refine ⟨hle, 0, by omega, ?_⟩
    have := hle 0 (by omega)
    rw [h] at this ⊢
    exact (le_bot_iff.mp this).symm
  · exact ⟨hle, h⟩

end Max

/-- The row `v` is the family of reals `a`, but for entries that are −∞ where the family is `b` or less. -/
def Near (b : ℝ) (v : ℕ → EReal) : Prop := ∀ k < 2048, v k = (a k : EReal) ∨ (v k = ⊥ ∧ a k ≤ b)

section Hist
variable (m : FVec Ideal S16 .f32) (X : ℕ → FVec Ideal S16 .f32) (μ : ℝ)

/-- An entry's bucket. -/
def bkt (k : ℕ) : ℕ := ⌊(μ - a k) * 256⌋₊

variable (hm : m l = (μ : EReal)) (hX : Near a (μ - 2) fun k => X k l) (hle : ∀ k < 2048, a k ≤ μ)

include hm hX hle in
theorem place_iff {k : ℕ} (hk : k < 2048) {b : ℕ} (hb : b < 256) (i : S4096.Idx) (hi : (i 0).val = 256 * (l 0).val + b) :
    (k0_pay18 m (X k) (ix 16 ((i 0).val / 256)) = 1#1 ∧ (k0_pay19 k0_pay2 m (X k) (ix 16 ((i 0).val / 256))).toNat = (i 0).val)
      ↔ bkt a μ k = b := by
  have hl := lane_lt l
  have h16 : ix 16 ((i 0).val / 256) = l := by
    refine (idx_eq_ix l ?_).symm
    rw [hi]; omega
  rw [h16]
  rcases hX k hk with hx | ⟨hx, hlow⟩ <;> beta_reduce at hx
  swap
  · have hn : ¬ k0_pay18 m (X k) l = 1#1 := by
      show ¬ BitVec.ofBool (decide ((m l - X k l) * Ideal.ofBits .f32 0x43800000#32 < Ideal.ofBits .f32 0x43800000#32)) = 1#1
      rw [ofBool_one, decide_eq_true_iff, hm, hx, lit_256, EReal.coe_sub_bot, EReal.top_mul_coe_of_pos (by norm_num)]
      exact not_top_lt
    refine ⟨fun h => absurd h.1 hn, fun h => ?_⟩
    have h256 : (256 : ℕ) ≤ bkt a μ k := Nat.le_floor (by push_cast; linarith)
    omega
  have he : k0_pay17 m (X k) l = (((μ - a k) * 256 : ℝ) : EReal) := by
    show (m l - X k l) * Ideal.ofBits .f32 0x43800000#32 = _
    rw [hm, hx, lit_256, ← EReal.coe_sub, ← EReal.coe_mul]
  have h0 : 0 ≤ (μ - a k) * 256 := mul_nonneg (by linarith [hle k hk]) (by norm_num)
  have hmask : k0_pay18 m (X k) l = 1#1 ↔ (μ - a k) * 256 < 256 := by
    show BitVec.ofBool (decide (k0_pay17 m (X k) l < Ideal.ofBits .f32 0x43800000#32)) = 1#1 ↔ _
    rw [ofBool_one, decide_eq_true_iff, he, lit_256, EReal.coe_lt_coe_iff]
  have hpos : (k0_pay19 k0_pay2 m (X k) l).toNat = 256 * (l 0).val + (IntOp.minsi 255#32 (IntOp.maxsi 0#32 (Ideal.fptosi 32 (((μ - a k) * 256 : ℝ) : EReal)))).toNat := by
    rw [← he]
    have h := clamp_le (Ideal.fptosi 32 (k0_pay17 m (X k) l))
    show (k0_pay2 l + IntOp.minsi 255#32 (IntOp.maxsi 0#32 (Ideal.fptosi 32 (k0_pay17 m (X k) l)))).toNat = _
    rw [BitVec.toNat_add, lanes_val]
    omega
  rw [hmask, hpos, hi]
  unfold bkt
  generalize (μ - a k) * 256 = e at h0
  constructor
  · rintro ⟨h1, h2⟩
    rw [clamp_val h0 h1] at h2
    omega
  · intro h
    have h1 : e < 256 := by
      have : e < 255 + 1 := by
        have := Nat.lt_floor_add_one e
        have hb' : (⌊e⌋₊ : ℝ) ≤ 255 := by exact_mod_cast (show ⌊e⌋₊ ≤ 255 by omega)
        linarith
      linarith
    exact ⟨h1, by rw [clamp_val h0 h1, h]⟩

include hm hX hle in
theorem hC_val {b : ℕ} (hb : b < 256) : ∀ n ≤ 2048, lane 256 (hC m X n) b l
    = ((∑ k ∈ Finset.range n, if bkt a μ k = b then (1 : ℝ) else 0 : ℝ) : EReal)
  | 0, _ => by
    show Ideal.ofBits .f32 0x00000000#32 = _
    rw [lit_zero, Finset.sum_range_zero]
  | n + 1, hn => by
    have ih := hC_val hb n (by omega)
    have hl := lane_lt l
    have hi : ((ix 4096 (256 * (l 0).val + b)) 0).val = 256 * (l 0).val + b := by rw [ix_val]; omega
    have hp := place_iff l a m X μ hm hX hle (k := n) (by omega) hb _ hi
    unfold lane at ih ⊢
    rw [Finset.sum_range_succ]
    unfold hC laneStore
    simp only [hp]
    by_cases h : bkt a μ n = b
    · rw [if_pos h, if_pos h, if_pos trivial, EReal.coe_add, ← ih, ← lit_one]; rfl
    · rw [if_neg h, if_neg h, add_zero, ← ih]

include hm hX hle in
theorem hS_val {b : ℕ} (hb : b < 256) : ∀ n ≤ 2048, lane 256 (hS m X n) b l
    = ((∑ k ∈ Finset.range n, if bkt a μ k = b then a k else 0 : ℝ) : EReal)
  | 0, _ => by
    show Ideal.ofBits .f32 0x00000000#32 = _
    rw [lit_zero, Finset.sum_range_zero]
  | n + 1, hn => by
    have ih := hS_val hb n (by omega)
    have hl := lane_lt l
    have hi : ((ix 4096 (256 * (l 0).val + b)) 0).val = 256 * (l 0).val + b := by rw [ix_val]; omega
    have hp := place_iff l a m X μ hm hX hle (k := n) (by omega) hb _ hi
    have h16 : ix 16 (((ix 4096 (256 * (l 0).val + b)) 0).val / 256) = l := by
      refine (idx_eq_ix l ?_).symm
      rw [hi]; omega
    unfold lane at ih ⊢
    rw [Finset.sum_range_succ]
    unfold hS laneStore
    simp only [hp]
    by_cases h : bkt a μ n = b
    · have hx : X n l = (a n : EReal) := by
        rcases hX n (by omega) with hx | ⟨-, hlow⟩
        · exact hx
        · have h256 : (256 : ℕ) ≤ bkt a μ n := Nat.le_floor (by push_cast; linarith)
          omega
      rw [if_pos h, if_pos h, if_pos trivial, EReal.coe_add, ← ih, h16, ← hx]; rfl
    · rw [if_neg h, if_neg h, add_zero, ← ih]

/-- The buckets down to `j` hold the entries above the bound `(j + 1) / 256` below the greatest. -/
theorem bkt_lt {k : ℕ} (h : a k ≤ μ) (j : ℕ) : bkt a μ k < j + 1 ↔ μ - (j + 1) / 256 < a k := by
  unfold bkt
  rw [Nat.floor_lt (mul_nonneg (by linarith) (by norm_num))]
  push_cast
  constructor <;> intro h <;> linarith

include hle in
theorem sum_bkt (f : ℕ → ℝ) (j : ℕ) : ∑ b ∈ Finset.range (j + 1), ∑ k ∈ Finset.range 2048, (if bkt a μ k = b then f k else 0)
    = ∑ k ∈ Finset.range 2048, if μ - (j + 1) / 256 < a k then f k else 0 := by
  rw [Finset.sum_comm]
  refine Finset.sum_congr rfl fun k hk => ?_
  rw [Finset.sum_ite_eq]
  simp only [Finset.mem_range, bkt_lt a μ (hle k (Finset.mem_range.mp hk))]

end Hist

section Scan
variable (m : FVec Ideal S16 .f32) (C H : S4096.Idx → Ideal .f32) (μ : ℝ) (c h : ℕ → ℝ)

/-- The excesses over the bound at bucket `j` reach one. -/
def hits (j : ℕ) : Prop := 1 ≤ ∑ b ∈ Finset.range (j + 1), h b - (μ - (j + 1) / 256) * ∑ b ∈ Finset.range (j + 1), c b

variable (hm : m l = (μ : EReal)) (hC : ∀ b < 256, lane 256 C b l = (c b : EReal)) (hH : ∀ b < 256, lane 256 H b l = (h b : EReal))

include hm hC hH in
theorem scan_val : ∀ n ≤ 256, (scanAt m C H n).1 l = ((μ - (n + 1) / 256 : ℝ) : EReal)
    ∧ (scanAt m C H n).2.1 l = ((∑ b ∈ Finset.range n, c b : ℝ) : EReal)
    ∧ (scanAt m C H n).2.2.1 l = ((∑ b ∈ Finset.range n, h b : ℝ) : EReal)
    ∧ (((scanAt m C H n).2.2.2.2.2 l = 0#1 ∧ ∀ j < n, ¬ hits μ c h j)
      ∨ ((scanAt m C H n).2.2.2.2.2 l = 1#1 ∧ ∃ J < n, hits μ c h J ∧ (∀ j < J, ¬ hits μ c h j)
        ∧ (scanAt m C H n).2.2.2.1 l = ((∑ b ∈ Finset.range (J + 1), c b : ℝ) : EReal)
        ∧ (scanAt m C H n).2.2.2.2.1 l = ((∑ b ∈ Finset.range (J + 1), h b : ℝ) : EReal)))
  | 0, _ => by
    refine ⟨?_, ?_, ?_, .inl ⟨rfl, fun j hj => absurd hj (Nat.not_lt_zero _)⟩⟩
    · show m l - Ideal.ofBits .f32 0x3B800000#32 = _
      rw [hm, lit_step, ← EReal.coe_sub]
      norm_num
    · show Ideal.ofBits .f32 0x00000000#32 = _
      rw [lit_zero, Finset.sum_range_zero]
    · show Ideal.ofBits .f32 0x00000000#32 = _
      rw [lit_zero, Finset.sum_range_zero]
  | n + 1, hn => by
    obtain ⟨h1, h2, h3, h4⟩ := scan_val n (by omega)
    have hd : scanAt m C H (n + 1) = scanStep C H n (scanAt m C H n) := rfl
    rw [hd]
    generalize scanAt m C H n = p at h1 h2 h3 h4
    have hK : p.2.1 l + lane 256 C n l = ((∑ b ∈ Finset.range (n + 1), c b : ℝ) : EReal) := by
      rw [h2, hC n (by omega), Finset.sum_range_succ, EReal.coe_add]
    have hS : p.2.2.1 l + lane 256 H n l = ((∑ b ∈ Finset.range (n + 1), h b : ℝ) : EReal) := by
      rw [h3, hH n (by omega), Finset.sum_range_succ, EReal.coe_add]
    have hhit : (BitVec.ofBool (decide (Ideal.ofBits .f32 0x3F800000#32 ≤ (p.2.2.1 l + lane 256 H n l) - p.1 l * (p.2.1 l + lane 256 C n l)))) = 1#1
        ↔ hits μ c h n := by
      rw [ofBool_one, decide_eq_true_iff, hK, hS, h1, lit_one, ← EReal.coe_mul, ← EReal.coe_sub, EReal.coe_le_coe_iff]
      rfl
    have e4 : (scanStep C H n p).2.2.2.1 l = if (BitVec.ofBool (decide (Ideal.ofBits .f32 0x3F800000#32 ≤ (p.2.2.1 l + lane 256 H n l) - p.1 l * (p.2.1 l + lane 256 C n l)))) &&& (p.2.2.2.2.2 l ^^^ 1#1) = 1#1 then p.2.1 l + lane 256 C n l else p.2.2.2.1 l := rfl
    have e5 : (scanStep C H n p).2.2.2.2.1 l = if (BitVec.ofBool (decide (Ideal.ofBits .f32 0x3F800000#32 ≤ (p.2.2.1 l + lane 256 H n l) - p.1 l * (p.2.1 l + lane 256 C n l)))) &&& (p.2.2.2.2.2 l ^^^ 1#1) = 1#1 then p.2.2.1 l + lane 256 H n l else p.2.2.2.2.1 l := rfl
    have e6 : (scanStep C H n p).2.2.2.2.2 l = p.2.2.2.2.2 l ||| ((BitVec.ofBool (decide (Ideal.ofBits .f32 0x3F800000#32 ≤ (p.2.2.1 l + lane 256 H n l) - p.1 l * (p.2.1 l + lane 256 C n l)))) &&& (p.2.2.2.2.2 l ^^^ 1#1)) := rfl
    generalize (BitVec.ofBool (decide (Ideal.ofBits .f32 0x3F800000#32 ≤ (p.2.2.1 l + lane 256 H n l) - p.1 l * (p.2.1 l + lane 256 C n l)))) = w at hhit e4 e5 e6
    refine ⟨?_, hK, hS, ?_⟩
    · show p.1 l - Ideal.ofBits .f32 0x3B800000#32 = _
      rw [h1, lit_step, ← EReal.coe_sub]
      congr 1
      push_cast
      ring
    rw [e4, e5, e6, hK, hS]
    rcases h4 with ⟨hf, hno⟩ | ⟨hf, J, hJ, hr⟩
    · rw [hf]
      by_cases hw : w = 1#1
      · refine .inr ⟨by rw [hw]; decide, n, by omega, hhit.mp hw, hno, ?_, ?_⟩ <;> rw [hw, if_pos (by decide)]
      · have hw0 : w = 0#1 := by
          rcases BitVec.eq_zero_or_eq_one w with h | h
          · exact h
          · exact absurd h hw
        refine .inl ⟨by rw [hw0]; decide, fun j hj => ?_⟩
        rcases Nat.lt_succ_iff_lt_or_eq.mp hj with h | rfl
        · exact hno j h
        · exact fun h => hw (hhit.mpr h)
    · rw [hf]
      have hz : w &&& (1#1 ^^^ 1#1) = 0#1 := by
        rcases BitVec.eq_zero_or_eq_one w with h | h <;> rw [h] <;> decide
      rw [hz]
      refine .inr ⟨by decide, J, by omega, hr.1, hr.2.1, ?_, ?_⟩ <;> rw [if_neg (by decide)]
      · exact hr.2.2.1
      · exact hr.2.2.2

end Scan

section Next
variable (t : FVec Ideal S16 .f32) (X : ℕ → FVec Ideal S16 .f32) (s : ℝ)
  (ht : t l = (s : EReal)) (b : ℝ) (hX : Near a b fun k => X k l) (hb : b ≤ s)

include ht hX hb in
theorem kAt_val (u : ℕ) (hu : u < 8) : ∀ n ≤ 256, kAt t X u n l = ((∑ i ∈ Finset.range n, if s < a (8 * i + u) then (1 : ℝ) else 0 : ℝ) : EReal)
  | 0, _ => by
    show Ideal.ofBits .f32 0x00000000#32 = _
    rw [lit_zero, Finset.sum_range_zero]
  | n + 1, hn => by
    have ih := kAt_val u hu n (by omega)
    have e : kAt t X u (n + 1) l = kAt t X u n l + (if BitVec.ofBool (decide (t l < X (8 * n + u) l)) = 1#1 then Ideal.ofBits .f32 0x3F800000#32 else Ideal.ofBits .f32 0x00000000#32) := rfl
    rw [e, ih, Finset.sum_range_succ, EReal.coe_add]
    congr 1
    rcases hX (8 * n + u) (by omega) with hx | ⟨hx, hlow⟩ <;> beta_reduce at hx
    · rw [ht, hx, lit_one, lit_zero]
      simp only [ofBool_one, decide_eq_true_iff, EReal.coe_lt_coe_iff]
      split <;> rfl
    · rw [ht, hx, if_neg (not_lt.mpr (hlow.trans hb)), if_neg (by rw [ofBool_one, decide_eq_true_iff]; exact not_lt_bot), lit_zero]

include ht hX hb in
theorem sAt_val (u : ℕ) (hu : u < 8) : ∀ n ≤ 256, sAt t X u n l = ((∑ i ∈ Finset.range n, if s < a (8 * i + u) then a (8 * i + u) else 0 : ℝ) : EReal)
  | 0, _ => by
    show Ideal.ofBits .f32 0x00000000#32 = _
    rw [lit_zero, Finset.sum_range_zero]
  | n + 1, hn => by
    have ih := sAt_val u hu n (by omega)
    have e : sAt t X u (n + 1) l = sAt t X u n l + (if BitVec.ofBool (decide (t l < X (8 * n + u) l)) = 1#1 then X (8 * n + u) l else Ideal.ofBits .f32 0x00000000#32) := rfl
    rw [e, ih, Finset.sum_range_succ, EReal.coe_add]
    congr 1
    rcases hX (8 * n + u) (by omega) with hx | ⟨hx, hlow⟩ <;> beta_reduce at hx
    · rw [ht, hx, lit_zero]
      simp only [ofBool_one, decide_eq_true_iff, EReal.coe_lt_coe_iff]
      split <;> rfl
    · rw [ht, hx, if_neg (not_lt.mpr (hlow.trans hb)), if_neg (by rw [ofBool_one, decide_eq_true_iff]; exact not_lt_bot), lit_zero]

include ht hX hb in
theorem next_val (hc : cnt (fam a) s ≠ 0) : nextOf t X l = ((nxt (fam a) s : ℝ) : EReal) := by
  have e : nextOf t X l = Ideal.div
      ((sAt t X 0 256 l + sAt t X 1 256 l + sAt t X 2 256 l + sAt t X 3 256 l + sAt t X 4 256 l + sAt t X 5 256 l + sAt t X 6 256 l + sAt t X 7 256 l) - Ideal.ofBits .f32 0x3F800000#32)
      (kAt t X 0 256 l + kAt t X 1 256 l + kAt t X 2 256 l + kAt t X 3 256 l + kAt t X 4 256 l + kAt t X 5 256 l + kAt t X 6 256 l + kAt t X 7 256 l) := rfl
  have hK := fun u hu => kAt_val l a t X s ht b hX hb u hu 256 le_rfl
  have hS := fun u hu => sAt_val l a t X s ht b hX hb u hu 256 le_rfl
  rw [e, hK 0 (by omega), hK 1 (by omega), hK 2 (by omega), hK 3 (by omega), hK 4 (by omega), hK 5 (by omega), hK 6 (by omega), hK 7 (by omega),
    hS 0 (by omega), hS 1 (by omega), hS 2 (by omega), hS 3 (by omega), hS 4 (by omega), hS 5 (by omega), hS 6 (by omega), hS 7 (by omega), lit_one]
  simp only [← EReal.coe_add, ← EReal.coe_sub]
  rw [← sum_eight (fun k => if s < a k then a k else 0), ← sum_eight (fun k => if s < a k then (1 : ℝ) else 0)]
  have h1 : ∑ k ∈ Finset.range (8 * 256), (if s < a k then (1 : ℝ) else 0) = cnt (fam a) s := (sum_fam a fun y => if s < y then 1 else 0).symm
  have h2 : ∑ k ∈ Finset.range (8 * 256), (if s < a k then a k else 0) = tot (fam a) s := (sum_fam a fun y => if s < y then y else 0).symm
  rw [h1, h2, div_real hc]
  rfl

end Next

section Whole
variable (A : S32768.Idx → Ideal .f32) (m : ℝ) (hA : Near a (m - 2) fun k => lane 2048 A k l) (hle : ∀ k < 2048, a k ≤ m) (hat : ∃ k < 2048, a k = m)

include hA hle hat in
/-- What the two later steps end at, when they settle. -/
theorem tau_val {τ : ℝ} (hτ : exc (fam a) τ = 1)
    (hn : ∀ i, fam a i ≤ nxt (fam a) (nxt (fam a) (τ - 1 / 256)) ∨ τ ≤ fam a i) : tauOf A l = (τ : EReal) := by
  obtain ⟨k₀, hk₀, hk⟩ := hat
  have hm : mxOf A l = (m : EReal) := by
    obtain ⟨hup, k, hk', he⟩ := mx_sup l A (fun k => lane 2048 A k l) (fun _ _ => rfl)
    refine le_antisymm ?_ ?_
    · rw [he]
      rcases hA k hk' with h | ⟨h, -⟩
      · exact h.le.trans (EReal.coe_le_coe_iff.mpr (hle k hk'))
      · exact h.le.trans bot_le
    · rcases hA k₀ hk₀ with h | ⟨-, h⟩
      · have := hup k₀ hk₀
        rw [hk] at h
        exact h.ge.trans this
      · linarith
  have hr := root_range hτ (m := m) (fun i => hle i.val i.isLt) ⟨k₀, hk₀⟩ hk
  have hX : Near a (m - 2) fun k => row (tr A) k l := fun k hk => by
    show row (tr A) k l = _ ∨ row (tr A) k l = _ ∧ _
    rw [row_tr A hk]; exact hA k hk
  have hsc := scan_val l (mxOf A) (hC (mxOf A) (row (tr A)) 2048) (hS (mxOf A) (row (tr A)) 2048) m _ _ hm
    (fun b hb => hC_val l a (mxOf A) (row (tr A)) m hm hX hle hb 2048 le_rfl)
    (fun b hb => hS_val l a (mxOf A) (row (tr A)) m hm hX hle hb 2048 le_rfl) 256 le_rfl
  have hcnt : ∀ j : ℕ, ∑ b ∈ Finset.range (j + 1), ∑ k ∈ Finset.range 2048, (if bkt a m k = b then (1 : ℝ) else 0) = cnt (fam a) (m - (j + 1) / 256) := fun j =>
    (sum_bkt a m hle (fun _ => 1) j).trans (sum_fam a fun y => if m - (j + 1) / 256 < y then 1 else 0).symm
  have htot : ∀ j : ℕ, ∑ b ∈ Finset.range (j + 1), ∑ k ∈ Finset.range 2048, (if bkt a m k = b then a k else 0) = tot (fam a) (m - (j + 1) / 256) := fun j =>
    (sum_bkt a m hle a j).trans (sum_fam a fun y => if m - (j + 1) / 256 < y then y else 0).symm
  have hhit : ∀ j : ℕ, hits m (fun b => ∑ k ∈ Finset.range 2048, (if bkt a m k = b then (1 : ℝ) else 0)) (fun b => ∑ k ∈ Finset.range 2048, (if bkt a m k = b then a k else 0)) j
      ↔ m - (j + 1) / 256 ≤ τ := by
    intro j
    rw [← one_le_exc_iff hτ, exc_eq, ← hcnt j, ← htot j]
    rfl
  obtain ⟨-, -, -, ⟨-, hno⟩ | ⟨-, J, hJ, hit, hbef, hK, hS⟩⟩ := hsc
  · refine absurd ((hhit 255).mpr ?_) (hno 255 (by omega))
    norm_num
    linarith [hr.1]
  have hs := (hhit J).mp hit
  have hd : τ - 1 / 256 ≤ m - (J + 1) / 256 := by
    rcases Nat.eq_zero_or_pos J with rfl | hp
    · push_cast; linarith [hr.2]
    · have := mt (hhit (J - 1)).mpr (hbef (J - 1) (by omega))
      rw [Nat.cast_sub hp, not_le] at this
      push_cast at this
      linarith
  rw [hcnt J] at hK
  rw [htot J] at hS
  have hc := (cnt_pos_of_le hτ hs).ne'
  have h1 : t1Of A l = ((nxt (fam a) (m - (J + 1) / 256) : ℝ) : EReal) := by
    have e : t1Of A l = Ideal.div ((scOf A).2.2.2.2.1 l - Ideal.ofBits .f32 0x3F800000#32) ((scOf A).2.2.2.1 l) := rfl
    rw [e]
    unfold scOf
    rw [hK, hS, lit_one, ← EReal.coe_sub, div_real hc]
    rfl
  have b1 := nxt_le hτ hs
  have h2 := next_val l a (t1Of A) (row (tr A)) _ h1 (m - 2) hX (by linarith [hr.1, le_nxt hτ hs]) (cnt_pos_of_le hτ b1).ne'
  have b2 := nxt_le hτ b1
  have h3 := next_val l a _ (row (tr A)) _ h2 (m - 2) hX (by linarith [hr.1, le_nxt hτ hs, le_nxt hτ b1]) (cnt_pos_of_le hτ b2).ne'
  rw [three_steps hτ hd hs hn] at h3
  exact h3

include hA hle hat in
theorem gOut_val {τ : ℝ} (hτ : exc (fam a) τ = 1)
    (hn : ∀ i, fam a i ≤ nxt (fam a) (nxt (fam a) (τ - 1 / 256)) ∨ τ ≤ fam a i) {j : ℕ} (hj : j < 2048) :
    gOut A (ix 32768 (2048 * (l 0).val + j)) = ((max (a j - τ) 0 : ℝ) : EReal) := by
  have hl := lane_lt l
  have hi : ((ix 32768 (2048 * (l 0).val + j)) 0).val = 2048 * (l 0).val + j := by rw [ix_val]; omega
  have h1 : ((ix 32768 (2048 * (l 0).val + j)) 0).val % 2048 = j := by rw [hi]; omega
  have h2 : ix 16 (((ix 32768 (2048 * (l 0).val + j)) 0).val / 2048) = l := by
    refine (idx_eq_ix l ?_).symm
    rw [hi]; omega
  unfold gOut
  rw [h1, h2]
  have e : outCol (tauOf A) (row (tr A)) j l = max (row (tr A) j l - tauOf A l) (Ideal.ofBits .f32 0x00000000#32) := rfl
  rw [e, row_tr A hj, tau_val l a A m hA hle hat hτ hn, lit_zero]
  rcases hA j hj with h | ⟨h, hlow⟩ <;> beta_reduce at h
  · rw [h, ← EReal.coe_sub, ← coe_max]
  · obtain ⟨k₀, hk₀, hk⟩ := hat
    have hr := root_range hτ (m := m) (fun i => hle i.val i.isLt) ⟨k₀, hk₀⟩ hk
    rw [h, EReal.bot_sub, max_eq_right bot_le, max_eq_right (by linarith [hr.1])]

end Whole

end Cert.Proof

end
-- ==== Proof.RefVal.lean ====
/-
  The reference's threshold: in each row whose greatest entry is a real, it is where the excesses of the row's distances
  from that entry add up to one. An entry may be −∞; the family of reals that stands for the row has some number there,
  two or more below the greatest entry and no greater than any other. A row whose greatest entry is infinite comes to
  nothing.
-/
module

public import proofs.«01_k».proof.Proof.RefOps
public import proofs.«01_k».proof.Proof.LaneVal
public import proofs.«01_k».proof.Proof.Gen.ReferenceIdeal.Run
public import proofs.«01_k».proof.Proof.Gen.Pre_settles

@[expose] public section

set_option maxRecDepth 10000

noncomputable section

namespace Cert.Proof

open Idealize.ShloMosaic
open Cert.Pre_settles Cert.Pre_settles.Gen

section At
variable {s : Shape} (x y : FVec Ideal s .f32) (i : s.Idx)

theorem add_at : (addf x y) i = (x i : EReal) + (y i : EReal) := rfl
theorem sub_at : (subf x y) i = (x i : EReal) - (y i : EReal) := rfl
theorem mul_at : (mulf x y) i = (x i : EReal) * (y i : EReal) := rfl
theorem div_at : (Host.divf x y) i = Ideal.div (x i) (y i) := rfl
theorem max_at : (maximumf x y) i = max (x i : EReal) (y i : EReal) := rfl
theorem gt_at : (cmpf .ogt x y) i = FloatOps.cmpf (F := Ideal) .ogt (x i) (y i) := rfl
theorem sel_at (c : IVec s 1) : (select c x y) i = Scalar.select (c i) (x i) (y i) := rfl
theorem num_at (w : BitVec 32) (h : S_.BroadcastsInDim s ![]) : broadcastInDim s ![] h (constant S_ .f32 w : FVec Ideal S_ .f32) i = Ideal.ofBits .f32 w := rfl
theorem bit_at (c : IVec s 1) : (uitofp .f32 c : FVec Ideal s .f32) i = (((c i).toNat : ℝ) : EReal) := rfl
theorem int_at (c : IVec s 32) : (sitofp .f32 c : FVec Ideal s .f32) i = (((c i).toInt : ℝ) : EReal) := rfl

end At

/-- The array less each row's greatest entry. -/
def less (A : FVec Ideal S8192x2048 .f32) : FVec Ideal S8192x2048 .f32 :=
  subf A (broadcastInDim S8192x2048 ![0, 1] bcast_S8192x1_S8192x2048_0_1 (broadcastInDim S8192x1 ![0] bcast_S8192_S8192x1_0
    (Host.reduce FloatOps.maximumf A (constant S_ .f32 0xFF800000#32) reducesTo_S8192x2048_S8192_d1 h_S_)))

/-- Its rows in order, greatest first. -/
def down (A : FVec Ideal S8192x2048 .f32) : FVec Ideal S8192x2048 .f32 :=
  Host.reverse [1] (Host.sort S8192x2048 1 comparator_f32_d1 (less A))

/-- The column numbers from one. -/
def places : FVec Ideal S8192x2048 .f32 :=
  broadcastInDim S8192x2048 ![0, 1] bcast_S1x2048_S8192x2048_0_1 (broadcastInDim S1x2048 ![1] bcast_S2048_S1x2048_1
    (addf (broadcastInDim S2048 ![] bcast_S_S2048 (constant S_ .f32 0x3F800000#32)) (sitofp .f32 (iotaInDim S2048 32 0))))

/-- One at each entry of the support, zero elsewhere. -/
def marks (A : FVec Ideal S8192x2048 .f32) : FVec Ideal S8192x2048 .f32 :=
  uitofp .f32 (cmpf .ogt (addf (broadcastInDim S8192x2048 ![] bcast_S_S8192x2048 (constant S_ .f32 0x3F800000#32)) (mulf places (down A)))
    (Host.reduceWindowAdd ![1, 2048] ![1, 1] ![0, 2047] ![0, 0] (down A) (broadcastInDim S_ ![] bcast_S_S_ (constant S_ .f32 0x00000000#32))
      reduceWindows_S8192x2048_S8192x2048_w1s1p0_0_w2048s1p2047_0 h_S_))

/-- The threshold of each row. -/
def cut (A : FVec Ideal S8192x2048 .f32) : FVec Ideal S8192x1 .f32 :=
  Host.divf (subf (broadcastInDim S8192x1 ![0] bcast_S8192_S8192x1_0
      (Host.reduceAdd (mulf (marks A) (down A)) (constant S_ .f32 0x00000000#32) reducesTo_S8192x2048_S8192_d1 h_S_))
      (broadcastInDim S8192x1 ![] bcast_S_S8192x1 (constant S_ .f32 0x3F800000#32)))
    (broadcastInDim S8192x1 ![0] bcast_S8192_S8192x1_0
      (Host.reduce FloatOps.maximumf (mulf (marks A) places) (constant S_ .f32 0xFF800000#32) reducesTo_S8192x2048_S8192_d1 h_S_))

/-- One Newton step of a threshold. -/
def step (X : FVec Ideal S8192x2048 .f32) (t : FVec Ideal S8192x1 .f32) : FVec Ideal S8192x1 .f32 :=
  Host.divf (subf (broadcastInDim S8192x1 ![0] bcast_S8192_S8192x1_0
      (Host.reduceAdd (fn_where_1 (cmpf .ogt X (broadcastInDim S8192x2048 ![0, 1] bcast_S8192x1_S8192x2048_0_1 t)) X (constant S_ .f32 0x00000000#32))
        (constant S_ .f32 0x00000000#32) reducesTo_S8192x2048_S8192_d1 h_S_))
      (broadcastInDim S8192x1 ![] bcast_S_S8192x1 (constant S_ .f32 0x3F800000#32)))
    (broadcastInDim S8192x1 ![0] bcast_S8192_S8192x1_0
      (Host.reduceAdd (fn_where (cmpf .ogt X (broadcastInDim S8192x2048 ![0, 1] bcast_S8192x1_S8192x2048_0_1 t)) (constant S_ .f32 0x3F800000#32) (constant S_ .f32 0x00000000#32))
        (constant S_ .f32 0x00000000#32) reducesTo_S8192x2048_S8192_d1 h_S_))

/-- What the reference returns of its argument. -/
def refOut (A : FVec Ideal S8192x2048 .f32) : FVec Ideal S8192x2048 .f32 :=
  maximumf (broadcastInDim S8192x2048 ![] bcast_S_S8192x2048 (constant S_ .f32 0x00000000#32))
    (subf (less A) (broadcastInDim S8192x2048 ![0, 1] bcast_S8192x1_S8192x2048_0_1 (cut A)))

theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v30 m c = refOut (m ((c.tc : Thread Cert.ReferenceIdeal.nD Cert.ReferenceIdeal.τ).loc Cert.ReferenceIdeal.main_arg0)) := rfl

theorem pre_eq (A : FVec Ideal S8192x2048 .f32) : Cert.Pre_settles.fn A =
    ori (cmpf .ole (less A) (broadcastInDim S8192x2048 ![0, 1] bcast_S8192x1_S8192x2048_0_1
        (step (less A) (step (less A) (subf (cut A) (broadcastInDim S8192x1 ![] bcast_S_S8192x1 (constant S_ .f32 0x3B800000#32)))))))
      (cmpf .oge (less A) (broadcastInDim S8192x2048 ![0, 1] bcast_S8192x1_S8192x2048_0_1 (cut A))) := rfl

theorem sel_of (p : Prop) [Decidable p] {α : Type} (a b : α) : Scalar.select (BitVec.ofBool (decide p)) a b = if p then a else b := by
  unfold Scalar.select
  by_cases h : p <;> simp [h]

theorem gt_def (u v : EReal) : FloatOps.cmpf (F := Ideal) (φ := .f32) .ogt u v = BitVec.ofBool (decide (v < u)) := rfl

/-- The order the rows are sorted by. -/
theorem order_val (u v : EReal) : comparator_f32_d1 (F := Ideal) u v = BitVec.ofBool (decide (u < v)) := by
  have hz : FloatOps.ofBits (F := Ideal) .f32 0x00000000#32 = ((0 : ℝ) : EReal) := lit_zero
  have he : ∀ w : EReal, Scalar.select (FloatOps.cmpf (F := Ideal) (φ := .f32) .une w w) (FloatOps.ofBits (F := Ideal) .f32 0x7FC00000#32)
      (Scalar.select (FloatOps.cmpf (F := Ideal) (φ := .f32) .oeq w (FloatOps.ofBits (F := Ideal) .f32 0x00000000#32))
        (FloatOps.ofBits (F := Ideal) .f32 0x00000000#32) w) = w := by
    intro w
    rw [hz]
    show Scalar.select (BitVec.ofBool (decide (w ≠ w))) _ (Scalar.select (BitVec.ofBool (decide (w = ((0 : ℝ) : EReal)))) ((0 : ℝ) : EReal) w) = _
    rw [sel_of, sel_of, if_neg (by simp)]
    split
    · next h => exact h.symm
    · rfl
  unfold comparator_f32_d1
  dsimp only
  rw [he, he]
  rfl

theorem places_val (r : Fin 8192) (i : Fin 2048) : places (ix2 r i) = ((i.val + 1 : ℝ) : EReal) := by
  unfold places
  rw [bcRow (by norm_num), add_at, int_at, num_at, lit_one, ← EReal.coe_add]
  have hi : (iotaInDim S2048 32 0) (ix1 i) = BitVec.ofNat 32 i.val := rfl
  rw [hi]
  have : (BitVec.ofNat 32 i.val).toInt = (i.val : ℤ) := by
    have := i.isLt
    rw [BitVec.toInt_eq_toNat_of_lt (by rw [BitVec.toNat_ofNat]; omega), BitVec.toNat_ofNat]
    omega
  rw [this, add_comm]
  norm_cast

/-- The row `V` is the family of reals `x`, but for entries that are −∞ where the family is `b` or less. -/
def NearTo (b : ℝ) (x : Fin 2048 → ℝ) (V : Fin 2048 → EReal) : Prop := ∀ k, V k = (x k : EReal) ∨ (V k = ⊥ ∧ x k ≤ b)

theorem coe_sum {n : ℕ} (f : Fin n → ℝ) : ∑ i, (f i : EReal) = ((∑ i, f i : ℝ) : EReal) :=
  (map_sum (⟨⟨((↑) : ℝ → EReal), EReal.coe_zero⟩, EReal.coe_add⟩ : ℝ →+ EReal) f Finset.univ).symm

/-- In a falling row that starts at zero, an entry of the support is more than −1. -/
theorem support_gt (z : Fin 2048 → ℝ) (h0 : z 0 = 0) (hd : ∀ i j, i ≤ j → z j ≤ z i) (i : Fin 2048)
    (h : (∑ j, if j ≤ i then z j else 0) < 1 + (i.val + 1) * z i) : -1 < z i := by
  have h1 : z 0 - z i ≤ ∑ j, (if j ≤ i then z j - z i else 0) := by
    have := Finset.single_le_sum (f := fun j => if j ≤ i then z j - z i else 0) (s := Finset.univ) (fun j _ => by
      show 0 ≤ if j ≤ i then z j - z i else 0
      split
      · next hj => linarith [hd j i hj]
      · exact le_rfl) (Finset.mem_univ 0)
    beta_reduce at this
    rwa [if_pos (Fin.zero_le i)] at this
  have h2 : ∑ j, (if j ≤ i then z j - z i else 0) = (∑ j, if j ≤ i then z j else 0) - (i.val + 1) * z i := by
    have h3 : ∑ j, (if j ≤ i then z i else 0) = (i.val + 1) * z i := by
      rw [← Finset.sum_filter, Finset.sum_const, nsmul_eq_mul]
      have : (Finset.univ.filter fun j : Fin 2048 => j ≤ i) = Finset.Iic i := by ext j; simp
      rw [this, Fin.card_Iic]
      push_cast
      ring
    rw [← h3, ← Finset.sum_sub_distrib]
    refine Finset.sum_congr rfl fun j _ => ?_
    split <;> simp
  linarith

section Row
variable (A : FVec Ideal S8192x2048 .f32) (r : Fin 8192)

theorem less_eq (M : EReal) (hm : ∀ k, (A (ix2 r k) : EReal) ≤ M) (he : ∃ k, (A (ix2 r k) : EReal) = M) (k : Fin 2048) :
    less A (ix2 r k) = (A (ix2 r k) : EReal) - M := by
  unfold less
  rw [sub_at, bcWide (by norm_num), bcCol (by norm_num), rowTop A (constant S_ .f32 0xFF800000#32) (fun _ => lit_neg) reducesTo_S8192x2048_S8192_d1 h_S_ r M hm he]

/-- A row whose greatest entry is infinite. -/
theorem refOut_edge (M : EReal) (hm : ∀ k, (A (ix2 r k) : EReal) ≤ M) (he : ∃ k, (A (ix2 r k) : EReal) = M) (hM : M = ⊥ ∨ M = ⊤) (k : Fin 2048) :
    refOut A (ix2 r k) = ((0 : ℝ) : EReal) := by
  have hl : less A (ix2 r k) = (⊥ : EReal) := by
    rw [less_eq A r M hm he]
    rcases hM with rfl | rfl
    · rw [le_bot_iff.mp (hm k), EReal.bot_sub]
    · rw [sub_eq_add_neg, EReal.neg_top, EReal.add_bot]
  unfold refOut
  rw [max_at, sub_at, num_at, lit_zero, hl, EReal.bot_sub, max_eq_left bot_le]

variable (a : Fin 2048 → ℝ) (m : ℝ) (hA : NearTo (m - 2) a fun k => A (ix2 r k))
  (hmono : ∀ k k', (A (ix2 r k) : EReal) ≤ A (ix2 r k') → a k ≤ a k') (hm : ∀ k, a k ≤ m) (he : ∃ k, a k = m)

include hA hm he in
theorem less_val : NearTo (-2) (fun k => a k - m) fun k => less A (ix2 r k) := by
  have h := less_eq A r m (fun k => by
      rcases hA k with h | ⟨h, -⟩ <;> beta_reduce at h <;> rw [h]
      · exact EReal.coe_le_coe_iff.mpr (hm k)
      · exact bot_le) (by
      obtain ⟨k, hk⟩ := he
      refine ⟨k, ?_⟩
      rcases hA k with h | ⟨-, h⟩
      · exact h.trans (by rw [hk])
      · linarith)
  intro k
  beta_reduce
  rw [h]
  rcases hA k with h | ⟨h, hlow⟩ <;> beta_reduce at h
  · left; rw [h, EReal.coe_sub]
  · right; rw [h]; exact ⟨EReal.bot_sub _, by linarith⟩

include hA hm he hmono

theorem less_mono (k k' : Fin 2048) (h : (less A (ix2 r k) : EReal) ≤ less A (ix2 r k')) : a k - m ≤ a k' - m := by
  rcases hA k with h1 | ⟨h1, -⟩ <;> beta_reduce at h1
  swap
  · have := hmono k k' (by rw [h1]; exact bot_le)
    linarith
  have hv := less_eq A r m (fun k => by
      rcases hA k with h | ⟨h, -⟩ <;> beta_reduce at h <;> rw [h]
      · exact EReal.coe_le_coe_iff.mpr (hm k)
      · exact bot_le) (by
      obtain ⟨k, hk⟩ := he
      refine ⟨k, ?_⟩
      rcases hA k with h | ⟨-, h⟩
      · exact h.trans (by rw [hk])
      · linarith)
  rw [hv, hv, h1, ← EReal.coe_sub] at h
  rcases hA k' with h2 | ⟨h2, -⟩ <;> beta_reduce at h2
  · rw [h2, ← EReal.coe_sub, EReal.coe_le_coe_iff] at h
    exact h
  · rw [h2, EReal.bot_sub, le_bot_iff] at h
    exact absurd h (EReal.coe_ne_bot _)

theorem cut_val : ∃ τ : ℝ, exc (fun k => a k - m) τ = 1 ∧ cut A (ix2 r 0) = (τ : EReal) := by
  obtain ⟨f, hf, hd', hs⟩ := rowSorted comparator_f32_d1 order_val (less A) r (fun k => less A (ix2 r k)) (fun _ => rfl)
  let z : Fin 2048 → ℝ := fun c => a (f c) - m
  have hd : ∀ i j, i ≤ j → z j ≤ z i := fun i j hij => less_mono A r a m hA hmono hm he _ _ (hd' i j hij)
  have hz : ∀ c, (down A (ix2 r c) : EReal) = (z c : EReal) ∨ ((down A (ix2 r c) : EReal) = ⊥ ∧ z c ≤ -2) := by
    intro c
    have h := hs c
    have h' : (down A (ix2 r c) : EReal) = less A (ix2 r (f c)) := h
    rw [h']
    exact less_val A r a m hA hm he (f c)
  have hle : ∀ i j, i ≤ j → (down A (ix2 r j) : EReal) ≤ down A (ix2 r i) := by
    intro i j hij
    have h1 : (down A (ix2 r i) : EReal) = less A (ix2 r (f i)) := hs i
    have h2 : (down A (ix2 r j) : EReal) = less A (ix2 r (f j)) := hs j
    rw [h1, h2]
    exact hd' i j hij
  have hz0 : z 0 = 0 := by
    obtain ⟨k, hk⟩ := he
    obtain ⟨c, rfl⟩ := hf.2 k
    have h1 := hd 0 c (Fin.zero_le c)
    have h2 := hm (f 0)
    simp only [z] at h1 ⊢
    linarith
  obtain ⟨k, hk1, hk2, hk, hτ⟩ := sorted_root (by norm_num) z hd
  have hlow : ∀ c : Fin 2048, c.val < k → -1 < z c := fun c hc => support_gt z hz0 hd c ((hk c).mpr hc)
  have hmk : ∀ c : Fin 2048, marks A (ix2 r c) = ((if c.val < k then 1 else 0 : ℝ) : EReal) := by
    intro c
    have h1 : (addf (broadcastInDim S8192x2048 ![] bcast_S_S8192x2048 (constant S_ .f32 0x3F800000#32)) (mulf places (down A)) : FVec Ideal S8192x2048 .f32) (ix2 r c)
        = ((1 : ℝ) : EReal) + ((c.val + 1 : ℝ) : EReal) * down A (ix2 r c) := by
      rw [add_at, mul_at, num_at, lit_one, places_val]
    have h2 := rowPrefix (M := 2047) (by norm_num) (down A) (broadcastInDim S_ ![] bcast_S_S_ (constant S_ .f32 0x00000000#32)) (fun _ => lit_zero)
      reduceWindows_S8192x2048_S8192x2048_w1s1p0_0_w2048s1p2047_0 h_S_ r (fun c => down A (ix2 r c)) (fun _ => rfl) c
    unfold marks
    rw [bit_at, gt_at, h1, h2, gt_def]
    rcases hz c with hc | ⟨hc, hc2⟩
    · have h3 : (∑ j, if j ≤ c then (down A (ix2 r j) : EReal) else 0) = ((∑ j, if j ≤ c then z j else 0 : ℝ) : EReal) := by
        rw [← coe_sum]
        refine Finset.sum_congr rfl fun j _ => ?_
        split
        · next hj =>
          rcases hz j with h | ⟨h, -⟩
          · exact h
          · have := hle j c hj
            rw [h, hc, le_bot_iff] at this
            exact absurd this (EReal.coe_ne_bot _)
        · rfl
      rw [h3, hc, ← EReal.coe_mul, ← EReal.coe_add]
      simp only [EReal.coe_lt_coe_iff]
      by_cases h : c.val < k
      · rw [if_pos h, decide_eq_true ((hk c).mpr h)]; simp
      · rw [if_neg h, decide_eq_false (mt (hk c).mp h)]; simp
    · have hn : ¬ c.val < k := fun h => by linarith [hlow c h]
      rw [hc, EReal.coe_mul_bot_of_pos (by positivity), EReal.add_bot, if_neg hn, decide_eq_false not_lt_bot]; simp
  refine ⟨((∑ i, if i.val < k then z i else 0) - 1) / k, ?_, ?_⟩
  · exact (exc_perm (fun k => a k - m) z f hf (fun _ => rfl) _).symm.trans hτ
  have hsum := rowSum (mulf (marks A) (down A)) (constant S_ .f32 0x00000000#32) (fun _ => lit_zero) reducesTo_S8192x2048_S8192_d1 h_S_ r
    (fun i => if i.val < k then z i else 0) (fun i => by
      rw [mul_at, hmk]
      rcases hz i with hi | ⟨hi, hi2⟩
      · rw [hi, ← EReal.coe_mul]; congr 1; split <;> simp
      · have hn : ¬ i.val < k := fun h => by linarith [hlow i h]
        rw [if_neg hn, if_neg hn, EReal.coe_zero, zero_mul])
  have hmax := rowMax (mulf (marks A) places) (constant S_ .f32 0xFF800000#32) (fun _ => lit_neg) reducesTo_S8192x2048_S8192_d1 h_S_ r
    (fun i => if i.val < k then (i.val + 1 : ℝ) else 0) (fun i => by
      rw [mul_at, hmk, places_val, ← EReal.coe_mul]; congr 1; split <;> simp) k
    (fun i => by
      show (if i.val < k then (i.val + 1 : ℝ) else 0) ≤ (k : ℝ)
      split
      · next h => exact_mod_cast h
      · exact Nat.cast_nonneg k)
    ⟨⟨k - 1, by omega⟩, by
      show (if k - 1 < k then (((k - 1 : ℕ) : ℝ) + 1) else 0) = (k : ℝ)
      rw [if_pos (by omega), Nat.cast_sub hk1]; simp⟩
  unfold cut
  rw [div_at, sub_at, bcCol (by norm_num), bcCol (by norm_num), num_at, lit_one, hsum, hmax, ← EReal.coe_sub, div_real (by exact_mod_cast (by omega : k ≠ 0))]

theorem refOut_val : ∃ τ : ℝ, exc (fun k => a k - m) τ = 1 ∧ -1 ≤ τ ∧ cut A (ix2 r 0) = (τ : EReal) ∧
    ∀ k, refOut A (ix2 r k) = ((max (a k - m - τ) 0 : ℝ) : EReal) := by
  obtain ⟨τ, h1, h2⟩ := cut_val A r a m hA hmono hm he
  obtain ⟨k₀, hk₀⟩ := he
  have hr := root_range h1 (m := 0) (fun k => by linarith [hm k]) k₀ (by linarith)
  refine ⟨τ, h1, by linarith [hr.1], h2, fun k => ?_⟩
  unfold refOut
  rw [max_at, sub_at, num_at, lit_zero, bcWide (by norm_num), h2]
  rcases less_val A r a m hA hm ⟨k₀, hk₀⟩ k with h | ⟨h, hlow⟩ <;> beta_reduce at h
  · rw [h, ← EReal.coe_sub, ← coe_max, max_comm]
  · rw [h, EReal.bot_sub, max_eq_left bot_le, max_eq_right (by linarith [hr.1])]

end Row

/-- A Newton step of a row. -/
theorem step_val (X : FVec Ideal S8192x2048 .f32) (t : FVec Ideal S8192x1 .f32) (r : Fin 8192) (b : ℝ) (x : Fin 2048 → ℝ) (hX : NearTo b x fun k => X (ix2 r k))
    (u : ℝ) (hb : b ≤ u) (ht : t (ix2 r 0) = (u : EReal)) (hc : cnt x u ≠ 0) : step X t (ix2 r 0) = (nxt x u : EReal) := by
  have hg : ∀ k, (cmpf .ogt X (broadcastInDim S8192x2048 ![0, 1] bcast_S8192x1_S8192x2048_0_1 t) : IVec S8192x2048 1) (ix2 r k) = BitVec.ofBool (decide (u < x k)) := by
    intro k
    rw [gt_at, bcWide (by norm_num), ht, gt_def]
    rcases hX k with h | ⟨h, hlow⟩ <;> beta_reduce at h <;> rw [h]
    · simp only [EReal.coe_lt_coe_iff]
    · rw [decide_eq_false not_lt_bot, decide_eq_false (by linarith)]
  have h1 := rowSum (fn_where_1 (cmpf .ogt X (broadcastInDim S8192x2048 ![0, 1] bcast_S8192x1_S8192x2048_0_1 t)) X (constant S_ .f32 0x00000000#32))
    (constant S_ .f32 0x00000000#32) (fun _ => lit_zero) reducesTo_S8192x2048_S8192_d1 h_S_ r (fun k => if u < x k then x k else 0) (fun k => by
      unfold fn_where_1 id
      dsimp only
      rw [sel_at, hg, sel_of, num_at, lit_zero]
      rcases hX k with h | ⟨h, hlow⟩ <;> beta_reduce at h
      · rw [h]; split <;> rfl
      · rw [if_neg (by linarith), if_neg (by linarith)])
  have h2 := rowSum (fn_where (cmpf .ogt X (broadcastInDim S8192x2048 ![0, 1] bcast_S8192x1_S8192x2048_0_1 t)) (constant S_ .f32 0x3F800000#32) (constant S_ .f32 0x00000000#32))
    (constant S_ .f32 0x00000000#32) (fun _ => lit_zero) reducesTo_S8192x2048_S8192_d1 h_S_ r (fun k => if u < x k then 1 else 0) (fun k => by
      unfold fn_where
      dsimp only
      rw [sel_at, hg, sel_of, num_at, lit_one, num_at, lit_zero]; split <;> rfl)
  unfold step
  rw [div_at, sub_at, bcCol (by norm_num), bcCol (by norm_num), num_at, lit_one, h1, h2, ← EReal.coe_sub]
  exact div_real hc

end Cert.Proof
-- ==== Proof.Edge.lean ====
/-
  The group in a lane whose row holds +∞, and at an entry that is −∞: both come to nothing.

  With +∞ the greatest entry, no bound is found: the first bound stays +∞. The first step from it counts nothing and gives
  −∞. The second counts every entry but −∞ and gives +∞, which no entry passes.
-/
module

public import proofs.«01_k».proof.Proof.LaneVal

@[expose] public section

noncomputable section

namespace Cert.Proof

open Cert.KernelIdeal Cert.KernelIdeal.Gen
open Idealize.ShloMosaic

variable (l : S16.Idx)

/-- Less than +∞, nothing is left. -/
theorem sub_top' (x : EReal) : x - ⊤ = ⊥ := by rw [sub_eq_add_neg, EReal.neg_top, EReal.add_bot]

theorem clamp_bot : (IntOp.minsi 255#32 (IntOp.maxsi 0#32 (Ideal.fptosi 32 (⊥ : EReal)))).toNat = 0 := by
  unfold Ideal.fptosi Ideal.toIntClamped
  simp
  decide

section Hist
variable (m : FVec Ideal S16 .f32) (X : ℕ → FVec Ideal S16 .f32) (hm : m l = (⊤ : EReal))

include hm in
/-- An entry that is +∞ goes to the first bucket. -/
theorem place_top {k : ℕ} (hx : X k l = (⊤ : EReal)) :
    k0_pay18 m (X k) l = 1#1 ∧ (k0_pay19 k0_pay2 m (X k) l).toNat = 256 * (l 0).val := by
  have hl := lane_lt l
  have he : k0_pay17 m (X k) l = (⊥ : EReal) := by
    show (m l - X k l) * Ideal.ofBits .f32 0x43800000#32 = _
    rw [hx, sub_top', lit_256, EReal.bot_mul_coe_of_pos (by norm_num)]
  constructor
  · show BitVec.ofBool (decide (k0_pay17 m (X k) l < Ideal.ofBits .f32 0x43800000#32)) = 1#1
    rw [ofBool_one, decide_eq_true_iff, he, lit_256]
    exact EReal.bot_lt_coe _
  · have h := clamp_le (Ideal.fptosi 32 (k0_pay17 m (X k) l))
    show (k0_pay2 l + IntOp.minsi 255#32 (IntOp.maxsi 0#32 (Ideal.fptosi 32 (k0_pay17 m (X k) l)))).toNat = _
    rw [BitVec.toNat_add, lanes_val, he, clamp_bot]
    omega

/-- A count is a real, and not negative. -/
theorem hC_real (i : S4096.Idx) : ∀ n, ∃ c : ℝ, 0 ≤ c ∧ hC m X n i = (c : EReal)
  | 0 => ⟨0, le_rfl, lit_zero⟩
  | n + 1 => by
    obtain ⟨c, h0, hc⟩ := hC_real i n
    unfold hC laneStore
    split
    · refine ⟨c + 1, by linarith, ?_⟩
      rw [EReal.coe_add, ← hc, ← lit_one]; rfl
    · exact ⟨c, h0, hc⟩

include hm in
theorem hC_first : ∀ n, (∃ k < n, X k l = (⊤ : EReal)) → ∃ c : ℝ, 1 ≤ c ∧ lane 256 (hC m X n) 0 l = (c : EReal)
  | 0, ⟨_, hk, _⟩ => absurd hk (Nat.not_lt_zero _)
  | n + 1, ⟨k, hk, hx⟩ => by
    have hl := lane_lt l
    have hi : ((ix 4096 (256 * (l 0).val + 0)) 0).val = 256 * (l 0).val := by rw [ix_val]; omega
    have h16 : ix 16 (((ix 4096 (256 * (l 0).val + 0)) 0).val / 256) = l := by
      refine (idx_eq_ix l ?_).symm
      rw [hi]; omega
    obtain ⟨c', h0, hc'⟩ := hC_real m X (ix 4096 (256 * (l 0).val + 0)) n
    by_cases h : X n l = (⊤ : EReal)
    · have hp := place_top l m X hm h
      refine ⟨c' + 1, by linarith, ?_⟩
      unfold lane hC laneStore
      rw [h16, hi, if_pos hp, EReal.coe_add, ← hc', ← lit_one]; rfl
    · have hkn : k < n := by
        rcases Nat.lt_succ_iff_lt_or_eq.mp hk with h' | rfl
        · exact h'
        · exact absurd hx h
      obtain ⟨c, h1, hc⟩ := hC_first n ⟨k, hkn, hx⟩
      unfold lane at hc ⊢
      unfold hC laneStore
      split
      · refine ⟨c + 1, by linarith, ?_⟩
        rw [EReal.coe_add, ← hc, ← lit_one]; rfl
      · exact ⟨c, h1, hc⟩

end Hist

section Scan
variable (m : FVec Ideal S16 .f32) (C H : S4096.Idx → Ideal .f32) (hm : m l = (⊤ : EReal))
  (hC : ∀ b, ∃ c : ℝ, 0 ≤ c ∧ lane 256 C b l = (c : EReal)) (h0 : ∃ c : ℝ, 1 ≤ c ∧ lane 256 C 0 l = (c : EReal))

include hm hC h0 in
/-- No bound is found below +∞. -/
theorem scan_top : ∀ n, (scanAt m C H n).1 l = (⊤ : EReal)
    ∧ (∃ c : ℝ, 0 ≤ c ∧ (0 < n → 1 ≤ c) ∧ (scanAt m C H n).2.1 l = (c : EReal))
    ∧ (scanAt m C H n).2.2.2.1 l = ((1 : ℝ) : EReal) ∧ (scanAt m C H n).2.2.2.2.1 l = (⊤ : EReal)
  | 0 => by
    refine ⟨?_, ⟨0, le_rfl, fun h => absurd h (lt_irrefl _), lit_zero⟩, lit_one, hm⟩
    show m l - Ideal.ofBits .f32 0x3B800000#32 = _
    rw [hm, lit_step, EReal.top_sub_coe]
  | n + 1 => by
    obtain ⟨h1, ⟨c, hc0, hc1, h2⟩, h4, h5⟩ := scan_top n
    have hd : scanAt m C H (n + 1) = scanStep C H n (scanAt m C H n) := rfl
    rw [hd]
    generalize scanAt m C H n = p at h1 h2 h4 h5
    obtain ⟨d, hd0, hd1, hK⟩ : ∃ d : ℝ, 0 ≤ d ∧ 1 ≤ d ∧ p.2.1 l + lane 256 C n l = (d : EReal) := by
      rcases Nat.eq_zero_or_pos n with rfl | hn
      · obtain ⟨e, he, hE⟩ := h0
        exact ⟨c + e, by linarith, by linarith, by rw [h2, hE, EReal.coe_add]⟩
      · obtain ⟨e, he, hE⟩ := hC n
        exact ⟨c + e, by linarith, by linarith [hc1 hn], by rw [h2, hE, EReal.coe_add]⟩
    have hw : (BitVec.ofBool (decide (Ideal.ofBits .f32 0x3F800000#32 ≤ (p.2.2.1 l + lane 256 H n l) - p.1 l * (p.2.1 l + lane 256 C n l)))) = 0#1 := by
      have : ¬ (Ideal.ofBits .f32 0x3F800000#32 ≤ (p.2.2.1 l + lane 256 H n l) - p.1 l * (p.2.1 l + lane 256 C n l)) := by
        rw [hK, h1, EReal.top_mul_coe_of_pos (by linarith), sub_top', lit_one, le_bot_iff]
        exact EReal.coe_ne_bot _
      rw [decide_eq_false this]; rfl
    have e4 : (scanStep C H n p).2.2.2.1 l = if (BitVec.ofBool (decide (Ideal.ofBits .f32 0x3F800000#32 ≤ (p.2.2.1 l + lane 256 H n l) - p.1 l * (p.2.1 l + lane 256 C n l)))) &&& (p.2.2.2.2.2 l ^^^ 1#1) = 1#1 then p.2.1 l + lane 256 C n l else p.2.2.2.1 l := rfl
    have e5 : (scanStep C H n p).2.2.2.2.1 l = if (BitVec.ofBool (decide (Ideal.ofBits .f32 0x3F800000#32 ≤ (p.2.2.1 l + lane 256 H n l) - p.1 l * (p.2.1 l + lane 256 C n l)))) &&& (p.2.2.2.2.2 l ^^^ 1#1) = 1#1 then p.2.2.1 l + lane 256 H n l else p.2.2.2.2.1 l := rfl
    have hz : ∀ w : BitVec 1, ¬ (0#1 &&& w = 1#1) := by decide
    refine ⟨?_, ⟨d, hd0, fun _ => hd1, hK⟩, ?_, ?_⟩
    · show p.1 l - Ideal.ofBits .f32 0x3B800000#32 = _
      rw [h1, lit_step, EReal.top_sub_coe]
    · rw [e4, hw, if_neg (hz _), h4]
    · rw [e5, hw, if_neg (hz _), h5]

end Scan

/-- A count and a sum over entries none of which is −∞, and one of which, if `p`, is +∞. -/
def Both (k s : EReal) (p : Prop) : Prop := (∃ c : ℝ, 0 ≤ c ∧ (p → 1 ≤ c) ∧ k = (c : EReal)) ∧ s ≠ ⊥ ∧ (p → s = ⊤)

theorem Both.add {k s k' s' : EReal} {p q : Prop} : Both k s p → Both k' s' q → Both (k + k') (s + s') (p ∨ q) := by
  rintro ⟨⟨c, h0, h1, rfl⟩, hb, ht⟩ ⟨⟨c', h0', h1', rfl⟩, hb', ht'⟩
  refine ⟨⟨c + c', by linarith, ?_, (EReal.coe_add _ _).symm⟩, EReal.add_ne_bot_iff.mpr ⟨hb, hb'⟩, ?_⟩
  · rintro (h | h)
    · linarith [h1 h]
    · linarith [h1' h]
  · rintro (h | h)
    · rw [ht h, EReal.top_add_of_ne_bot hb']
    · rw [ht' h, EReal.add_top_of_ne_bot hb]

section Next
variable (t : FVec Ideal S16 .f32) (X : ℕ → FVec Ideal S16 .f32)

theorem kAt_top (ht : t l = (⊤ : EReal)) (u : ℕ) : ∀ n, kAt t X u n l = ((0 : ℝ) : EReal)
  | 0 => lit_zero
  | n + 1 => by
    have e : kAt t X u (n + 1) l = kAt t X u n l + (if BitVec.ofBool (decide (t l < X (8 * n + u) l)) = 1#1 then Ideal.ofBits .f32 0x3F800000#32 else Ideal.ofBits .f32 0x00000000#32) := rfl
    rw [e, kAt_top ht u n, ht, if_neg (by rw [ofBool_one, decide_eq_true_iff]; exact not_top_lt), lit_zero, ← EReal.coe_add, add_zero]

theorem sAt_top (ht : t l = (⊤ : EReal)) (u : ℕ) : ∀ n, sAt t X u n l = ((0 : ℝ) : EReal)
  | 0 => lit_zero
  | n + 1 => by
    have e : sAt t X u (n + 1) l = sAt t X u n l + (if BitVec.ofBool (decide (t l < X (8 * n + u) l)) = 1#1 then X (8 * n + u) l else Ideal.ofBits .f32 0x00000000#32) := rfl
    rw [e, sAt_top ht u n, ht, if_neg (by rw [ofBool_one, decide_eq_true_iff]; exact not_top_lt), lit_zero, ← EReal.coe_add, add_zero]

theorem both_at (ht : t l = (⊥ : EReal)) (u : ℕ) : ∀ n, Both (kAt t X u n l) (sAt t X u n l) (∃ i < n, X (8 * i + u) l = (⊤ : EReal))
  | 0 => ⟨⟨0, le_rfl, fun ⟨_, h, _⟩ => absurd h (Nat.not_lt_zero _), lit_zero⟩, by
      show Ideal.ofBits .f32 0x00000000#32 ≠ ⊥
      rw [lit_zero]; exact EReal.coe_ne_bot _, fun ⟨_, h, _⟩ => absurd h (Nat.not_lt_zero _)⟩
  | n + 1 => by
    have ih := both_at ht u n
    have ek : kAt t X u (n + 1) l = kAt t X u n l + (if BitVec.ofBool (decide (t l < X (8 * n + u) l)) = 1#1 then Ideal.ofBits .f32 0x3F800000#32 else Ideal.ofBits .f32 0x00000000#32) := rfl
    have es : sAt t X u (n + 1) l = sAt t X u n l + (if BitVec.ofBool (decide (t l < X (8 * n + u) l)) = 1#1 then X (8 * n + u) l else Ideal.ofBits .f32 0x00000000#32) := rfl
    have hp : (∃ i < n + 1, X (8 * i + u) l = (⊤ : EReal)) ↔ ((∃ i < n, X (8 * i + u) l = (⊤ : EReal)) ∨ X (8 * n + u) l = (⊤ : EReal)) := by
      constructor
      · rintro ⟨i, hi, hx⟩
        rcases Nat.lt_succ_iff_lt_or_eq.mp hi with h | rfl
        · exact .inl ⟨i, h, hx⟩
        · exact .inr hx
      · rintro (⟨i, hi, hx⟩ | hx)
        · exact ⟨i, by omega, hx⟩
        · exact ⟨n, by omega, hx⟩
    rw [ek, es, propext hp]
    refine ih.add ?_
    rw [ht]
    by_cases h : X (8 * n + u) l = (⊥ : EReal)
    · have hn : ¬ BitVec.ofBool (decide ((⊥ : EReal) < X (8 * n + u) l)) = 1#1 := by
        rw [ofBool_one, decide_eq_true_iff, h]; exact lt_irrefl _
      have hne : ¬ X (8 * n + u) l = (⊤ : EReal) := by rw [h]; exact bot_ne_top
      rw [if_neg hn, if_neg hn, lit_zero]
      exact ⟨⟨0, le_rfl, fun h' => absurd h' hne, rfl⟩, EReal.coe_ne_bot _, fun h' => absurd h' hne⟩
    · have hn : BitVec.ofBool (decide ((⊥ : EReal) < X (8 * n + u) l)) = 1#1 := by
        rw [ofBool_one, decide_eq_true_iff]; exact bot_lt_iff_ne_bot.mpr h
      rw [if_pos hn, if_pos hn, lit_one]
      exact ⟨⟨1, by norm_num, fun _ => le_rfl, rfl⟩, h, id⟩

theorem next_eq : nextOf t X l = Ideal.div
      ((sAt t X 0 256 l + sAt t X 1 256 l + sAt t X 2 256 l + sAt t X 3 256 l + sAt t X 4 256 l + sAt t X 5 256 l + sAt t X 6 256 l + sAt t X 7 256 l) - Ideal.ofBits .f32 0x3F800000#32)
      (kAt t X 0 256 l + kAt t X 1 256 l + kAt t X 2 256 l + kAt t X 3 256 l + kAt t X 4 256 l + kAt t X 5 256 l + kAt t X 6 256 l + kAt t X 7 256 l) := by
  exact rfl

/-- The step from +∞. -/
theorem next_top (ht : t l = (⊤ : EReal)) : nextOf t X l = (⊥ : EReal) := by
  rw [next_eq]
  simp only [kAt_top l t X ht, sAt_top l t X ht, lit_one, ← EReal.coe_add, ← EReal.coe_sub]
  unfold Ideal.div
  rw [if_pos (by norm_num), if_neg (by norm_num)]

theorem div_top {c : ℝ} (hc : 1 ≤ c) : Ideal.div (⊤ - ((1 : ℝ) : EReal)) (c : EReal) = ⊤ := by
  rw [EReal.top_sub_coe, Ideal.div_coe (by linarith), EReal.top_mul_coe_of_pos (by positivity)]

/-- The step from −∞, in a row that holds +∞. -/
theorem next_bot (ht : t l = (⊥ : EReal)) (hx : ∃ k < 2048, X k l = (⊤ : EReal)) : nextOf t X l = (⊤ : EReal) := by
  have hb := fun u => both_at l t X ht u 256
  obtain ⟨⟨c, h0, h1, hc⟩, -, hs⟩ := (((((((hb 0).add (hb 1)).add (hb 2)).add (hb 3)).add (hb 4)).add (hb 5)).add (hb 6)).add (hb 7)
  obtain ⟨k, hk, hx⟩ := hx
  have hp : ∀ u, u = k % 8 → ∃ i < 256, X (8 * i + u) l = (⊤ : EReal) := fun u hu => ⟨k / 8, by omega, by rw [hu, Nat.div_add_mod]; exact hx⟩
  have hin : (((((((∃ i < 256, X (8 * i + 0) l = (⊤ : EReal)) ∨ ∃ i < 256, X (8 * i + 1) l = (⊤ : EReal)) ∨ ∃ i < 256, X (8 * i + 2) l = (⊤ : EReal))
      ∨ ∃ i < 256, X (8 * i + 3) l = (⊤ : EReal)) ∨ ∃ i < 256, X (8 * i + 4) l = (⊤ : EReal)) ∨ ∃ i < 256, X (8 * i + 5) l = (⊤ : EReal))
      ∨ ∃ i < 256, X (8 * i + 6) l = (⊤ : EReal)) ∨ ∃ i < 256, X (8 * i + 7) l = (⊤ : EReal) := by
    have : k % 8 < 8 := Nat.mod_lt _ (by norm_num)
    rcases (by omega : k % 8 = 0 ∨ k % 8 = 1 ∨ k % 8 = 2 ∨ k % 8 = 3 ∨ k % 8 = 4 ∨ k % 8 = 5 ∨ k % 8 = 6 ∨ k % 8 = 7) with h | h | h | h | h | h | h | h
    · exact .inl (.inl (.inl (.inl (.inl (.inl (.inl (hp 0 h.symm)))))))
    · exact .inl (.inl (.inl (.inl (.inl (.inl (.inr (hp 1 h.symm)))))))
    · exact .inl (.inl (.inl (.inl (.inl (.inr (hp 2 h.symm))))))
    · exact .inl (.inl (.inl (.inl (.inr (hp 3 h.symm)))))
    · exact .inl (.inl (.inl (.inr (hp 4 h.symm))))
    · exact .inl (.inl (.inr (hp 5 h.symm)))
    · exact .inl (.inr (hp 6 h.symm))
    · exact .inr (hp 7 h.symm)
  rw [next_eq, hs hin, hc, lit_one]
  exact div_top (h1 hin)

end Next

section Whole
variable (A : S32768.Idx → Ideal .f32)

theorem gOut_eq {j : ℕ} (hj : j < 2048) : gOut A (ix 32768 (2048 * (l 0).val + j)) = max (lane 2048 A j l - tauOf A l : EReal) ((0 : ℝ) : EReal) := by
  have hl := lane_lt l
  have hi : ((ix 32768 (2048 * (l 0).val + j)) 0).val = 2048 * (l 0).val + j := by rw [ix_val]; omega
  have h1 : ((ix 32768 (2048 * (l 0).val + j)) 0).val % 2048 = j := by rw [hi]; omega
  have h2 : ix 16 (((ix 32768 (2048 * (l 0).val + j)) 0).val / 2048) = l := by
    refine (idx_eq_ix l ?_).symm
    rw [hi]; omega
  unfold gOut
  rw [h1, h2, ← row_tr A hj, ← lit_zero]
  rfl

/-- An entry that is −∞. -/
theorem gOut_bot {j : ℕ} (hj : j < 2048) (h : lane 2048 A j l = (⊥ : EReal)) : gOut A (ix 32768 (2048 * (l 0).val + j)) = ((0 : ℝ) : EReal) := by
  rw [gOut_eq l A hj, h, EReal.bot_sub, max_eq_right bot_le]

/-- A row that holds +∞. -/
theorem gOut_top (h : ∃ k < 2048, lane 2048 A k l = (⊤ : EReal)) {j : ℕ} (hj : j < 2048) : gOut A (ix 32768 (2048 * (l 0).val + j)) = ((0 : ℝ) : EReal) := by
  have hX : ∃ k < 2048, row (tr A) k l = (⊤ : EReal) := by
    obtain ⟨k, hk, h⟩ := h
    exact ⟨k, hk, by rw [row_tr A hk, h]⟩
  have hm : mxOf A l = (⊤ : EReal) := by
    obtain ⟨k, hk, h⟩ := h
    have := (mx_sup l A (fun k => lane 2048 A k l) (fun _ _ => rfl)).1 k hk
    beta_reduce at this
    rw [h] at this
    exact top_le_iff.mp this
  obtain ⟨-, -, hK, hS⟩ := scan_top l (mxOf A) (hC (mxOf A) (row (tr A)) 2048) (hS (mxOf A) (row (tr A)) 2048) hm
    (fun b => hC_real (mxOf A) (row (tr A)) (ix 4096 (256 * (l 0).val + b)) 2048) (hC_first l (mxOf A) (row (tr A)) hm 2048 hX) 256
  have h1 : t1Of A l = (⊤ : EReal) := by
    have e : t1Of A l = Ideal.div ((scOf A).2.2.2.2.1 l - Ideal.ofBits .f32 0x3F800000#32) ((scOf A).2.2.2.1 l) := rfl
    rw [e]
    unfold scOf
    rw [hK, hS, lit_one]
    exact div_top le_rfl
  have ht : tauOf A l = (⊤ : EReal) := next_bot l _ (row (tr A)) (next_top l (t1Of A) (row (tr A)) h1) hX
  rw [gOut_eq l A hj, ht, sub_top', max_eq_right bot_le]

end Whole

end Cert.Proof

end
-- ==== Proof.Value.lean ====
/-
  The kernel's result is the reference's: the precondition read in a row, the places of a row in the flat arrays, and
  the two runs side by side.
-/
module

public import proofs.«01_k».proof.Proof.RefVal
public import proofs.«01_k».proof.Proof.Edge
public import proofs.«01_k».proof.Proof.Launch
public import proofs.«01_k».proof.Defs

@[expose] public section

set_option maxRecDepth 10000

noncomputable section

namespace Cert.Proof

open Idealize.ShloMosaic Idealize.SL.Sem
open Cert.KernelIdeal Cert.KernelIdeal.Gen

theorem bit_or (x y : BitVec 1) : IntOp.ori x y = 1#1 → x = 1#1 ∨ y = 1#1 := by
  revert x y; decide

section At
variable {s : Shape}

theorem or_at (x y : IVec s 1) (i : s.Idx) : (ori x y) i = IntOp.ori (x i) (y i) := rfl
theorem le_at (x y : FVec Ideal s .f32) (i : s.Idx) : (cmpf .ole x y) i = BitVec.ofBool (decide ((x i : EReal) ≤ (y i : EReal))) := rfl
theorem ge_at (x y : FVec Ideal s .f32) (i : s.Idx) : (cmpf .oge x y) i = BitVec.ofBool (decide ((y i : EReal) ≤ (x i : EReal))) := rfl

end At

/-- The family of reals that stands for a row whose greatest entry is a real. -/
theorem stand_in (V : Fin 2048 → EReal) (m : ℝ) (hm : ∀ k, V k ≤ m) (he : ∃ k, V k = m) :
    ∃ a : Fin 2048 → ℝ, NearTo (m - 2) a V ∧ (∀ k k', V k ≤ V k' → a k ≤ a k') ∧ (∀ k, a k ≤ m) ∧ ∃ k, a k = m := by
  obtain ⟨k₁, hk₁⟩ := Finite.exists_min fun k => (V k).toReal
  let L : ℝ := min (m - 2) (V k₁).toReal
  let a : Fin 2048 → ℝ := fun k => if V k = ⊥ then L else (V k).toReal
  have hb : ∀ k, V k = ⊥ → a k = L := fun k h => if_pos h
  have hr : ∀ k, V k ≠ ⊥ → a k = (V k).toReal ∧ V k = ((V k).toReal : EReal) := fun k h =>
    ⟨if_neg h, (EReal.coe_toReal (fun ht => by have := hm k; rw [ht, top_le_iff] at this; exact EReal.coe_ne_top _ this) h).symm⟩
  have hL : ∀ k, L ≤ (V k).toReal := fun k => (min_le_right _ _).trans (hk₁ k)
  refine ⟨a, fun k => ?_, fun k k' h => ?_, fun k => ?_, ?_⟩
  · by_cases h : V k = ⊥
    · exact .inr ⟨h, (hb k h).le.trans (min_le_left _ _)⟩
    · exact .inl ((hr k h).2.trans (by rw [(hr k h).1]))
  · by_cases h1 : V k = ⊥
    · rw [hb k h1]
      by_cases h2 : V k' = ⊥
      · rw [hb k' h2]
      · rw [(hr k' h2).1]; exact hL k'
    · have h2 : V k' ≠ ⊥ := fun h2 => h1 (le_bot_iff.mp (h2 ▸ h))
      rw [(hr k h1).2, (hr k' h2).2, EReal.coe_le_coe_iff] at h
      rw [(hr k h1).1, (hr k' h2).1]; exact h
  · by_cases h : V k = ⊥
    · rw [hb k h]; exact (min_le_left _ _).trans (by linarith)
    · have := hm k
      rw [(hr k h).2, EReal.coe_le_coe_iff] at this
      rw [(hr k h).1]; exact this
  · obtain ⟨k, hk⟩ := he
    have h : V k ≠ ⊥ := fun h => EReal.coe_ne_bot _ (hk.symm.trans h)
    exact ⟨k, by rw [(hr k h).1, hk, EReal.toReal_coe]⟩

/-- A row that meets the precondition and whose greatest entry is a real, and what the reference makes of it. -/
theorem row_facts (A : FVec Ideal S8192x2048 .f32) (hp : Cert.Pre_settles.fn A = fun _ => 1#1) (r : Fin 8192)
    (a : Fin 2048 → ℝ) (m : ℝ) (hA : NearTo (m - 2) a fun k => A (ix2 r k)) (hmono : ∀ k k', (A (ix2 r k) : EReal) ≤ A (ix2 r k') → a k ≤ a k')
    (hm : ∀ k, a k ≤ m) (he : ∃ k, a k = m) :
    ∃ τ : ℝ, exc a τ = 1 ∧ (∀ k, a k ≤ nxt a (nxt a (τ - 1 / 256)) ∨ τ ≤ a k) ∧ ∀ k, refOut A (ix2 r k) = ((max (a k - τ) 0 : ℝ) : EReal) := by
  rw [pre_eq] at hp
  have hq : ∀ k, _ := fun k : Fin 2048 => congrFun hp (ix2 r k)
  obtain ⟨τ, hτ, hτ1, hcut, hout⟩ := refOut_val A r a m hA hmono hm he
  let x : Fin 2048 → ℝ := fun k => a k - m
  have hx : NearTo (-2) x fun k => less A (ix2 r k) := less_val A r a m hA hm he
  have hl0 : τ - 1 / 256 ≤ τ := by linarith
  have hl1 := nxt_le (x := x) hτ hl0
  have hg0 := le_nxt (x := x) hτ hl0
  have hg1 := le_nxt (x := x) hτ hl1
  have hc0 := (cnt_pos_of_le (x := x) hτ hl0).ne'
  have hc1 := (cnt_pos_of_le (x := x) hτ hl1).ne'
  have ht0 : (subf (cut A) (broadcastInDim Cert.Pre_settles.S8192x1 ![] Cert.Pre_settles.Gen.bcast_S_S8192x1 (constant S_ .f32 0x3B800000#32))) (ix2 r 0) = ((τ - 1 / 256 : ℝ) : EReal) := by
    rw [sub_at, num_at, lit_step, hcut, ← EReal.coe_sub]
  have ht1 := step_val (less A) _ r (-2) x hx _ (by linarith) ht0 hc0
  have ht2 := step_val (less A) _ r (-2) x hx _ (by linarith) ht1 hc1
  refine ⟨τ + m, (exc_shift (x := a) m τ).symm.trans hτ, fun k => ?_, fun k => ?_⟩
  · have h := hq k
    rw [or_at] at h
    have e1 := nxt_shift (x := a) m (τ - 1 / 256) (by rw [← cnt_shift]; exact hc0)
    have e2 := nxt_shift (x := a) m (nxt x (τ - 1 / 256)) (by rw [← cnt_shift]; exact hc1)
    have e3 : τ + m - 1 / 256 = τ - 1 / 256 + m := by ring
    rw [e3, show nxt a (τ - 1 / 256 + m) = nxt x (τ - 1 / 256) + m by rw [show nxt x _ = _ from e1]; ring,
      show nxt a (nxt x (τ - 1 / 256) + m) = nxt x (nxt x (τ - 1 / 256)) + m by rw [show nxt x (nxt x (τ - 1 / 256)) = _ from e2]; ring]
    rcases hx k with hk | ⟨-, hlow⟩ <;> [beta_reduce at hk; skip]
    · rcases bit_or _ _ h with h | h
      · rw [le_at, ofBool_one, decide_eq_true_eq, bcWide (by norm_num), ht2, hk, EReal.coe_le_coe_iff] at h
        left; simp only [x] at h; linarith
      · rw [ge_at, ofBool_one, decide_eq_true_eq, bcWide (by norm_num), hcut, hk, EReal.coe_le_coe_iff] at h
        right; simp only [x] at h; linarith
    · left; simp only [x] at hlow; linarith
  · rw [hout, sub_sub, add_comm m]

section Places
variable (m : (ℓ : Loc nD τ sig) → Buf (Elt Ideal) ℓ) (c : Dev nD)

/-- The flat argument, word by word. -/
theorem flat_at (r : Fin 8192) (k : Fin 2048) : flat m c (ix 16777216 (2048 * r.val + k.val)) = (m (aLoc c) : FVec Ideal S8192x2048 .f32) (ix2 r k) := by
  have h : flat m c = shapeCast S16777216 (V0 m c a' : FVec Ideal S8192x2048 .f32) shapeCasts_S8192x2048_S16777216 := by
    unfold flat V1
    refine (StableHlo.reshape_result main_arg0 main_v0 rfl shapeCasts_S8192x2048_S16777216 _ _ (V0 m c)).trans ?_
    rfl
  have h0 : (V0 m c a' : FVec Ideal S8192x2048 .f32) = m (aLoc c) := rfl
  rw [h, h0]
  refine congrArg (m (aLoc c) : FVec Ideal S8192x2048 .f32) (Shape.reshapeEquiv_eq_of_rowMajor (s := S8192x2048) _ ?_)
  rw [Shape.rowMajor_val_two, Shape.rowMajor_val_one]
  show r.val * 2048 + k.val = (2048 * r.val + k.val) % 16777216
  have := r.isLt; have := k.isLt
  omega

/-- The result, from the flat one. -/
theorem out_at (r : Fin 8192) (k : Fin 2048) : (V3 m c r' : FVec Ideal S8192x2048 .f32) (ix2 r k) = kOut (flat m c) (ix 16777216 (2048 * r.val + k.val)) := by
  have h : (V3 m c r' : FVec Ideal S8192x2048 .f32) = shapeCast S8192x2048 (kOut (flat m c)) shapeCasts_S16777216_S8192x2048 := by
    rw [← V2_o]
    exact StableHlo.reshape_result main_v1 main_v2 rfl shapeCasts_S16777216_S8192x2048 _ _ (V2 m c)
  rw [h]
  refine congrArg (kOut (flat m c)) (Shape.reshapeEquiv_eq_of_rowMajor _ ?_)
  rw [Shape.rowMajor_val_two, Shape.rowMajor_val_one]
  show (2048 * r.val + k.val) % 16777216 = r.val * 2048 + k.val
  have := r.isLt; have := k.isLt
  omega

/-- Under the precondition the two results are one array. -/
theorem out_eq (hp : Cert.Pre_settles.fn (F := Ideal) (m (aLoc c)) = fun _ => 1#1) :
    (V3 m c r' : FVec Ideal S8192x2048 .f32) = refOut (m (aLoc c)) := by
  funext p
  obtain ⟨r, k, rfl⟩ : ∃ (r : Fin 8192) (k : Fin 2048), p = ix2 r k := ⟨p 0, p 1, eq_ix2 p⟩
  have hr := r.isLt
  have hk := k.isLt
  let V : Fin 2048 → EReal := fun n => (m (aLoc c) : FVec Ideal S8192x2048 .f32) (ix2 r n)
  let l : S16.Idx := ix 16 (r.val % 16)
  have hl : (l 0).val = r.val % 16 := by show r.val % 16 % 16 = _; omega
  have hX : ∀ n (hn : n < 2048), lane 2048 (blk (flat m c) (r.val / 16)) n l = V ⟨n, hn⟩ := by
    intro n hn
    have e : 32768 * (r.val / 16) + (2048 * (l 0).val + n) % 32768 = 2048 * r.val + n := by rw [hl]; omega
    show flat m c (ix 16777216 (32768 * (r.val / 16) + (2048 * (l 0).val + n) % 32768)) = _
    rw [e]
    exact flat_at m c r ⟨n, hn⟩
  have hv : ((ix 16777216 (2048 * r.val + k.val)) 0).val = 2048 * r.val + k.val := by rw [ix_val]; omega
  have e1 : (2048 * r.val + k.val) / 32768 = r.val / 16 := by omega
  have e2 : (2048 * r.val + k.val) % 32768 = 2048 * (l 0).val + k.val := by rw [hl]; omega
  have ho : (V3 m c r' : FVec Ideal S8192x2048 .f32) (ix2 r k) = gOut (blk (flat m c) (r.val / 16)) (ix 32768 (2048 * (l 0).val + k.val)) := by
    rw [out_at]
    unfold kOut
    rw [hv, e1, e2]
  rw [ho]
  obtain ⟨k₀, hk₀⟩ := Finite.exists_max V
  have hedge := refOut_edge (m (aLoc c)) r (V k₀) hk₀ ⟨k₀, rfl⟩
  by_cases hbot : V k₀ = ⊥
  · rw [hedge (.inl hbot) k]
    refine gOut_bot l _ hk ((hX k.val hk).trans ?_)
    have := hk₀ k
    rw [hbot, le_bot_iff] at this
    exact this
  by_cases htop : V k₀ = ⊤
  · rw [hedge (.inr htop) k]
    exact gOut_top l _ ⟨k₀.val, k₀.isLt, (hX k₀.val k₀.isLt).trans htop⟩ hk
  have hM : V k₀ = ((V k₀).toReal : EReal) := (EReal.coe_toReal htop hbot).symm
  generalize (V k₀).toReal = M at hM
  obtain ⟨a, hA, hmono, hm, he⟩ := stand_in V M (fun k => hM ▸ hk₀ k) ⟨k₀, hM⟩
  obtain ⟨τ, hτ, hn, hout⟩ := row_facts (m (aLoc c)) hp r a M hA hmono hm he
  let b : ℕ → ℝ := fun n => if h : n < 2048 then a ⟨n, h⟩ else 0
  have hb : fam b = a := funext fun i => dif_pos i.isLt
  have hbk : ∀ n (hn : n < 2048), b n = a ⟨n, hn⟩ := fun n hn => dif_pos hn
  have h := gOut_val l b (blk (flat m c) (r.val / 16)) M (fun n hn => by
      beta_reduce
      rw [hX n hn, hbk n hn]; exact hA ⟨n, hn⟩) (fun n hn => by rw [hbk n hn]; exact hm _)
    (by obtain ⟨k, hk⟩ := he; exact ⟨k.val, k.isLt, by rw [hbk _ k.isLt]; exact hk⟩)
    (τ := τ) (by rw [hb]; exact hτ) (by rw [hb]; exact hn) hk
  rw [h, hout, hbk k.val hk]

end Places

/-- The kernel returns what the reference returns. -/
theorem algebraic : algebraic_KernelIdeal_ReferenceIdeal_pre_settles := by
  intro m g m' g' hp ha
  refine ⟨fun c => V3 m c r', ?_, ?_⟩
  · exact (θ_run _ _ _).mono (fun r h c => ⟨(h.1 c).2, (h.1 c).1⟩) (run_main (F := Ideal) m g)
  · refine (θ_run _ _ _).mono (fun r h c => ⟨(h c).1.trans ?_, (h c).2⟩) (Cert.ReferenceIdeal.Value.run (F := Ideal) m' g')
    rw [res_eq, ha c]
    exact (out_eq m c (hp c)).symm

end Cert.Proof
-- ==== Proof.lean ====
module

public import proofs.«01_k».proof.Defs
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_settles.Gen.facts,
  frame_kernel, frame_ideal, frame_ideal_pre, frame_ref, frame_ref_pre, keeps, algebraic⟩

end Cert.Proof

end
